-- ==== Defs.lean ====
def Pre_Kernel (m : (ℓ : Loc Cert.Kernel.nD Cert.Kernel.τ Cert.Kernel.sig) → Buf (Elt Bits) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5)
      ∧ r.2.mem ((c.tc : Thread Cert.PleKernel.nD Cert.PleKernel.τ).loc Cert.PleKernel.main_arg6) = m ((c.tc : Thread Cert.PleKernel.nD Cert.PleKernel.τ).loc Cert.PleKernel.main_arg6)
      ∧ r.2.mem ((c.tc : Thread Cert.PleKernel.nD Cert.PleKernel.τ).loc Cert.PleKernel.main_arg7) = m ((c.tc : Thread Cert.PleKernel.nD Cert.PleKernel.τ).loc Cert.PleKernel.main_arg7)
      ∧ r.2.mem ((c.tc : Thread Cert.PleKernel.nD Cert.PleKernel.τ).loc Cert.PleKernel.main_arg8) = m ((c.tc : Thread Cert.PleKernel.nD Cert.PleKernel.τ).loc Cert.PleKernel.main_arg8))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
      ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6)
      ∧ r.2.mem ((c.tc : Thread Cert.PleKernelIdeal.nD Cert.PleKernelIdeal.τ).loc Cert.PleKernelIdeal.main_arg7) = m ((c.tc : Thread Cert.PleKernelIdeal.nD Cert.PleKernelIdeal.τ).loc Cert.PleKernelIdeal.main_arg7)
      ∧ r.2.mem ((c.tc : Thread Cert.PleKernelIdeal.nD Cert.PleKernelIdeal.τ).loc Cert.PleKernelIdeal.main_arg8) = m ((c.tc : Thread Cert.PleKernelIdeal.nD Cert.PleKernelIdeal.τ).loc Cert.PleKernelIdeal.main_arg8))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6)
      ∧ r.2.mem ((c.tc : Thread Cert.PleReferenceIdeal.nD Cert.PleReferenceIdeal.τ).loc Cert.PleReferenceIdeal.main_arg7) = m ((c.tc : Thread Cert.PleReferenceIdeal.nD Cert.PleReferenceIdeal.τ).loc Cert.PleReferenceIdeal.main_arg7)
      ∧ r.2.mem ((c.tc : Thread Cert.PleReferenceIdeal.nD Cert.PleReferenceIdeal.τ).loc Cert.PleReferenceIdeal.main_arg8) = m ((c.tc : Thread Cert.PleReferenceIdeal.nD Cert.PleReferenceIdeal.τ).loc Cert.PleReferenceIdeal.main_arg8))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2)
      ∧ r.2.mem ((c.tc : Thread Cert.OddKernel.nD Cert.OddKernel.τ).loc Cert.OddKernel.main_arg3) = m ((c.tc : Thread Cert.OddKernel.nD Cert.OddKernel.τ).loc Cert.OddKernel.main_arg3)
      ∧ r.2.mem ((c.tc : Thread Cert.OddKernel.nD Cert.OddKernel.τ).loc Cert.OddKernel.main_arg4) = m ((c.tc : Thread Cert.OddKernel.nD Cert.OddKernel.τ).loc Cert.OddKernel.main_arg4)
      ∧ r.2.mem ((c.tc : Thread Cert.OddKernel.nD Cert.OddKernel.τ).loc Cert.OddKernel.main_arg5) = m ((c.tc : Thread Cert.OddKernel.nD Cert.OddKernel.τ).loc Cert.OddKernel.main_arg5)
      ∧ r.2.mem ((c.tc : Thread Cert.OddKernel.nD Cert.OddKernel.τ).loc Cert.OddKernel.main_arg6) = m ((c.tc : Thread Cert.OddKernel.nD Cert.OddKernel.τ).loc Cert.OddKernel.main_arg6)
      ∧ r.2.mem ((c.tc : Thread Cert.OddKernel.nD Cert.OddKernel.τ).loc Cert.OddKernel.main_arg7) = m ((c.tc : Thread Cert.OddKernel.nD Cert.OddKernel.τ).loc Cert.OddKernel.main_arg7)
      ∧ r.2.mem ((c.tc : Thread Cert.OddKernel.nD Cert.OddKernel.τ).loc Cert.OddKernel.main_arg8) = m ((c.tc : Thread Cert.OddKernel.nD Cert.OddKernel.τ).loc Cert.OddKernel.main_arg8)
      ∧ r.2.mem ((c.tc : Thread Cert.OddKernel.nD Cert.OddKernel.τ).loc Cert.OddKernel.main_arg9) = m ((c.tc : Thread Cert.OddKernel.nD Cert.OddKernel.τ).loc Cert.OddKernel.main_arg9)
      ∧ r.2.mem ((c.tc : Thread Cert.OddKernel.nD Cert.OddKernel.τ).loc Cert.OddKernel.main_arg10) = m ((c.tc : Thread Cert.OddKernel.nD Cert.OddKernel.τ).loc Cert.OddKernel.main_arg10)
      ∧ r.2.mem ((c.tc : Thread Cert.OddKernel.nD Cert.OddKernel.τ).loc Cert.OddKernel.main_arg11) = m ((c.tc : Thread Cert.OddKernel.nD Cert.OddKernel.τ).loc Cert.OddKernel.main_arg11))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
      ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
      ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
      ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
      ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6)
      ∧ r.2.mem ((c.tc : Thread Cert.OddKernelIdeal.nD Cert.OddKernelIdeal.τ).loc Cert.OddKernelIdeal.main_arg7) = m ((c.tc : Thread Cert.OddKernelIdeal.nD Cert.OddKernelIdeal.τ).loc Cert.OddKernelIdeal.main_arg7)
      ∧ r.2.mem ((c.tc : Thread Cert.OddKernelIdeal.nD Cert.OddKernelIdeal.τ).loc Cert.OddKernelIdeal.main_arg8) = m ((c.tc : Thread Cert.OddKernelIdeal.nD Cert.OddKernelIdeal.τ).loc Cert.OddKernelIdeal.main_arg8)
      ∧ r.2.mem ((c.tc : Thread Cert.OddKernelIdeal.nD Cert.OddKernelIdeal.τ).loc Cert.OddKernelIdeal.main_arg9) = m ((c.tc : Thread Cert.OddKernelIdeal.nD Cert.OddKernelIdeal.τ).loc Cert.OddKernelIdeal.main_arg9)
      ∧ r.2.mem ((c.tc : Thread Cert.OddKernelIdeal.nD Cert.OddKernelIdeal.τ).loc Cert.OddKernelIdeal.main_arg10) = m ((c.tc : Thread Cert.OddKernelIdeal.nD Cert.OddKernelIdeal.τ).loc Cert.OddKernelIdeal.main_arg10)
      ∧ r.2.mem ((c.tc : Thread Cert.OddKernelIdeal.nD Cert.OddKernelIdeal.τ).loc Cert.OddKernelIdeal.main_arg11) = m ((c.tc : Thread Cert.OddKernelIdeal.nD Cert.OddKernelIdeal.τ).loc Cert.OddKernelIdeal.main_arg11))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6)
      ∧ r.2.mem ((c.tc : Thread Cert.OddReferenceIdeal.nD Cert.OddReferenceIdeal.τ).loc Cert.OddReferenceIdeal.main_arg7) = m ((c.tc : Thread Cert.OddReferenceIdeal.nD Cert.OddReferenceIdeal.τ).loc Cert.OddReferenceIdeal.main_arg7)
      ∧ r.2.mem ((c.tc : Thread Cert.OddReferenceIdeal.nD Cert.OddReferenceIdeal.τ).loc Cert.OddReferenceIdeal.main_arg8) = m ((c.tc : Thread Cert.OddReferenceIdeal.nD Cert.OddReferenceIdeal.τ).loc Cert.OddReferenceIdeal.main_arg8)
      ∧ r.2.mem ((c.tc : Thread Cert.OddReferenceIdeal.nD Cert.OddReferenceIdeal.τ).loc Cert.OddReferenceIdeal.main_arg9) = m ((c.tc : Thread Cert.OddReferenceIdeal.nD Cert.OddReferenceIdeal.τ).loc Cert.OddReferenceIdeal.main_arg9)
      ∧ r.2.mem ((c.tc : Thread Cert.OddReferenceIdeal.nD Cert.OddReferenceIdeal.τ).loc Cert.OddReferenceIdeal.main_arg10) = m ((c.tc : Thread Cert.OddReferenceIdeal.nD Cert.OddReferenceIdeal.τ).loc Cert.OddReferenceIdeal.main_arg10)
      ∧ r.2.mem ((c.tc : Thread Cert.OddReferenceIdeal.nD Cert.OddReferenceIdeal.τ).loc Cert.OddReferenceIdeal.main_arg11) = m ((c.tc : Thread Cert.OddReferenceIdeal.nD Cert.OddReferenceIdeal.τ).loc Cert.OddReferenceIdeal.main_arg11))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6)
      ∧ r.2.mem ((c.tc : Thread Cert.EvenKernel.nD Cert.EvenKernel.τ).loc Cert.EvenKernel.main_arg7) = m ((c.tc : Thread Cert.EvenKernel.nD Cert.EvenKernel.τ).loc Cert.EvenKernel.main_arg7))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v4) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)) →
    ∃ (v0 : (c : Dev Cert.MixKernelIdeal.nD) → Buf (Elt Ideal) ((c.tc : Thread Cert.MixKernelIdeal.nD Cert.MixKernelIdeal.τ).loc Cert.MixKernelIdeal.main_v14)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v14) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v52) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)
      ∧ m' ((c.tc : Thread Cert.PleReferenceIdeal.nD Cert.PleReferenceIdeal.τ).loc Cert.PleReferenceIdeal.main_arg6) = m ((c.tc : Thread Cert.PleKernelIdeal.nD Cert.PleKernelIdeal.τ).loc Cert.PleKernelIdeal.main_arg6)
      ∧ m' ((c.tc : Thread Cert.PleReferenceIdeal.nD Cert.PleReferenceIdeal.τ).loc Cert.PleReferenceIdeal.main_arg7) = m ((c.tc : Thread Cert.PleKernelIdeal.nD Cert.PleKernelIdeal.τ).loc Cert.PleKernelIdeal.main_arg7)
      ∧ m' ((c.tc : Thread Cert.PleReferenceIdeal.nD Cert.PleReferenceIdeal.τ).loc Cert.PleReferenceIdeal.main_arg8) = m ((c.tc : Thread Cert.PleKernelIdeal.nD Cert.PleKernelIdeal.τ).loc Cert.PleKernelIdeal.main_arg8)) →
    ∃ (v0 : (c : Dev Cert.PleKernelIdeal.nD) → Buf (Elt Ideal) ((c.tc : Thread Cert.PleKernelIdeal.nD Cert.PleKernelIdeal.τ).loc Cert.PleKernelIdeal.main_v8)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v8) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
          ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6)
          ∧ r.2.mem ((c.tc : Thread Cert.PleKernelIdeal.nD Cert.PleKernelIdeal.τ).loc Cert.PleKernelIdeal.main_arg7) = m ((c.tc : Thread Cert.PleKernelIdeal.nD Cert.PleKernelIdeal.τ).loc Cert.PleKernelIdeal.main_arg7)
          ∧ r.2.mem ((c.tc : Thread Cert.PleKernelIdeal.nD Cert.PleKernelIdeal.τ).loc Cert.PleKernelIdeal.main_arg8) = m ((c.tc : Thread Cert.PleKernelIdeal.nD Cert.PleKernelIdeal.τ).loc Cert.PleKernelIdeal.main_arg8))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v46) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6)
          ∧ r.2.mem ((c.tc : Thread Cert.PleReferenceIdeal.nD Cert.PleReferenceIdeal.τ).loc Cert.PleReferenceIdeal.main_arg7) = m' ((c.tc : Thread Cert.PleReferenceIdeal.nD Cert.PleReferenceIdeal.τ).loc Cert.PleReferenceIdeal.main_arg7)
          ∧ r.2.mem ((c.tc : Thread Cert.PleReferenceIdeal.nD Cert.PleReferenceIdeal.τ).loc Cert.PleReferenceIdeal.main_arg8) = m' ((c.tc : Thread Cert.PleReferenceIdeal.nD Cert.PleReferenceIdeal.τ).loc Cert.PleReferenceIdeal.main_arg8))

def preserves_OddKernel_OddKernelIdeal : Prop :=
  True

def algebraic_OddKernelIdeal_OddReferenceIdeal [hOddKernelIdeal : Cert.OddKernelIdeal.Facts] [hOddReferenceIdeal : Cert.OddReferenceIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddKernelIdeal m →
    (∀ c : Dev Cert.OddKernelIdeal.nD,
      m' ((c.tc : Thread Cert.OddReferenceIdeal.nD Cert.OddReferenceIdeal.τ).loc Cert.OddReferenceIdeal.main_arg0) = m ((c.tc : Thread Cert.OddKernelIdeal.nD Cert.OddKernelIdeal.τ).loc Cert.OddKernelIdeal.main_arg0)
      ∧ m' ((c.tc : Thread Cert.OddReferenceIdeal.nD Cert.OddReferenceIdeal.τ).loc Cert.OddReferenceIdeal.main_arg1) = m ((c.tc : Thread Cert.OddKernelIdeal.nD Cert.OddKernelIdeal.τ).loc Cert.OddKernelIdeal.main_arg1)
      ∧ m' ((c.tc : Thread Cert.OddReferenceIdeal.nD Cert.OddReferenceIdeal.τ).loc Cert.OddReferenceIdeal.main_arg2) = m ((c.tc : Thread Cert.OddKernelIdeal.nD Cert.OddKernelIdeal.τ).loc Cert.OddKernelIdeal.main_arg2)
      ∧ m' ((c.tc : Thread Cert.OddReferenceIdeal.nD Cert.OddReferenceIdeal.τ).loc Cert.OddReferenceIdeal.main_arg3) = m ((c.tc : Thread Cert.OddKernelIdeal.nD Cert.OddKernelIdeal.τ).loc Cert.OddKernelIdeal.main_arg3)
      ∧ m' ((c.tc : Thread Cert.OddReferenceIdeal.nD Cert.OddReferenceIdeal.τ).loc Cert.OddReferenceIdeal.main_arg4) = m ((c.tc : Thread Cert.OddKernelIdeal.nD Cert.OddKernelIdeal.τ).loc Cert.OddKernelIdeal.main_arg4)
      ∧ m' ((c.tc : Thread Cert.OddReferenceIdeal.nD Cert.OddReferenceIdeal.τ).loc Cert.OddReferenceIdeal.main_arg5) = m ((c.tc : Thread Cert.OddKernelIdeal.nD Cert.OddKernelIdeal.τ).loc Cert.OddKernelIdeal.main_arg5)
      ∧ m' ((c.tc : Thread Cert.OddReferenceIdeal.nD Cert.OddReferenceIdeal.τ).loc Cert.OddReferenceIdeal.main_arg6) = m ((c.tc : Thread Cert.OddKernelIdeal.nD Cert.OddKernelIdeal.τ).loc Cert.OddKernelIdeal.main_arg6)
      ∧ m' ((c.tc : Thread Cert.OddReferenceIdeal.nD Cert.OddReferenceIdeal.τ).loc Cert.OddReferenceIdeal.main_arg7) = m ((c.tc : Thread Cert.OddKernelIdeal.nD Cert.OddKernelIdeal.τ).loc Cert.OddKernelIdeal.main_arg7)
      ∧ m' ((c.tc : Thread Cert.OddReferenceIdeal.nD Cert.OddReferenceIdeal.τ).loc Cert.OddReferenceIdeal.main_arg8) = m ((c.tc : Thread Cert.OddKernelIdeal.nD Cert.OddKernelIdeal.τ).loc Cert.OddKernelIdeal.main_arg8)
      ∧ m' ((c.tc : Thread Cert.OddReferenceIdeal.nD Cert.OddReferenceIdeal.τ).loc Cert.OddReferenceIdeal.main_arg9) = m ((c.tc : Thread Cert.OddKernelIdeal.nD Cert.OddKernelIdeal.τ).loc Cert.OddKernelIdeal.main_arg9)
      ∧ m' ((c.tc : Thread Cert.OddReferenceIdeal.nD Cert.OddReferenceIdeal.τ).loc Cert.OddReferenceIdeal.main_arg10) = m ((c.tc : Thread Cert.OddKernelIdeal.nD Cert.OddKernelIdeal.τ).loc Cert.OddKernelIdeal.main_arg10)
      ∧ m' ((c.tc : Thread Cert.OddReferenceIdeal.nD Cert.OddReferenceIdeal.τ).loc Cert.OddReferenceIdeal.main_arg11) = m ((c.tc : Thread Cert.OddKernelIdeal.nD Cert.OddKernelIdeal.τ).loc Cert.OddKernelIdeal.main_arg11)) →
    ∃ (v0 : (c : Dev Cert.OddKernelIdeal.nD) → Buf (Elt Ideal) ((c.tc : Thread Cert.OddKernelIdeal.nD Cert.OddKernelIdeal.τ).loc Cert.OddKernelIdeal.main_v18)),
      θ_run (Cert.OddKernelIdeal.defs (F := Ideal)) (onTc (τ := Cert.OddKernelIdeal.τ) (Cert.OddKernelIdeal.main (F := Ideal))) ⟨m, fun _ => 0, g⟩ (fun r => ∀ c : Dev Cert.OddKernelIdeal.nD,
          r.2.mem ((c.tc : Thread Cert.OddKernelIdeal.nD Cert.OddKernelIdeal.τ).loc Cert.OddKernelIdeal.main_v18) = v0 c
          ∧ r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
          ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
          ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
          ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
          ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
          ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
          ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6)
          ∧ r.2.mem ((c.tc : Thread Cert.OddKernelIdeal.nD Cert.OddKernelIdeal.τ).loc Cert.OddKernelIdeal.main_arg7) = m ((c.tc : Thread Cert.OddKernelIdeal.nD Cert.OddKernelIdeal.τ).loc Cert.OddKernelIdeal.main_arg7)
          ∧ r.2.mem ((c.tc : Thread Cert.OddKernelIdeal.nD Cert.OddKernelIdeal.τ).loc Cert.OddKernelIdeal.main_arg8) = m ((c.tc : Thread Cert.OddKernelIdeal.nD Cert.OddKernelIdeal.τ).loc Cert.OddKernelIdeal.main_arg8)
          ∧ r.2.mem ((c.tc : Thread Cert.OddKernelIdeal.nD Cert.OddKernelIdeal.τ).loc Cert.OddKernelIdeal.main_arg9) = m ((c.tc : Thread Cert.OddKernelIdeal.nD Cert.OddKernelIdeal.τ).loc Cert.OddKernelIdeal.main_arg9)
          ∧ r.2.mem ((c.tc : Thread Cert.OddKernelIdeal.nD Cert.OddKernelIdeal.τ).loc Cert.OddKernelIdeal.main_arg10) = m ((c.tc : Thread Cert.OddKernelIdeal.nD Cert.OddKernelIdeal.τ).loc Cert.OddKernelIdeal.main_arg10)
          ∧ r.2.mem ((c.tc : Thread Cert.OddKernelIdeal.nD Cert.OddKernelIdeal.τ).loc Cert.OddKernelIdeal.main_arg11) = m ((c.tc : Thread Cert.OddKernelIdeal.nD Cert.OddKernelIdeal.τ).loc Cert.OddKernelIdeal.main_arg11))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v333) = v0 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6)
          ∧ r.2.mem ((c.tc : Thread Cert.OddReferenceIdeal.nD Cert.OddReferenceIdeal.τ).loc Cert.OddReferenceIdeal.main_arg7) = m' ((c.tc : Thread Cert.OddReferenceIdeal.nD Cert.OddReferenceIdeal.τ).loc Cert.OddReferenceIdeal.main_arg7)
          ∧ r.2.mem ((c.tc : Thread Cert.OddReferenceIdeal.nD Cert.OddReferenceIdeal.τ).loc Cert.OddReferenceIdeal.main_arg8) = m' ((c.tc : Thread Cert.OddReferenceIdeal.nD Cert.OddReferenceIdeal.τ).loc Cert.OddReferenceIdeal.main_arg8)
          ∧ r.2.mem ((c.tc : Thread Cert.OddReferenceIdeal.nD Cert.OddReferenceIdeal.τ).loc Cert.OddReferenceIdeal.main_arg9) = m' ((c.tc : Thread Cert.OddReferenceIdeal.nD Cert.OddReferenceIdeal.τ).loc Cert.OddReferenceIdeal.main_arg9)
          ∧ r.2.mem ((c.tc : Thread Cert.OddReferenceIdeal.nD Cert.OddReferenceIdeal.τ).loc Cert.OddReferenceIdeal.main_arg10) = m' ((c.tc : Thread Cert.OddReferenceIdeal.nD Cert.OddReferenceIdeal.τ).loc Cert.OddReferenceIdeal.main_arg10)
          ∧ r.2.mem ((c.tc : Thread Cert.OddReferenceIdeal.nD Cert.OddReferenceIdeal.τ).loc Cert.OddReferenceIdeal.main_arg11) = m' ((c.tc : Thread Cert.OddReferenceIdeal.nD Cert.OddReferenceIdeal.τ).loc Cert.OddReferenceIdeal.main_arg11))

def preserves_EvenKernel_EvenKernelIdeal : Prop :=
  True

def algebraic_EvenKernelIdeal_EvenReferenceIdeal [hEvenKernelIdeal : Cert.EvenKernelIdeal.Facts] [hEvenReferenceIdeal : Cert.EvenReferenceIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)
      ∧ m' ((c.tc : Thread Cert.EvenReferenceIdeal.nD Cert.EvenReferenceIdeal.τ).loc Cert.EvenReferenceIdeal.main_arg7) = m ((c.tc : Thread Cert.EvenKernelIdeal.nD Cert.EvenKernelIdeal.τ).loc Cert.EvenKernelIdeal.main_arg7)) →
    ∃ (v0 : (c : Dev Cert.EvenKernelIdeal.nD) → Buf (Elt Ideal) ((c.tc : Thread Cert.EvenKernelIdeal.nD Cert.EvenKernelIdeal.τ).loc Cert.EvenKernelIdeal.main_v77_6)) (v1 : (c : Dev Cert.EvenKernelIdeal.nD) → Buf (Elt Ideal) ((c.tc : Thread Cert.EvenKernelIdeal.nD Cert.EvenKernelIdeal.τ).loc Cert.EvenKernelIdeal.main_v77_7)) (v2 : (c : Dev Cert.EvenKernelIdeal.nD) → Buf (Elt Ideal) ((c.tc : Thread Cert.EvenKernelIdeal.nD Cert.EvenKernelIdeal.τ).loc Cert.EvenKernelIdeal.main_v77_8)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v77_6) = v0 c
          ∧ r.2.mem ((c.tc : Thread Cert.EvenKernelIdeal.nD Cert.EvenKernelIdeal.τ).loc Cert.EvenKernelIdeal.main_v77_7) = v1 c
          ∧ r.2.mem ((c.tc : Thread Cert.EvenKernelIdeal.nD Cert.EvenKernelIdeal.τ).loc Cert.EvenKernelIdeal.main_v77_8) = v2 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
          ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
          ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
          ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v23) = v0 c
          ∧ r.2.mem ((c.tc : Thread Cert.EvenReferenceIdeal.nD Cert.EvenReferenceIdeal.τ).loc Cert.EvenReferenceIdeal.main_v24) = v1 c
          ∧ r.2.mem ((c.tc : Thread Cert.EvenReferenceIdeal.nD Cert.EvenReferenceIdeal.τ).loc Cert.EvenReferenceIdeal.main_v26) = v2 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7))

def Claim : Prop :=
  ∃ (hKernel : Cert.Kernel.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hPleKernel : Cert.PleKernel.Facts) (hPleKernelIdeal : Cert.PleKernelIdeal.Facts) (hPleReferenceIdeal : Cert.PleReferenceIdeal.Facts) (hOddKernel : Cert.OddKernel.Facts) (hOddKernelIdeal : Cert.OddKernelIdeal.Facts) (hOddReferenceIdeal : Cert.OddReferenceIdeal.Facts) (hEvenKernel : Cert.EvenKernel.Facts) (hEvenKernelIdeal : Cert.EvenKernelIdeal.Facts) (hEvenReferenceIdeal : Cert.EvenReferenceIdeal.Facts),
    quiescent_Kernel (hKernel := hKernel)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_OddKernel (hOddKernel := hOddKernel)
    ∧ quiescent_OddKernelIdeal (hOddKernelIdeal := hOddKernelIdeal)
    ∧ quiescent_OddReferenceIdeal (hOddReferenceIdeal := hOddReferenceIdeal)
    ∧ quiescent_EvenKernel (hEvenKernel := hEvenKernel)
    ∧ quiescent_EvenKernelIdeal (hEvenKernelIdeal := hEvenKernelIdeal)
    ∧ quiescent_EvenReferenceIdeal (hEvenReferenceIdeal := hEvenReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MixKernel_MixKernelIdeal
    ∧ algebraic_MixKernelIdeal_MixReferenceIdeal (hMixKernelIdeal := hMixKernelIdeal) (hMixReferenceIdeal := hMixReferenceIdeal)
    ∧ preserves_PleKernel_PleKernelIdeal
    ∧ algebraic_PleKernelIdeal_PleReferenceIdeal (hPleKernelIdeal := hPleKernelIdeal) (hPleReferenceIdeal := hPleReferenceIdeal)
    ∧ preserves_OddKernel_OddKernelIdeal
    ∧ algebraic_OddKernelIdeal_OddReferenceIdeal (hOddKernelIdeal := hOddKernelIdeal) (hOddReferenceIdeal := hOddReferenceIdeal)
    ∧ preserves_EvenKernel_EvenKernelIdeal
    ∧ algebraic_EvenKernelIdeal_EvenReferenceIdeal (hEvenKernelIdeal := hEvenKernelIdeal) (hEvenReferenceIdeal := hEvenReferenceIdeal)
-- ==== Kernel.lean ====
abbrev S1 : Shape := ⟨1, ![1]⟩
abbrev S8x8192x512 : Shape := ⟨3, ![8, 8192, 512]⟩
abbrev S8x8192x256 : Shape := ⟨3, ![8, 8192, 256]⟩
abbrev S8x65536 : Shape := ⟨2, ![8, 65536]⟩
abbrev S8x8192x128 : Shape := ⟨3, ![8, 8192, 128]⟩
abbrev S8x128x64 : Shape := ⟨3, ![8, 128, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x8 : Shape := ⟨2, ![8, 8]⟩
abbrev S_ : Shape := ⟨0, ![]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S1024x512 : Shape := ⟨2, ![1024, 512]⟩
abbrev S8x16x512x128 : Shape := ⟨4, ![8, 16, 512, 128]⟩
abbrev S1x128x512 : Shape := ⟨3, ![1, 128, 512]⟩
abbrev S1x128x256 : Shape := ⟨3, ![1, 128, 256]⟩
abbrev S8x128 : Shape := ⟨2, ![8, 128]⟩
abbrev S1x16x512x128 : Shape := ⟨4, ![1, 16, 512, 128]⟩
abbrev S16x512x128 : Shape := ⟨3, ![16, 512, 128]⟩
abbrev S16x32x16x128 : Shape := ⟨4, ![16, 32, 16, 128]⟩
abbrev S16x16x128 : Shape := ⟨3, ![16, 16, 128]⟩
abbrev S1024x256 : Shape := ⟨2, ![1024, 256]⟩
abbrev S128x256 : Shape := ⟨2, ![128, 256]⟩
abbrev S128x128 : Shape := ⟨2, ![128, 128]⟩
abbrev S512x128 : Shape := ⟨2, ![512, 128]⟩
abbrev S1x128 : Shape := ⟨2, ![1, 128]⟩
abbrev S1x1x512x128 : Shape := ⟨4, ![1, 1, 512, 128]⟩
abbrev S512x512 : Shape := ⟨2, ![512, 512]⟩
abbrev S1x512x128 : Shape := ⟨3, ![1, 512, 128]⟩
abbrev S1x1x8x128 : Shape := ⟨4, ![1, 1, 8, 128]⟩
abbrev S16x128 : Shape := ⟨2, ![16, 128]⟩
abbrev S1x16x128 : Shape := ⟨3, ![1, 16, 128]⟩
abbrev S32x16x128 : Shape := ⟨3, ![32, 16, 128]⟩
abbrev S1x32x16x128 : Shape := ⟨4, ![1, 32, 16, 128]⟩
abbrev S1x1x16x128 : Shape := ⟨4, ![1, 1, 16, 128]⟩
abbrev S128 : Shape := ⟨1, ![128]⟩
abbrev S1x1x128 : Shape := ⟨3, ![1, 1, 128]⟩
abbrev S1x1x1 : Shape := ⟨3, ![1, 1, 1]⟩
abbrev S256x128 : Shape := ⟨2, ![256, 128]⟩
abbrev S1x256x128 : Shape := ⟨3, ![1, 256, 128]⟩
abbrev S128x512 : Shape := ⟨2, ![128, 512]⟩
abbrev S1024x128 : Shape := ⟨2, ![1024, 128]⟩
abbrev S1024x1 : Shape := ⟨2, ![1024, 1]⟩
abbrev S512x256 : Shape := ⟨2, ![512, 256]⟩
abbrev S1024 : Shape := ⟨1, ![1024]⟩
abbrev S128x1024 : Shape := ⟨2, ![128, 1024]⟩

abbrev nBuf : Space → Nat
  | .hbm => 34
  | .vmem => 21
  | .smem => 1
  | _ => 0

abbrev bufTy : (tb : Table) → Fin (tcTables nBuf tb) → BufTy
  | .hbm, ⟨0, _⟩ => ⟨S1, .f32⟩
  | .hbm, ⟨1, _⟩ => ⟨S8x8192x512, .bf16⟩
  | .hbm, ⟨2, _⟩ => ⟨S8x8192x256, .bf16⟩
  | .hbm, ⟨3, _⟩ => ⟨S8x65536, .f32⟩
  | .hbm, ⟨4, _⟩ => ⟨S8x8192x128, .bf16⟩
  | .hbm, ⟨5, _⟩ => ⟨S8x8192x128, .bf16⟩
  | .hbm, ⟨6, _⟩ => ⟨S8x8192x128, .bf16⟩
  | .hbm, ⟨7, _⟩ => ⟨S8x128x64, .f32⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .bf16⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x128x1x64, .f32⟩
  | .hbm, ⟨24, _⟩ => ⟨S8x1x8x1, .f32⟩
  | .hbm, ⟨25, _⟩ => ⟨S8x128x8x64, .f32⟩
  | .hbm, ⟨26, _⟩ => ⟨S8x128x8x64, .f32⟩
  | .hbm, ⟨27, _⟩ => ⟨S8x128x8x64, .f32⟩
  | .hbm, ⟨28, _⟩ => ⟨S1024x512, .f32⟩
  | .hbm, ⟨29, _⟩ => ⟨S1024x512, .bf16⟩
  | .hbm, ⟨30, _⟩ => ⟨S8x16x512x128, .bf16⟩
  | .hbm, ⟨31, _⟩ => ⟨S8x16x512x128, .bf16⟩
  | .hbm, ⟨32, _⟩ => ⟨S8x16x512x128, .bf16⟩
  | .hbm, ⟨33, _⟩ => ⟨S8x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S8x128, .f32⟩
  | .local _ .vmem, ⟨5, _⟩ => ⟨S8x128, .f32⟩
  | .local _ .vmem, ⟨6, _⟩ => ⟨S1x16x512x128, .bf16⟩
  | .local _ .vmem, ⟨7, _⟩ => ⟨S1x16x512x128, .bf16⟩
  | .local _ .vmem, ⟨8, _⟩ => ⟨S1x16x512x128, .bf16⟩
  | .local _ .vmem, ⟨9, _⟩ => ⟨S1x16x512x128, .bf16⟩
  | .local _ .vmem, ⟨10, _⟩ => ⟨S1x16x512x128, .bf16⟩
  | .local _ .vmem, ⟨11, _⟩ => ⟨S1x16x512x128, .bf16⟩
  | .local _ .vmem, ⟨12, _⟩ => ⟨S256x256, .bf16⟩
  | .local _ .vmem, ⟨13, _⟩ => ⟨S1024x512, .bf16⟩
  | .local _ .vmem, ⟨14, _⟩ => ⟨S1x128x512, .bf16⟩
  | .local _ .vmem, ⟨15, _⟩ => ⟨S1x128x512, .bf16⟩
  | .local _ .vmem, ⟨16, _⟩ => ⟨S16x512x128, .i32⟩
  | .local _ .vmem, ⟨17, _⟩ => ⟨S16x512x128, .bf16⟩
  | .local _ .vmem, ⟨18, _⟩ => ⟨S16x32x16x128, .i32⟩
  | .local _ .vmem, ⟨19, _⟩ => ⟨S16x16x128, .i32⟩
  | .local _ .vmem, ⟨20, _⟩ => ⟨S1024x256, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨2, ![8, 64], ![false, false]⟩

@[reducible] def k0_t1_loop (i : grid0.Coords) : Scf.Loop 32 :=
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_23 : BitVec 32 := 1#32
  ⟨c0_i32_21, v61, c1_i32_23⟩
def k0_off1 (i : grid0.Coords) (k0_t1 : Fin (k0_t1_loop i).trips) (c0_i32_880 : BitVec 32) : Fin 4 → Nat :=
  let c0_886 : Index := 0#32
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2195 : Index := Scalar.indexCast v2187
  let c0_887 : Index := 0#32
  let c0_888 : Index := 0#32
  ![0, v2195.toNat, 0, 0]
def k0_off2 (i : grid0.Coords) (k0_t1 : Fin (k0_t1_loop i).trips) (c0_i32_880 : BitVec 32) : Fin 3 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2226 : Index := Scalar.indexCast v2187
  let c0_893 : Index := 0#32
  let c0_894 : Index := 0#32
  ![v2226.toNat, 0, 0]
def k0_off3 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2983 : Index := Scalar.indexCast v2187
  let c0_1136 : Index := 0#32
  let c0_1137 : Index := 0#32
  let c0_1138 : Index := 0#32
  ![v2983.toNat, 0, 0, 0]
def k0_off4 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2987 : Index := Scalar.indexCast v2187
  let c1_1139 : Index := 1#32
  let c0_1140 : Index := 0#32
  let c0_1141 : Index := 0#32
  ![v2987.toNat, 1, 0, 0]
def k0_off5 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2991 : Index := Scalar.indexCast v2187
  let c2_1142 : Index := 2#32
  let c0_1143 : Index := 0#32
  let c0_1144 : Index := 0#32
  ![v2991.toNat, 2, 0, 0]
def k0_off6 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2995 : Index := Scalar.indexCast v2187
  let c3_1145 : Index := 3#32
  let c0_1146 : Index := 0#32
  let c0_1147 : Index := 0#32
  ![v2995.toNat, 3, 0, 0]
def k0_off7 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2999 : Index := Scalar.indexCast v2187
  let c4_1148 : Index := 4#32
  let c0_1149 : Index := 0#32
  let c0_1150 : Index := 0#32
  ![v2999.toNat, 4, 0, 0]
def k0_off8 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3003 : Index := Scalar.indexCast v2187
  let c5_1151 : Index := 5#32
  let c0_1152 : Index := 0#32
  let c0_1153 : Index := 0#32
  ![v3003.toNat, 5, 0, 0]
def k0_off9 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3007 : Index := Scalar.indexCast v2187
  let c6_1154 : Index := 6#32
  let c0_1155 : Index := 0#32
  let c0_1156 : Index := 0#32
  ![v3007.toNat, 6, 0, 0]
def k0_off10 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3011 : Index := Scalar.indexCast v2187
  let c7_1157 : Index := 7#32
  let c0_1158 : Index := 0#32
  let c0_1159 : Index := 0#32
  ![v3011.toNat, 7, 0, 0]
def k0_off11 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3015 : Index := Scalar.indexCast v2187
  let c8_1160 : Index := 8#32
  let c0_1161 : Index := 0#32
  let c0_1162 : Index := 0#32
  ![v3015.toNat, 8, 0, 0]
def k0_off12 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3019 : Index := Scalar.indexCast v2187
  let c9_1163 : Index := 9#32
  let c0_1164 : Index := 0#32
  let c0_1165 : Index := 0#32
  ![v3019.toNat, 9, 0, 0]
def k0_off13 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3023 : Index := Scalar.indexCast v2187
  let c10_1166 : Index := 10#32
  let c0_1167 : Index := 0#32
  let c0_1168 : Index := 0#32
  ![v3023.toNat, 10, 0, 0]
def k0_off14 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3027 : Index := Scalar.indexCast v2187
  let c11_1169 : Index := 11#32
  let c0_1170 : Index := 0#32
  let c0_1171 : Index := 0#32
  ![v3027.toNat, 11, 0, 0]
def k0_off15 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3031 : Index := Scalar.indexCast v2187
  let c12_1172 : Index := 12#32
  let c0_1173 : Index := 0#32
  let c0_1174 : Index := 0#32
  ![v3031.toNat, 12, 0, 0]
def k0_off16 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3035 : Index := Scalar.indexCast v2187
  let c13_1175 : Index := 13#32
  let c0_1176 : Index := 0#32
  let c0_1177 : Index := 0#32
  ![v3035.toNat, 13, 0, 0]
def k0_off17 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3039 : Index := Scalar.indexCast v2187
  let c14_1178 : Index := 14#32
  let c0_1179 : Index := 0#32
  let c0_1180 : Index := 0#32
  ![v3039.toNat, 14, 0, 0]
def k0_off18 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3043 : Index := Scalar.indexCast v2187
  let c15_1181 : Index := 15#32
  let c0_1182 : Index := 0#32
  let c0_1183 : Index := 0#32
  ![v3043.toNat, 15, 0, 0]
def k0_off19 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3047 : Index := Scalar.indexCast v2187
  let c16_1184 : Index := 16#32
  let c0_1185 : Index := 0#32
  let c0_1186 : Index := 0#32
  ![v3047.toNat, 16, 0, 0]
def k0_off20 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3051 : Index := Scalar.indexCast v2187
  let c17_1187 : Index := 17#32
  let c0_1188 : Index := 0#32
  let c0_1189 : Index := 0#32
  ![v3051.toNat, 17, 0, 0]
def k0_off21 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3055 : Index := Scalar.indexCast v2187
  let c18_1190 : Index := 18#32
  let c0_1191 : Index := 0#32
  let c0_1192 : Index := 0#32
  ![v3055.toNat, 18, 0, 0]
def k0_off22 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3059 : Index := Scalar.indexCast v2187
  let c19_1193 : Index := 19#32
  let c0_1194 : Index := 0#32
  let c0_1195 : Index := 0#32
  ![v3059.toNat, 19, 0, 0]
def k0_off23 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3063 : Index := Scalar.indexCast v2187
  let c20_1196 : Index := 20#32
  let c0_1197 : Index := 0#32
  let c0_1198 : Index := 0#32
  ![v3063.toNat, 20, 0, 0]
def k0_off24 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3067 : Index := Scalar.indexCast v2187
  let c21_1199 : Index := 21#32
  let c0_1200 : Index := 0#32
  let c0_1201 : Index := 0#32
  ![v3067.toNat, 21, 0, 0]
def k0_off25 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3071 : Index := Scalar.indexCast v2187
  let c22_1202 : Index := 22#32
  let c0_1203 : Index := 0#32
  let c0_1204 : Index := 0#32
  ![v3071.toNat, 22, 0, 0]
def k0_off26 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3075 : Index := Scalar.indexCast v2187
  let c23_1205 : Index := 23#32
  let c0_1206 : Index := 0#32
  let c0_1207 : Index := 0#32
  ![v3075.toNat, 23, 0, 0]
def k0_off27 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3079 : Index := Scalar.indexCast v2187
  let c24_1208 : Index := 24#32
  let c0_1209 : Index := 0#32
  let c0_1210 : Index := 0#32
  ![v3079.toNat, 24, 0, 0]
def k0_off28 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3083 : Index := Scalar.indexCast v2187
  let c25_1211 : Index := 25#32
  let c0_1212 : Index := 0#32
  let c0_1213 : Index := 0#32
  ![v3083.toNat, 25, 0, 0]
def k0_off29 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3087 : Index := Scalar.indexCast v2187
  let c26_1214 : Index := 26#32
  let c0_1215 : Index := 0#32
  let c0_1216 : Index := 0#32
  ![v3087.toNat, 26, 0, 0]
def k0_off30 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3091 : Index := Scalar.indexCast v2187
  let c27_1217 : Index := 27#32
  let c0_1218 : Index := 0#32
  let c0_1219 : Index := 0#32
  ![v3091.toNat, 27, 0, 0]
def k0_off31 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3095 : Index := Scalar.indexCast v2187
  let c28_1220 : Index := 28#32
  let c0_1221 : Index := 0#32
  let c0_1222 : Index := 0#32
  ![v3095.toNat, 28, 0, 0]
def k0_off32 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3099 : Index := Scalar.indexCast v2187
  let c29_1223 : Index := 29#32
  let c0_1224 : Index := 0#32
  let c0_1225 : Index := 0#32
  ![v3099.toNat, 29, 0, 0]
def k0_off33 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3103 : Index := Scalar.indexCast v2187
  let c30_1226 : Index := 30#32
  let c0_1227 : Index := 0#32
  let c0_1228 : Index := 0#32
  ![v3103.toNat, 30, 0, 0]
def k0_off34 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3107 : Index := Scalar.indexCast v2187
  let c31_1229 : Index := 31#32
  let c0_1230 : Index := 0#32
  let c0_1231 : Index := 0#32
  ![v3107.toNat, 31, 0, 0]
def k0_off35 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3864 : Index := Scalar.indexCast v2187
  let c0_1473 : Index := 0#32
  let c8_1474 : Index := 8#32
  let c0_1475 : Index := 0#32
  ![v3864.toNat, 0, 8, 0]
def k0_off36 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3868 : Index := Scalar.indexCast v2187
  let c1_1476 : Index := 1#32
  let c8_1477 : Index := 8#32
  let c0_1478 : Index := 0#32
  ![v3868.toNat, 1, 8, 0]
def k0_off37 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3872 : Index := Scalar.indexCast v2187
  let c2_1479 : Index := 2#32
  let c8_1480 : Index := 8#32
  let c0_1481 : Index := 0#32
  ![v3872.toNat, 2, 8, 0]
def k0_off38 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3876 : Index := Scalar.indexCast v2187
  let c3_1482 : Index := 3#32
  let c8_1483 : Index := 8#32
  let c0_1484 : Index := 0#32
  ![v3876.toNat, 3, 8, 0]
def k0_off39 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3880 : Index := Scalar.indexCast v2187
  let c4_1485 : Index := 4#32
  let c8_1486 : Index := 8#32
  let c0_1487 : Index := 0#32
  ![v3880.toNat, 4, 8, 0]
def k0_off40 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3884 : Index := Scalar.indexCast v2187
  let c5_1488 : Index := 5#32
  let c8_1489 : Index := 8#32
  let c0_1490 : Index := 0#32
  ![v3884.toNat, 5, 8, 0]
def k0_off41 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3888 : Index := Scalar.indexCast v2187
  let c6_1491 : Index := 6#32
  let c8_1492 : Index := 8#32
  let c0_1493 : Index := 0#32
  ![v3888.toNat, 6, 8, 0]
def k0_off42 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3892 : Index := Scalar.indexCast v2187
  let c7_1494 : Index := 7#32
  let c8_1495 : Index := 8#32
  let c0_1496 : Index := 0#32
  ![v3892.toNat, 7, 8, 0]
def k0_off43 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3896 : Index := Scalar.indexCast v2187
  let c8_1497 : Index := 8#32
  let c8_1498 : Index := 8#32
  let c0_1499 : Index := 0#32
  ![v3896.toNat, 8, 8, 0]
def k0_off44 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3900 : Index := Scalar.indexCast v2187
  let c9_1500 : Index := 9#32
  let c8_1501 : Index := 8#32
  let c0_1502 : Index := 0#32
  ![v3900.toNat, 9, 8, 0]
def k0_off45 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3904 : Index := Scalar.indexCast v2187
  let c10_1503 : Index := 10#32
  let c8_1504 : Index := 8#32
  let c0_1505 : Index := 0#32
  ![v3904.toNat, 10, 8, 0]
def k0_off46 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3908 : Index := Scalar.indexCast v2187
  let c11_1506 : Index := 11#32
  let c8_1507 : Index := 8#32
  let c0_1508 : Index := 0#32
  ![v3908.toNat, 11, 8, 0]
def k0_off47 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3912 : Index := Scalar.indexCast v2187
  let c12_1509 : Index := 12#32
  let c8_1510 : Index := 8#32
  let c0_1511 : Index := 0#32
  ![v3912.toNat, 12, 8, 0]
def k0_off48 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3916 : Index := Scalar.indexCast v2187
  let c13_1512 : Index := 13#32
  let c8_1513 : Index := 8#32
  let c0_1514 : Index := 0#32
  ![v3916.toNat, 13, 8, 0]
def k0_off49 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3920 : Index := Scalar.indexCast v2187
  let c14_1515 : Index := 14#32
  let c8_1516 : Index := 8#32
  let c0_1517 : Index := 0#32
  ![v3920.toNat, 14, 8, 0]
def k0_off50 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3924 : Index := Scalar.indexCast v2187
  let c15_1518 : Index := 15#32
  let c8_1519 : Index := 8#32
  let c0_1520 : Index := 0#32
  ![v3924.toNat, 15, 8, 0]
def k0_off51 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3928 : Index := Scalar.indexCast v2187
  let c16_1521 : Index := 16#32
  let c8_1522 : Index := 8#32
  let c0_1523 : Index := 0#32
  ![v3928.toNat, 16, 8, 0]
def k0_off52 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3932 : Index := Scalar.indexCast v2187
  let c17_1524 : Index := 17#32
  let c8_1525 : Index := 8#32
  let c0_1526 : Index := 0#32
  ![v3932.toNat, 17, 8, 0]
def k0_off53 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3936 : Index := Scalar.indexCast v2187
  let c18_1527 : Index := 18#32
  let c8_1528 : Index := 8#32
  let c0_1529 : Index := 0#32
  ![v3936.toNat, 18, 8, 0]
def k0_off54 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3940 : Index := Scalar.indexCast v2187
  let c19_1530 : Index := 19#32
  let c8_1531 : Index := 8#32
  let c0_1532 : Index := 0#32
  ![v3940.toNat, 19, 8, 0]
def k0_off55 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3944 : Index := Scalar.indexCast v2187
  let c20_1533 : Index := 20#32
  let c8_1534 : Index := 8#32
  let c0_1535 : Index := 0#32
  ![v3944.toNat, 20, 8, 0]
def k0_off56 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3948 : Index := Scalar.indexCast v2187
  let c21_1536 : Index := 21#32
  let c8_1537 : Index := 8#32
  let c0_1538 : Index := 0#32
  ![v3948.toNat, 21, 8, 0]
def k0_off57 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3952 : Index := Scalar.indexCast v2187
  let c22_1539 : Index := 22#32
  let c8_1540 : Index := 8#32
  let c0_1541 : Index := 0#32
  ![v3952.toNat, 22, 8, 0]
def k0_off58 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3956 : Index := Scalar.indexCast v2187
  let c23_1542 : Index := 23#32
  let c8_1543 : Index := 8#32
  let c0_1544 : Index := 0#32
  ![v3956.toNat, 23, 8, 0]
def k0_off59 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3960 : Index := Scalar.indexCast v2187
  let c24_1545 : Index := 24#32
  let c8_1546 : Index := 8#32
  let c0_1547 : Index := 0#32
  ![v3960.toNat, 24, 8, 0]
def k0_off60 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3964 : Index := Scalar.indexCast v2187
  let c25_1548 : Index := 25#32
  let c8_1549 : Index := 8#32
  let c0_1550 : Index := 0#32
  ![v3964.toNat, 25, 8, 0]
def k0_off61 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3968 : Index := Scalar.indexCast v2187
  let c26_1551 : Index := 26#32
  let c8_1552 : Index := 8#32
  let c0_1553 : Index := 0#32
  ![v3968.toNat, 26, 8, 0]
def k0_off62 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3972 : Index := Scalar.indexCast v2187
  let c27_1554 : Index := 27#32
  let c8_1555 : Index := 8#32
  let c0_1556 : Index := 0#32
  ![v3972.toNat, 27, 8, 0]
def k0_off63 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3976 : Index := Scalar.indexCast v2187
  let c28_1557 : Index := 28#32
  let c8_1558 : Index := 8#32
  let c0_1559 : Index := 0#32
  ![v3976.toNat, 28, 8, 0]
def k0_off64 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3980 : Index := Scalar.indexCast v2187
  let c29_1560 : Index := 29#32
  let c8_1561 : Index := 8#32
  let c0_1562 : Index := 0#32
  ![v3980.toNat, 29, 8, 0]
def k0_off65 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3984 : Index := Scalar.indexCast v2187
  let c30_1563 : Index := 30#32
  let c8_1564 : Index := 8#32
  let c0_1565 : Index := 0#32
  ![v3984.toNat, 30, 8, 0]
def k0_off66 (i : grid0.Coords) (k0_t1 : Fin (k0_t1_loop i).trips) (c0_i32_880 : BitVec 32) : Fin 4 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3988 : Index := Scalar.indexCast v2187
  let c31_1566 : Index := 31#32
  let c8_1567 : Index := 8#32
  let c0_1568 : Index := 0#32
  ![v3988.toNat, 31, 8, 0]
def k0_off67 (i : grid0.Coords) (k0_t1 : Fin (k0_t1_loop i).trips) (c0_i32_880 : BitVec 32) : Fin 3 → Nat :=
  let c0_i32_879 : BitVec 32 := 0#32
  let c0_i32_21 : BitVec 32 := 0#32
  let c1_i32_23 : BitVec 32 := 1#32
  let arg17 : BitVec 32 := Scf.iv c0_i32_21 c1_i32_23 k0_t1
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3993 : Index := Scalar.indexCast v2187
  let c0_1570 : Index := 0#32
  let c0_1571 : Index := 0#32
  ![v3993.toNat, 0, 0]
@[reducible] def k0_t2_loop (i : grid0.Coords) : Scf.Loop 32 :=
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let v58 : BitVec 32 := Scalar.addi c0_i32_21 v57
  let c1_i32_24 : BitVec 32 := 1#32
  ⟨v61, v58, c1_i32_24⟩
def k0_off68 (i : grid0.Coords) (k0_t2 : Fin (k0_t2_loop i).trips) (c0_i32_880 : BitVec 32) : Fin 4 → Nat :=
  let c0_886 : Index := 0#32
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2195 : Index := Scalar.indexCast v2187
  let c0_887 : Index := 0#32
  let c0_888 : Index := 0#32
  ![0, v2195.toNat, 0, 0]
def k0_off69 (i : grid0.Coords) (k0_t2 : Fin (k0_t2_loop i).trips) (c0_i32_880 : BitVec 32) : Fin 3 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2226 : Index := Scalar.indexCast v2187
  let c0_893 : Index := 0#32
  let c0_894 : Index := 0#32
  ![v2226.toNat, 0, 0]
def k0_off70 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2983 : Index := Scalar.indexCast v2187
  let c0_1136 : Index := 0#32
  let c0_1137 : Index := 0#32
  let c0_1138 : Index := 0#32
  ![v2983.toNat, 0, 0, 0]
def k0_off71 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2987 : Index := Scalar.indexCast v2187
  let c1_1139 : Index := 1#32
  let c0_1140 : Index := 0#32
  let c0_1141 : Index := 0#32
  ![v2987.toNat, 1, 0, 0]
def k0_off72 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2991 : Index := Scalar.indexCast v2187
  let c2_1142 : Index := 2#32
  let c0_1143 : Index := 0#32
  let c0_1144 : Index := 0#32
  ![v2991.toNat, 2, 0, 0]
def k0_off73 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2995 : Index := Scalar.indexCast v2187
  let c3_1145 : Index := 3#32
  let c0_1146 : Index := 0#32
  let c0_1147 : Index := 0#32
  ![v2995.toNat, 3, 0, 0]
def k0_off74 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v2999 : Index := Scalar.indexCast v2187
  let c4_1148 : Index := 4#32
  let c0_1149 : Index := 0#32
  let c0_1150 : Index := 0#32
  ![v2999.toNat, 4, 0, 0]
def k0_off75 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3003 : Index := Scalar.indexCast v2187
  let c5_1151 : Index := 5#32
  let c0_1152 : Index := 0#32
  let c0_1153 : Index := 0#32
  ![v3003.toNat, 5, 0, 0]
def k0_off76 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3007 : Index := Scalar.indexCast v2187
  let c6_1154 : Index := 6#32
  let c0_1155 : Index := 0#32
  let c0_1156 : Index := 0#32
  ![v3007.toNat, 6, 0, 0]
def k0_off77 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3011 : Index := Scalar.indexCast v2187
  let c7_1157 : Index := 7#32
  let c0_1158 : Index := 0#32
  let c0_1159 : Index := 0#32
  ![v3011.toNat, 7, 0, 0]
def k0_off78 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3015 : Index := Scalar.indexCast v2187
  let c8_1160 : Index := 8#32
  let c0_1161 : Index := 0#32
  let c0_1162 : Index := 0#32
  ![v3015.toNat, 8, 0, 0]
def k0_off79 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3019 : Index := Scalar.indexCast v2187
  let c9_1163 : Index := 9#32
  let c0_1164 : Index := 0#32
  let c0_1165 : Index := 0#32
  ![v3019.toNat, 9, 0, 0]
def k0_off80 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3023 : Index := Scalar.indexCast v2187
  let c10_1166 : Index := 10#32
  let c0_1167 : Index := 0#32
  let c0_1168 : Index := 0#32
  ![v3023.toNat, 10, 0, 0]
def k0_off81 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3027 : Index := Scalar.indexCast v2187
  let c11_1169 : Index := 11#32
  let c0_1170 : Index := 0#32
  let c0_1171 : Index := 0#32
  ![v3027.toNat, 11, 0, 0]
def k0_off82 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3031 : Index := Scalar.indexCast v2187
  let c12_1172 : Index := 12#32
  let c0_1173 : Index := 0#32
  let c0_1174 : Index := 0#32
  ![v3031.toNat, 12, 0, 0]
def k0_off83 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3035 : Index := Scalar.indexCast v2187
  let c13_1175 : Index := 13#32
  let c0_1176 : Index := 0#32
  let c0_1177 : Index := 0#32
  ![v3035.toNat, 13, 0, 0]
def k0_off84 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3039 : Index := Scalar.indexCast v2187
  let c14_1178 : Index := 14#32
  let c0_1179 : Index := 0#32
  let c0_1180 : Index := 0#32
  ![v3039.toNat, 14, 0, 0]
def k0_off85 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3043 : Index := Scalar.indexCast v2187
  let c15_1181 : Index := 15#32
  let c0_1182 : Index := 0#32
  let c0_1183 : Index := 0#32
  ![v3043.toNat, 15, 0, 0]
def k0_off86 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3047 : Index := Scalar.indexCast v2187
  let c16_1184 : Index := 16#32
  let c0_1185 : Index := 0#32
  let c0_1186 : Index := 0#32
  ![v3047.toNat, 16, 0, 0]
def k0_off87 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3051 : Index := Scalar.indexCast v2187
  let c17_1187 : Index := 17#32
  let c0_1188 : Index := 0#32
  let c0_1189 : Index := 0#32
  ![v3051.toNat, 17, 0, 0]
def k0_off88 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3055 : Index := Scalar.indexCast v2187
  let c18_1190 : Index := 18#32
  let c0_1191 : Index := 0#32
  let c0_1192 : Index := 0#32
  ![v3055.toNat, 18, 0, 0]
def k0_off89 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3059 : Index := Scalar.indexCast v2187
  let c19_1193 : Index := 19#32
  let c0_1194 : Index := 0#32
  let c0_1195 : Index := 0#32
  ![v3059.toNat, 19, 0, 0]
def k0_off90 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3063 : Index := Scalar.indexCast v2187
  let c20_1196 : Index := 20#32
  let c0_1197 : Index := 0#32
  let c0_1198 : Index := 0#32
  ![v3063.toNat, 20, 0, 0]
def k0_off91 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3067 : Index := Scalar.indexCast v2187
  let c21_1199 : Index := 21#32
  let c0_1200 : Index := 0#32
  let c0_1201 : Index := 0#32
  ![v3067.toNat, 21, 0, 0]
def k0_off92 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3071 : Index := Scalar.indexCast v2187
  let c22_1202 : Index := 22#32
  let c0_1203 : Index := 0#32
  let c0_1204 : Index := 0#32
  ![v3071.toNat, 22, 0, 0]
def k0_off93 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3075 : Index := Scalar.indexCast v2187
  let c23_1205 : Index := 23#32
  let c0_1206 : Index := 0#32
  let c0_1207 : Index := 0#32
  ![v3075.toNat, 23, 0, 0]
def k0_off94 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3079 : Index := Scalar.indexCast v2187
  let c24_1208 : Index := 24#32
  let c0_1209 : Index := 0#32
  let c0_1210 : Index := 0#32
  ![v3079.toNat, 24, 0, 0]
def k0_off95 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3083 : Index := Scalar.indexCast v2187
  let c25_1211 : Index := 25#32
  let c0_1212 : Index := 0#32
  let c0_1213 : Index := 0#32
  ![v3083.toNat, 25, 0, 0]
def k0_off96 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3087 : Index := Scalar.indexCast v2187
  let c26_1214 : Index := 26#32
  let c0_1215 : Index := 0#32
  let c0_1216 : Index := 0#32
  ![v3087.toNat, 26, 0, 0]
def k0_off97 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3091 : Index := Scalar.indexCast v2187
  let c27_1217 : Index := 27#32
  let c0_1218 : Index := 0#32
  let c0_1219 : Index := 0#32
  ![v3091.toNat, 27, 0, 0]
def k0_off98 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3095 : Index := Scalar.indexCast v2187
  let c28_1220 : Index := 28#32
  let c0_1221 : Index := 0#32
  let c0_1222 : Index := 0#32
  ![v3095.toNat, 28, 0, 0]
def k0_off99 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3099 : Index := Scalar.indexCast v2187
  let c29_1223 : Index := 29#32
  let c0_1224 : Index := 0#32
  let c0_1225 : Index := 0#32
  ![v3099.toNat, 29, 0, 0]
def k0_off100 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3103 : Index := Scalar.indexCast v2187
  let c30_1226 : Index := 30#32
  let c0_1227 : Index := 0#32
  let c0_1228 : Index := 0#32
  ![v3103.toNat, 30, 0, 0]
def k0_off101 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3107 : Index := Scalar.indexCast v2187
  let c31_1229 : Index := 31#32
  let c0_1230 : Index := 0#32
  let c0_1231 : Index := 0#32
  ![v3107.toNat, 31, 0, 0]
def k0_off102 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3864 : Index := Scalar.indexCast v2187
  let c0_1473 : Index := 0#32
  let c8_1474 : Index := 8#32
  let c0_1475 : Index := 0#32
  ![v3864.toNat, 0, 8, 0]
def k0_off103 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3868 : Index := Scalar.indexCast v2187
  let c1_1476 : Index := 1#32
  let c8_1477 : Index := 8#32
  let c0_1478 : Index := 0#32
  ![v3868.toNat, 1, 8, 0]
def k0_off104 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3872 : Index := Scalar.indexCast v2187
  let c2_1479 : Index := 2#32
  let c8_1480 : Index := 8#32
  let c0_1481 : Index := 0#32
  ![v3872.toNat, 2, 8, 0]
def k0_off105 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3876 : Index := Scalar.indexCast v2187
  let c3_1482 : Index := 3#32
  let c8_1483 : Index := 8#32
  let c0_1484 : Index := 0#32
  ![v3876.toNat, 3, 8, 0]
def k0_off106 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3880 : Index := Scalar.indexCast v2187
  let c4_1485 : Index := 4#32
  let c8_1486 : Index := 8#32
  let c0_1487 : Index := 0#32
  ![v3880.toNat, 4, 8, 0]
def k0_off107 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3884 : Index := Scalar.indexCast v2187
  let c5_1488 : Index := 5#32
  let c8_1489 : Index := 8#32
  let c0_1490 : Index := 0#32
  ![v3884.toNat, 5, 8, 0]
def k0_off108 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3888 : Index := Scalar.indexCast v2187
  let c6_1491 : Index := 6#32
  let c8_1492 : Index := 8#32
  let c0_1493 : Index := 0#32
  ![v3888.toNat, 6, 8, 0]
def k0_off109 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3892 : Index := Scalar.indexCast v2187
  let c7_1494 : Index := 7#32
  let c8_1495 : Index := 8#32
  let c0_1496 : Index := 0#32
  ![v3892.toNat, 7, 8, 0]
def k0_off110 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3896 : Index := Scalar.indexCast v2187
  let c8_1497 : Index := 8#32
  let c8_1498 : Index := 8#32
  let c0_1499 : Index := 0#32
  ![v3896.toNat, 8, 8, 0]
def k0_off111 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3900 : Index := Scalar.indexCast v2187
  let c9_1500 : Index := 9#32
  let c8_1501 : Index := 8#32
  let c0_1502 : Index := 0#32
  ![v3900.toNat, 9, 8, 0]
def k0_off112 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3904 : Index := Scalar.indexCast v2187
  let c10_1503 : Index := 10#32
  let c8_1504 : Index := 8#32
  let c0_1505 : Index := 0#32
  ![v3904.toNat, 10, 8, 0]
def k0_off113 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3908 : Index := Scalar.indexCast v2187
  let c11_1506 : Index := 11#32
  let c8_1507 : Index := 8#32
  let c0_1508 : Index := 0#32
  ![v3908.toNat, 11, 8, 0]
def k0_off114 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3912 : Index := Scalar.indexCast v2187
  let c12_1509 : Index := 12#32
  let c8_1510 : Index := 8#32
  let c0_1511 : Index := 0#32
  ![v3912.toNat, 12, 8, 0]
def k0_off115 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3916 : Index := Scalar.indexCast v2187
  let c13_1512 : Index := 13#32
  let c8_1513 : Index := 8#32
  let c0_1514 : Index := 0#32
  ![v3916.toNat, 13, 8, 0]
def k0_off116 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3920 : Index := Scalar.indexCast v2187
  let c14_1515 : Index := 14#32
  let c8_1516 : Index := 8#32
  let c0_1517 : Index := 0#32
  ![v3920.toNat, 14, 8, 0]
def k0_off117 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3924 : Index := Scalar.indexCast v2187
  let c15_1518 : Index := 15#32
  let c8_1519 : Index := 8#32
  let c0_1520 : Index := 0#32
  ![v3924.toNat, 15, 8, 0]
def k0_off118 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3928 : Index := Scalar.indexCast v2187
  let c16_1521 : Index := 16#32
  let c8_1522 : Index := 8#32
  let c0_1523 : Index := 0#32
  ![v3928.toNat, 16, 8, 0]
def k0_off119 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3932 : Index := Scalar.indexCast v2187
  let c17_1524 : Index := 17#32
  let c8_1525 : Index := 8#32
  let c0_1526 : Index := 0#32
  ![v3932.toNat, 17, 8, 0]
def k0_off120 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3936 : Index := Scalar.indexCast v2187
  let c18_1527 : Index := 18#32
  let c8_1528 : Index := 8#32
  let c0_1529 : Index := 0#32
  ![v3936.toNat, 18, 8, 0]
def k0_off121 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3940 : Index := Scalar.indexCast v2187
  let c19_1530 : Index := 19#32
  let c8_1531 : Index := 8#32
  let c0_1532 : Index := 0#32
  ![v3940.toNat, 19, 8, 0]
def k0_off122 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3944 : Index := Scalar.indexCast v2187
  let c20_1533 : Index := 20#32
  let c8_1534 : Index := 8#32
  let c0_1535 : Index := 0#32
  ![v3944.toNat, 20, 8, 0]
def k0_off123 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3948 : Index := Scalar.indexCast v2187
  let c21_1536 : Index := 21#32
  let c8_1537 : Index := 8#32
  let c0_1538 : Index := 0#32
  ![v3948.toNat, 21, 8, 0]
def k0_off124 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3952 : Index := Scalar.indexCast v2187
  let c22_1539 : Index := 22#32
  let c8_1540 : Index := 8#32
  let c0_1541 : Index := 0#32
  ![v3952.toNat, 22, 8, 0]
def k0_off125 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3956 : Index := Scalar.indexCast v2187
  let c23_1542 : Index := 23#32
  let c8_1543 : Index := 8#32
  let c0_1544 : Index := 0#32
  ![v3956.toNat, 23, 8, 0]
def k0_off126 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3960 : Index := Scalar.indexCast v2187
  let c24_1545 : Index := 24#32
  let c8_1546 : Index := 8#32
  let c0_1547 : Index := 0#32
  ![v3960.toNat, 24, 8, 0]
def k0_off127 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3964 : Index := Scalar.indexCast v2187
  let c25_1548 : Index := 25#32
  let c8_1549 : Index := 8#32
  let c0_1550 : Index := 0#32
  ![v3964.toNat, 25, 8, 0]
def k0_off128 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3968 : Index := Scalar.indexCast v2187
  let c26_1551 : Index := 26#32
  let c8_1552 : Index := 8#32
  let c0_1553 : Index := 0#32
  ![v3968.toNat, 26, 8, 0]
def k0_off129 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3972 : Index := Scalar.indexCast v2187
  let c27_1554 : Index := 27#32
  let c8_1555 : Index := 8#32
  let c0_1556 : Index := 0#32
  ![v3972.toNat, 27, 8, 0]
def k0_off130 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3976 : Index := Scalar.indexCast v2187
  let c28_1557 : Index := 28#32
  let c8_1558 : Index := 8#32
  let c0_1559 : Index := 0#32
  ![v3976.toNat, 28, 8, 0]
def k0_off131 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3980 : Index := Scalar.indexCast v2187
  let c29_1560 : Index := 29#32
  let c8_1561 : Index := 8#32
  let c0_1562 : Index := 0#32
  ![v3980.toNat, 29, 8, 0]
def k0_off132 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3984 : Index := Scalar.indexCast v2187
  let c30_1563 : Index := 30#32
  let c8_1564 : Index := 8#32
  let c0_1565 : Index := 0#32
  ![v3984.toNat, 30, 8, 0]
def k0_off133 (i : grid0.Coords) (k0_t2 : Fin (k0_t2_loop i).trips) (c0_i32_880 : BitVec 32) : Fin 4 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3988 : Index := Scalar.indexCast v2187
  let c31_1566 : Index := 31#32
  let c8_1567 : Index := 8#32
  let c0_1568 : Index := 0#32
  ![v3988.toNat, 31, 8, 0]
def k0_off134 (i : grid0.Coords) (k0_t2 : Fin (k0_t2_loop i).trips) (c0_i32_880 : BitVec 32) : Fin 3 → Nat :=
  let c0_i32_879 : BitVec 32 := 0#32
  let c0_i32_21 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let v57 : BitVec 32 := Scalar.subi v56 c0_i32_21
  let c1_i32_22 : BitVec 32 := 1#32
  let v59 : BitVec 32 := Scalar.divsi v57 c1_i32_22
  let v60 : BitVec 32 := Scalar.muli v59 c1_i32_22
  let v61 : BitVec 32 := Scalar.addi c0_i32_21 v60
  let c1_i32_24 : BitVec 32 := 1#32
  let arg17 : BitVec 32 := Scf.iv v61 c1_i32_24 k0_t2
  let c8_i32_878 : BitVec 32 := 8#32
  let v2185 : BitVec 32 := Scalar.muli arg17 c8_i32_878
  let v2186 : BitVec 32 := Scalar.addi c0_i32_879 v2185
  let v2187 : BitVec 32 := Scalar.addi v2186 c0_i32_880
  let v3993 : Index := Scalar.indexCast v2187
  let c0_1570 : Index := 0#32
  let c0_1571 : Index := 0#32
  ![v3993.toNat, 0, 0]
@[reducible] def k0_t3_loop (i : grid0.Coords) : Scf.Loop 32 :=
  let c0_i32_27 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_25 : BitVec 32 := 0#32
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_29 : BitVec 32 := 1#32
  ⟨c0_i32_27, v70, c1_i32_29⟩
def k0_off135 (i : grid0.Coords) (k0_t3 : Fin (k0_t3_loop i).trips) (c0_i32_879 : BitVec 32) : Fin 4 → Nat :=
  let c0_883 : Index := 0#32
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2191 : Index := Scalar.indexCast v2187
  let c0_884 : Index := 0#32
  let c0_885 : Index := 0#32
  ![0, v2191.toNat, 0, 0]
def k0_off136 (i : grid0.Coords) (k0_t3 : Fin (k0_t3_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2222 : Index := Scalar.indexCast v2187
  let c0_890 : Index := 0#32
  let c0_891 : Index := 0#32
  ![v2222.toNat, 0, 0]
def k0_off137 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2979 : Index := Scalar.indexCast v2187
  let c0_1133 : Index := 0#32
  let c0_1134 : Index := 0#32
  let c0_1135 : Index := 0#32
  ![v2979.toNat, 0, 0, 0]
def k0_off138 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2983 : Index := Scalar.indexCast v2187
  let c1_1136 : Index := 1#32
  let c0_1137 : Index := 0#32
  let c0_1138 : Index := 0#32
  ![v2983.toNat, 1, 0, 0]
def k0_off139 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2987 : Index := Scalar.indexCast v2187
  let c2_1139 : Index := 2#32
  let c0_1140 : Index := 0#32
  let c0_1141 : Index := 0#32
  ![v2987.toNat, 2, 0, 0]
def k0_off140 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2991 : Index := Scalar.indexCast v2187
  let c3_1142 : Index := 3#32
  let c0_1143 : Index := 0#32
  let c0_1144 : Index := 0#32
  ![v2991.toNat, 3, 0, 0]
def k0_off141 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2995 : Index := Scalar.indexCast v2187
  let c4_1145 : Index := 4#32
  let c0_1146 : Index := 0#32
  let c0_1147 : Index := 0#32
  ![v2995.toNat, 4, 0, 0]
def k0_off142 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2999 : Index := Scalar.indexCast v2187
  let c5_1148 : Index := 5#32
  let c0_1149 : Index := 0#32
  let c0_1150 : Index := 0#32
  ![v2999.toNat, 5, 0, 0]
def k0_off143 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3003 : Index := Scalar.indexCast v2187
  let c6_1151 : Index := 6#32
  let c0_1152 : Index := 0#32
  let c0_1153 : Index := 0#32
  ![v3003.toNat, 6, 0, 0]
def k0_off144 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3007 : Index := Scalar.indexCast v2187
  let c7_1154 : Index := 7#32
  let c0_1155 : Index := 0#32
  let c0_1156 : Index := 0#32
  ![v3007.toNat, 7, 0, 0]
def k0_off145 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3011 : Index := Scalar.indexCast v2187
  let c8_1157 : Index := 8#32
  let c0_1158 : Index := 0#32
  let c0_1159 : Index := 0#32
  ![v3011.toNat, 8, 0, 0]
def k0_off146 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3015 : Index := Scalar.indexCast v2187
  let c9_1160 : Index := 9#32
  let c0_1161 : Index := 0#32
  let c0_1162 : Index := 0#32
  ![v3015.toNat, 9, 0, 0]
def k0_off147 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3019 : Index := Scalar.indexCast v2187
  let c10_1163 : Index := 10#32
  let c0_1164 : Index := 0#32
  let c0_1165 : Index := 0#32
  ![v3019.toNat, 10, 0, 0]
def k0_off148 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3023 : Index := Scalar.indexCast v2187
  let c11_1166 : Index := 11#32
  let c0_1167 : Index := 0#32
  let c0_1168 : Index := 0#32
  ![v3023.toNat, 11, 0, 0]
def k0_off149 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3027 : Index := Scalar.indexCast v2187
  let c12_1169 : Index := 12#32
  let c0_1170 : Index := 0#32
  let c0_1171 : Index := 0#32
  ![v3027.toNat, 12, 0, 0]
def k0_off150 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3031 : Index := Scalar.indexCast v2187
  let c13_1172 : Index := 13#32
  let c0_1173 : Index := 0#32
  let c0_1174 : Index := 0#32
  ![v3031.toNat, 13, 0, 0]
def k0_off151 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3035 : Index := Scalar.indexCast v2187
  let c14_1175 : Index := 14#32
  let c0_1176 : Index := 0#32
  let c0_1177 : Index := 0#32
  ![v3035.toNat, 14, 0, 0]
def k0_off152 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3039 : Index := Scalar.indexCast v2187
  let c15_1178 : Index := 15#32
  let c0_1179 : Index := 0#32
  let c0_1180 : Index := 0#32
  ![v3039.toNat, 15, 0, 0]
def k0_off153 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3043 : Index := Scalar.indexCast v2187
  let c16_1181 : Index := 16#32
  let c0_1182 : Index := 0#32
  let c0_1183 : Index := 0#32
  ![v3043.toNat, 16, 0, 0]
def k0_off154 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3047 : Index := Scalar.indexCast v2187
  let c17_1184 : Index := 17#32
  let c0_1185 : Index := 0#32
  let c0_1186 : Index := 0#32
  ![v3047.toNat, 17, 0, 0]
def k0_off155 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3051 : Index := Scalar.indexCast v2187
  let c18_1187 : Index := 18#32
  let c0_1188 : Index := 0#32
  let c0_1189 : Index := 0#32
  ![v3051.toNat, 18, 0, 0]
def k0_off156 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3055 : Index := Scalar.indexCast v2187
  let c19_1190 : Index := 19#32
  let c0_1191 : Index := 0#32
  let c0_1192 : Index := 0#32
  ![v3055.toNat, 19, 0, 0]
def k0_off157 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3059 : Index := Scalar.indexCast v2187
  let c20_1193 : Index := 20#32
  let c0_1194 : Index := 0#32
  let c0_1195 : Index := 0#32
  ![v3059.toNat, 20, 0, 0]
def k0_off158 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3063 : Index := Scalar.indexCast v2187
  let c21_1196 : Index := 21#32
  let c0_1197 : Index := 0#32
  let c0_1198 : Index := 0#32
  ![v3063.toNat, 21, 0, 0]
def k0_off159 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3067 : Index := Scalar.indexCast v2187
  let c22_1199 : Index := 22#32
  let c0_1200 : Index := 0#32
  let c0_1201 : Index := 0#32
  ![v3067.toNat, 22, 0, 0]
def k0_off160 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3071 : Index := Scalar.indexCast v2187
  let c23_1202 : Index := 23#32
  let c0_1203 : Index := 0#32
  let c0_1204 : Index := 0#32
  ![v3071.toNat, 23, 0, 0]
def k0_off161 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3075 : Index := Scalar.indexCast v2187
  let c24_1205 : Index := 24#32
  let c0_1206 : Index := 0#32
  let c0_1207 : Index := 0#32
  ![v3075.toNat, 24, 0, 0]
def k0_off162 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3079 : Index := Scalar.indexCast v2187
  let c25_1208 : Index := 25#32
  let c0_1209 : Index := 0#32
  let c0_1210 : Index := 0#32
  ![v3079.toNat, 25, 0, 0]
def k0_off163 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3083 : Index := Scalar.indexCast v2187
  let c26_1211 : Index := 26#32
  let c0_1212 : Index := 0#32
  let c0_1213 : Index := 0#32
  ![v3083.toNat, 26, 0, 0]
def k0_off164 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3087 : Index := Scalar.indexCast v2187
  let c27_1214 : Index := 27#32
  let c0_1215 : Index := 0#32
  let c0_1216 : Index := 0#32
  ![v3087.toNat, 27, 0, 0]
def k0_off165 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3091 : Index := Scalar.indexCast v2187
  let c28_1217 : Index := 28#32
  let c0_1218 : Index := 0#32
  let c0_1219 : Index := 0#32
  ![v3091.toNat, 28, 0, 0]
def k0_off166 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3095 : Index := Scalar.indexCast v2187
  let c29_1220 : Index := 29#32
  let c0_1221 : Index := 0#32
  let c0_1222 : Index := 0#32
  ![v3095.toNat, 29, 0, 0]
def k0_off167 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3099 : Index := Scalar.indexCast v2187
  let c30_1223 : Index := 30#32
  let c0_1224 : Index := 0#32
  let c0_1225 : Index := 0#32
  ![v3099.toNat, 30, 0, 0]
def k0_off168 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3103 : Index := Scalar.indexCast v2187
  let c31_1226 : Index := 31#32
  let c0_1227 : Index := 0#32
  let c0_1228 : Index := 0#32
  ![v3103.toNat, 31, 0, 0]
def k0_off169 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3860 : Index := Scalar.indexCast v2187
  let c0_1470 : Index := 0#32
  let c8_1471 : Index := 8#32
  let c0_1472 : Index := 0#32
  ![v3860.toNat, 0, 8, 0]
def k0_off170 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3864 : Index := Scalar.indexCast v2187
  let c1_1473 : Index := 1#32
  let c8_1474 : Index := 8#32
  let c0_1475 : Index := 0#32
  ![v3864.toNat, 1, 8, 0]
def k0_off171 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3868 : Index := Scalar.indexCast v2187
  let c2_1476 : Index := 2#32
  let c8_1477 : Index := 8#32
  let c0_1478 : Index := 0#32
  ![v3868.toNat, 2, 8, 0]
def k0_off172 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3872 : Index := Scalar.indexCast v2187
  let c3_1479 : Index := 3#32
  let c8_1480 : Index := 8#32
  let c0_1481 : Index := 0#32
  ![v3872.toNat, 3, 8, 0]
def k0_off173 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3876 : Index := Scalar.indexCast v2187
  let c4_1482 : Index := 4#32
  let c8_1483 : Index := 8#32
  let c0_1484 : Index := 0#32
  ![v3876.toNat, 4, 8, 0]
def k0_off174 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3880 : Index := Scalar.indexCast v2187
  let c5_1485 : Index := 5#32
  let c8_1486 : Index := 8#32
  let c0_1487 : Index := 0#32
  ![v3880.toNat, 5, 8, 0]
def k0_off175 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3884 : Index := Scalar.indexCast v2187
  let c6_1488 : Index := 6#32
  let c8_1489 : Index := 8#32
  let c0_1490 : Index := 0#32
  ![v3884.toNat, 6, 8, 0]
def k0_off176 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3888 : Index := Scalar.indexCast v2187
  let c7_1491 : Index := 7#32
  let c8_1492 : Index := 8#32
  let c0_1493 : Index := 0#32
  ![v3888.toNat, 7, 8, 0]
def k0_off177 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3892 : Index := Scalar.indexCast v2187
  let c8_1494 : Index := 8#32
  let c8_1495 : Index := 8#32
  let c0_1496 : Index := 0#32
  ![v3892.toNat, 8, 8, 0]
def k0_off178 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3896 : Index := Scalar.indexCast v2187
  let c9_1497 : Index := 9#32
  let c8_1498 : Index := 8#32
  let c0_1499 : Index := 0#32
  ![v3896.toNat, 9, 8, 0]
def k0_off179 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3900 : Index := Scalar.indexCast v2187
  let c10_1500 : Index := 10#32
  let c8_1501 : Index := 8#32
  let c0_1502 : Index := 0#32
  ![v3900.toNat, 10, 8, 0]
def k0_off180 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3904 : Index := Scalar.indexCast v2187
  let c11_1503 : Index := 11#32
  let c8_1504 : Index := 8#32
  let c0_1505 : Index := 0#32
  ![v3904.toNat, 11, 8, 0]
def k0_off181 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3908 : Index := Scalar.indexCast v2187
  let c12_1506 : Index := 12#32
  let c8_1507 : Index := 8#32
  let c0_1508 : Index := 0#32
  ![v3908.toNat, 12, 8, 0]
def k0_off182 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3912 : Index := Scalar.indexCast v2187
  let c13_1509 : Index := 13#32
  let c8_1510 : Index := 8#32
  let c0_1511 : Index := 0#32
  ![v3912.toNat, 13, 8, 0]
def k0_off183 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3916 : Index := Scalar.indexCast v2187
  let c14_1512 : Index := 14#32
  let c8_1513 : Index := 8#32
  let c0_1514 : Index := 0#32
  ![v3916.toNat, 14, 8, 0]
def k0_off184 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3920 : Index := Scalar.indexCast v2187
  let c15_1515 : Index := 15#32
  let c8_1516 : Index := 8#32
  let c0_1517 : Index := 0#32
  ![v3920.toNat, 15, 8, 0]
def k0_off185 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3924 : Index := Scalar.indexCast v2187
  let c16_1518 : Index := 16#32
  let c8_1519 : Index := 8#32
  let c0_1520 : Index := 0#32
  ![v3924.toNat, 16, 8, 0]
def k0_off186 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3928 : Index := Scalar.indexCast v2187
  let c17_1521 : Index := 17#32
  let c8_1522 : Index := 8#32
  let c0_1523 : Index := 0#32
  ![v3928.toNat, 17, 8, 0]
def k0_off187 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3932 : Index := Scalar.indexCast v2187
  let c18_1524 : Index := 18#32
  let c8_1525 : Index := 8#32
  let c0_1526 : Index := 0#32
  ![v3932.toNat, 18, 8, 0]
def k0_off188 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3936 : Index := Scalar.indexCast v2187
  let c19_1527 : Index := 19#32
  let c8_1528 : Index := 8#32
  let c0_1529 : Index := 0#32
  ![v3936.toNat, 19, 8, 0]
def k0_off189 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3940 : Index := Scalar.indexCast v2187
  let c20_1530 : Index := 20#32
  let c8_1531 : Index := 8#32
  let c0_1532 : Index := 0#32
  ![v3940.toNat, 20, 8, 0]
def k0_off190 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3944 : Index := Scalar.indexCast v2187
  let c21_1533 : Index := 21#32
  let c8_1534 : Index := 8#32
  let c0_1535 : Index := 0#32
  ![v3944.toNat, 21, 8, 0]
def k0_off191 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3948 : Index := Scalar.indexCast v2187
  let c22_1536 : Index := 22#32
  let c8_1537 : Index := 8#32
  let c0_1538 : Index := 0#32
  ![v3948.toNat, 22, 8, 0]
def k0_off192 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3952 : Index := Scalar.indexCast v2187
  let c23_1539 : Index := 23#32
  let c8_1540 : Index := 8#32
  let c0_1541 : Index := 0#32
  ![v3952.toNat, 23, 8, 0]
def k0_off193 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3956 : Index := Scalar.indexCast v2187
  let c24_1542 : Index := 24#32
  let c8_1543 : Index := 8#32
  let c0_1544 : Index := 0#32
  ![v3956.toNat, 24, 8, 0]
def k0_off194 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3960 : Index := Scalar.indexCast v2187
  let c25_1545 : Index := 25#32
  let c8_1546 : Index := 8#32
  let c0_1547 : Index := 0#32
  ![v3960.toNat, 25, 8, 0]
def k0_off195 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3964 : Index := Scalar.indexCast v2187
  let c26_1548 : Index := 26#32
  let c8_1549 : Index := 8#32
  let c0_1550 : Index := 0#32
  ![v3964.toNat, 26, 8, 0]
def k0_off196 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3968 : Index := Scalar.indexCast v2187
  let c27_1551 : Index := 27#32
  let c8_1552 : Index := 8#32
  let c0_1553 : Index := 0#32
  ![v3968.toNat, 27, 8, 0]
def k0_off197 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3972 : Index := Scalar.indexCast v2187
  let c28_1554 : Index := 28#32
  let c8_1555 : Index := 8#32
  let c0_1556 : Index := 0#32
  ![v3972.toNat, 28, 8, 0]
def k0_off198 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3976 : Index := Scalar.indexCast v2187
  let c29_1557 : Index := 29#32
  let c8_1558 : Index := 8#32
  let c0_1559 : Index := 0#32
  ![v3976.toNat, 29, 8, 0]
def k0_off199 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3980 : Index := Scalar.indexCast v2187
  let c30_1560 : Index := 30#32
  let c8_1561 : Index := 8#32
  let c0_1562 : Index := 0#32
  ![v3980.toNat, 30, 8, 0]
def k0_off200 (i : grid0.Coords) (k0_t3 : Fin (k0_t3_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3984 : Index := Scalar.indexCast v2187
  let c31_1563 : Index := 31#32
  let c8_1564 : Index := 8#32
  let c0_1565 : Index := 0#32
  ![v3984.toNat, 31, 8, 0]
def k0_off201 (i : grid0.Coords) (k0_t3 : Fin (k0_t3_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let c1_i32_29 : BitVec 32 := 1#32
  let arg17 : BitVec 32 := Scf.iv c0_i32_27 c1_i32_29 k0_t3
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3989 : Index := Scalar.indexCast v2187
  let c0_1567 : Index := 0#32
  let c0_1568 : Index := 0#32
  ![v3989.toNat, 0, 0]
@[reducible] def k0_t4_loop (i : grid0.Coords) : Scf.Loop 32 :=
  let c0_i32_27 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_25 : BitVec 32 := 0#32
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let v67 : BitVec 32 := Scalar.addi c0_i32_27 v66
  let c1_i32_30 : BitVec 32 := 1#32
  ⟨v70, v67, c1_i32_30⟩
def k0_off202 (i : grid0.Coords) (k0_t4 : Fin (k0_t4_loop i).trips) (c0_i32_879 : BitVec 32) : Fin 4 → Nat :=
  let c0_883 : Index := 0#32
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2191 : Index := Scalar.indexCast v2187
  let c0_884 : Index := 0#32
  let c0_885 : Index := 0#32
  ![0, v2191.toNat, 0, 0]
def k0_off203 (i : grid0.Coords) (k0_t4 : Fin (k0_t4_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2222 : Index := Scalar.indexCast v2187
  let c0_890 : Index := 0#32
  let c0_891 : Index := 0#32
  ![v2222.toNat, 0, 0]
def k0_off204 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2979 : Index := Scalar.indexCast v2187
  let c0_1133 : Index := 0#32
  let c0_1134 : Index := 0#32
  let c0_1135 : Index := 0#32
  ![v2979.toNat, 0, 0, 0]
def k0_off205 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2983 : Index := Scalar.indexCast v2187
  let c1_1136 : Index := 1#32
  let c0_1137 : Index := 0#32
  let c0_1138 : Index := 0#32
  ![v2983.toNat, 1, 0, 0]
def k0_off206 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2987 : Index := Scalar.indexCast v2187
  let c2_1139 : Index := 2#32
  let c0_1140 : Index := 0#32
  let c0_1141 : Index := 0#32
  ![v2987.toNat, 2, 0, 0]
def k0_off207 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2991 : Index := Scalar.indexCast v2187
  let c3_1142 : Index := 3#32
  let c0_1143 : Index := 0#32
  let c0_1144 : Index := 0#32
  ![v2991.toNat, 3, 0, 0]
def k0_off208 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2995 : Index := Scalar.indexCast v2187
  let c4_1145 : Index := 4#32
  let c0_1146 : Index := 0#32
  let c0_1147 : Index := 0#32
  ![v2995.toNat, 4, 0, 0]
def k0_off209 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v2999 : Index := Scalar.indexCast v2187
  let c5_1148 : Index := 5#32
  let c0_1149 : Index := 0#32
  let c0_1150 : Index := 0#32
  ![v2999.toNat, 5, 0, 0]
def k0_off210 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3003 : Index := Scalar.indexCast v2187
  let c6_1151 : Index := 6#32
  let c0_1152 : Index := 0#32
  let c0_1153 : Index := 0#32
  ![v3003.toNat, 6, 0, 0]
def k0_off211 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3007 : Index := Scalar.indexCast v2187
  let c7_1154 : Index := 7#32
  let c0_1155 : Index := 0#32
  let c0_1156 : Index := 0#32
  ![v3007.toNat, 7, 0, 0]
def k0_off212 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3011 : Index := Scalar.indexCast v2187
  let c8_1157 : Index := 8#32
  let c0_1158 : Index := 0#32
  let c0_1159 : Index := 0#32
  ![v3011.toNat, 8, 0, 0]
def k0_off213 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3015 : Index := Scalar.indexCast v2187
  let c9_1160 : Index := 9#32
  let c0_1161 : Index := 0#32
  let c0_1162 : Index := 0#32
  ![v3015.toNat, 9, 0, 0]
def k0_off214 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3019 : Index := Scalar.indexCast v2187
  let c10_1163 : Index := 10#32
  let c0_1164 : Index := 0#32
  let c0_1165 : Index := 0#32
  ![v3019.toNat, 10, 0, 0]
def k0_off215 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3023 : Index := Scalar.indexCast v2187
  let c11_1166 : Index := 11#32
  let c0_1167 : Index := 0#32
  let c0_1168 : Index := 0#32
  ![v3023.toNat, 11, 0, 0]
def k0_off216 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3027 : Index := Scalar.indexCast v2187
  let c12_1169 : Index := 12#32
  let c0_1170 : Index := 0#32
  let c0_1171 : Index := 0#32
  ![v3027.toNat, 12, 0, 0]
def k0_off217 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3031 : Index := Scalar.indexCast v2187
  let c13_1172 : Index := 13#32
  let c0_1173 : Index := 0#32
  let c0_1174 : Index := 0#32
  ![v3031.toNat, 13, 0, 0]
def k0_off218 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3035 : Index := Scalar.indexCast v2187
  let c14_1175 : Index := 14#32
  let c0_1176 : Index := 0#32
  let c0_1177 : Index := 0#32
  ![v3035.toNat, 14, 0, 0]
def k0_off219 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3039 : Index := Scalar.indexCast v2187
  let c15_1178 : Index := 15#32
  let c0_1179 : Index := 0#32
  let c0_1180 : Index := 0#32
  ![v3039.toNat, 15, 0, 0]
def k0_off220 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3043 : Index := Scalar.indexCast v2187
  let c16_1181 : Index := 16#32
  let c0_1182 : Index := 0#32
  let c0_1183 : Index := 0#32
  ![v3043.toNat, 16, 0, 0]
def k0_off221 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3047 : Index := Scalar.indexCast v2187
  let c17_1184 : Index := 17#32
  let c0_1185 : Index := 0#32
  let c0_1186 : Index := 0#32
  ![v3047.toNat, 17, 0, 0]
def k0_off222 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3051 : Index := Scalar.indexCast v2187
  let c18_1187 : Index := 18#32
  let c0_1188 : Index := 0#32
  let c0_1189 : Index := 0#32
  ![v3051.toNat, 18, 0, 0]
def k0_off223 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3055 : Index := Scalar.indexCast v2187
  let c19_1190 : Index := 19#32
  let c0_1191 : Index := 0#32
  let c0_1192 : Index := 0#32
  ![v3055.toNat, 19, 0, 0]
def k0_off224 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3059 : Index := Scalar.indexCast v2187
  let c20_1193 : Index := 20#32
  let c0_1194 : Index := 0#32
  let c0_1195 : Index := 0#32
  ![v3059.toNat, 20, 0, 0]
def k0_off225 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3063 : Index := Scalar.indexCast v2187
  let c21_1196 : Index := 21#32
  let c0_1197 : Index := 0#32
  let c0_1198 : Index := 0#32
  ![v3063.toNat, 21, 0, 0]
def k0_off226 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3067 : Index := Scalar.indexCast v2187
  let c22_1199 : Index := 22#32
  let c0_1200 : Index := 0#32
  let c0_1201 : Index := 0#32
  ![v3067.toNat, 22, 0, 0]
def k0_off227 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3071 : Index := Scalar.indexCast v2187
  let c23_1202 : Index := 23#32
  let c0_1203 : Index := 0#32
  let c0_1204 : Index := 0#32
  ![v3071.toNat, 23, 0, 0]
def k0_off228 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3075 : Index := Scalar.indexCast v2187
  let c24_1205 : Index := 24#32
  let c0_1206 : Index := 0#32
  let c0_1207 : Index := 0#32
  ![v3075.toNat, 24, 0, 0]
def k0_off229 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3079 : Index := Scalar.indexCast v2187
  let c25_1208 : Index := 25#32
  let c0_1209 : Index := 0#32
  let c0_1210 : Index := 0#32
  ![v3079.toNat, 25, 0, 0]
def k0_off230 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3083 : Index := Scalar.indexCast v2187
  let c26_1211 : Index := 26#32
  let c0_1212 : Index := 0#32
  let c0_1213 : Index := 0#32
  ![v3083.toNat, 26, 0, 0]
def k0_off231 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3087 : Index := Scalar.indexCast v2187
  let c27_1214 : Index := 27#32
  let c0_1215 : Index := 0#32
  let c0_1216 : Index := 0#32
  ![v3087.toNat, 27, 0, 0]
def k0_off232 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3091 : Index := Scalar.indexCast v2187
  let c28_1217 : Index := 28#32
  let c0_1218 : Index := 0#32
  let c0_1219 : Index := 0#32
  ![v3091.toNat, 28, 0, 0]
def k0_off233 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3095 : Index := Scalar.indexCast v2187
  let c29_1220 : Index := 29#32
  let c0_1221 : Index := 0#32
  let c0_1222 : Index := 0#32
  ![v3095.toNat, 29, 0, 0]
def k0_off234 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3099 : Index := Scalar.indexCast v2187
  let c30_1223 : Index := 30#32
  let c0_1224 : Index := 0#32
  let c0_1225 : Index := 0#32
  ![v3099.toNat, 30, 0, 0]
def k0_off235 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3103 : Index := Scalar.indexCast v2187
  let c31_1226 : Index := 31#32
  let c0_1227 : Index := 0#32
  let c0_1228 : Index := 0#32
  ![v3103.toNat, 31, 0, 0]
def k0_off236 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3860 : Index := Scalar.indexCast v2187
  let c0_1470 : Index := 0#32
  let c8_1471 : Index := 8#32
  let c0_1472 : Index := 0#32
  ![v3860.toNat, 0, 8, 0]
def k0_off237 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3864 : Index := Scalar.indexCast v2187
  let c1_1473 : Index := 1#32
  let c8_1474 : Index := 8#32
  let c0_1475 : Index := 0#32
  ![v3864.toNat, 1, 8, 0]
def k0_off238 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3868 : Index := Scalar.indexCast v2187
  let c2_1476 : Index := 2#32
  let c8_1477 : Index := 8#32
  let c0_1478 : Index := 0#32
  ![v3868.toNat, 2, 8, 0]
def k0_off239 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3872 : Index := Scalar.indexCast v2187
  let c3_1479 : Index := 3#32
  let c8_1480 : Index := 8#32
  let c0_1481 : Index := 0#32
  ![v3872.toNat, 3, 8, 0]
def k0_off240 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3876 : Index := Scalar.indexCast v2187
  let c4_1482 : Index := 4#32
  let c8_1483 : Index := 8#32
  let c0_1484 : Index := 0#32
  ![v3876.toNat, 4, 8, 0]
def k0_off241 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3880 : Index := Scalar.indexCast v2187
  let c5_1485 : Index := 5#32
  let c8_1486 : Index := 8#32
  let c0_1487 : Index := 0#32
  ![v3880.toNat, 5, 8, 0]
def k0_off242 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3884 : Index := Scalar.indexCast v2187
  let c6_1488 : Index := 6#32
  let c8_1489 : Index := 8#32
  let c0_1490 : Index := 0#32
  ![v3884.toNat, 6, 8, 0]
def k0_off243 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3888 : Index := Scalar.indexCast v2187
  let c7_1491 : Index := 7#32
  let c8_1492 : Index := 8#32
  let c0_1493 : Index := 0#32
  ![v3888.toNat, 7, 8, 0]
def k0_off244 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3892 : Index := Scalar.indexCast v2187
  let c8_1494 : Index := 8#32
  let c8_1495 : Index := 8#32
  let c0_1496 : Index := 0#32
  ![v3892.toNat, 8, 8, 0]
def k0_off245 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3896 : Index := Scalar.indexCast v2187
  let c9_1497 : Index := 9#32
  let c8_1498 : Index := 8#32
  let c0_1499 : Index := 0#32
  ![v3896.toNat, 9, 8, 0]
def k0_off246 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3900 : Index := Scalar.indexCast v2187
  let c10_1500 : Index := 10#32
  let c8_1501 : Index := 8#32
  let c0_1502 : Index := 0#32
  ![v3900.toNat, 10, 8, 0]
def k0_off247 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3904 : Index := Scalar.indexCast v2187
  let c11_1503 : Index := 11#32
  let c8_1504 : Index := 8#32
  let c0_1505 : Index := 0#32
  ![v3904.toNat, 11, 8, 0]
def k0_off248 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3908 : Index := Scalar.indexCast v2187
  let c12_1506 : Index := 12#32
  let c8_1507 : Index := 8#32
  let c0_1508 : Index := 0#32
  ![v3908.toNat, 12, 8, 0]
def k0_off249 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3912 : Index := Scalar.indexCast v2187
  let c13_1509 : Index := 13#32
  let c8_1510 : Index := 8#32
  let c0_1511 : Index := 0#32
  ![v3912.toNat, 13, 8, 0]
def k0_off250 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3916 : Index := Scalar.indexCast v2187
  let c14_1512 : Index := 14#32
  let c8_1513 : Index := 8#32
  let c0_1514 : Index := 0#32
  ![v3916.toNat, 14, 8, 0]
def k0_off251 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3920 : Index := Scalar.indexCast v2187
  let c15_1515 : Index := 15#32
  let c8_1516 : Index := 8#32
  let c0_1517 : Index := 0#32
  ![v3920.toNat, 15, 8, 0]
def k0_off252 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3924 : Index := Scalar.indexCast v2187
  let c16_1518 : Index := 16#32
  let c8_1519 : Index := 8#32
  let c0_1520 : Index := 0#32
  ![v3924.toNat, 16, 8, 0]
def k0_off253 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3928 : Index := Scalar.indexCast v2187
  let c17_1521 : Index := 17#32
  let c8_1522 : Index := 8#32
  let c0_1523 : Index := 0#32
  ![v3928.toNat, 17, 8, 0]
def k0_off254 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3932 : Index := Scalar.indexCast v2187
  let c18_1524 : Index := 18#32
  let c8_1525 : Index := 8#32
  let c0_1526 : Index := 0#32
  ![v3932.toNat, 18, 8, 0]
def k0_off255 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3936 : Index := Scalar.indexCast v2187
  let c19_1527 : Index := 19#32
  let c8_1528 : Index := 8#32
  let c0_1529 : Index := 0#32
  ![v3936.toNat, 19, 8, 0]
def k0_off256 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3940 : Index := Scalar.indexCast v2187
  let c20_1530 : Index := 20#32
  let c8_1531 : Index := 8#32
  let c0_1532 : Index := 0#32
  ![v3940.toNat, 20, 8, 0]
def k0_off257 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3944 : Index := Scalar.indexCast v2187
  let c21_1533 : Index := 21#32
  let c8_1534 : Index := 8#32
  let c0_1535 : Index := 0#32
  ![v3944.toNat, 21, 8, 0]
def k0_off258 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3948 : Index := Scalar.indexCast v2187
  let c22_1536 : Index := 22#32
  let c8_1537 : Index := 8#32
  let c0_1538 : Index := 0#32
  ![v3948.toNat, 22, 8, 0]
def k0_off259 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3952 : Index := Scalar.indexCast v2187
  let c23_1539 : Index := 23#32
  let c8_1540 : Index := 8#32
  let c0_1541 : Index := 0#32
  ![v3952.toNat, 23, 8, 0]
def k0_off260 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3956 : Index := Scalar.indexCast v2187
  let c24_1542 : Index := 24#32
  let c8_1543 : Index := 8#32
  let c0_1544 : Index := 0#32
  ![v3956.toNat, 24, 8, 0]
def k0_off261 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3960 : Index := Scalar.indexCast v2187
  let c25_1545 : Index := 25#32
  let c8_1546 : Index := 8#32
  let c0_1547 : Index := 0#32
  ![v3960.toNat, 25, 8, 0]
def k0_off262 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3964 : Index := Scalar.indexCast v2187
  let c26_1548 : Index := 26#32
  let c8_1549 : Index := 8#32
  let c0_1550 : Index := 0#32
  ![v3964.toNat, 26, 8, 0]
def k0_off263 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3968 : Index := Scalar.indexCast v2187
  let c27_1551 : Index := 27#32
  let c8_1552 : Index := 8#32
  let c0_1553 : Index := 0#32
  ![v3968.toNat, 27, 8, 0]
def k0_off264 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3972 : Index := Scalar.indexCast v2187
  let c28_1554 : Index := 28#32
  let c8_1555 : Index := 8#32
  let c0_1556 : Index := 0#32
  ![v3972.toNat, 28, 8, 0]
def k0_off265 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3976 : Index := Scalar.indexCast v2187
  let c29_1557 : Index := 29#32
  let c8_1558 : Index := 8#32
  let c0_1559 : Index := 0#32
  ![v3976.toNat, 29, 8, 0]
def k0_off266 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3980 : Index := Scalar.indexCast v2187
  let c30_1560 : Index := 30#32
  let c8_1561 : Index := 8#32
  let c0_1562 : Index := 0#32
  ![v3980.toNat, 30, 8, 0]
def k0_off267 (i : grid0.Coords) (k0_t4 : Fin (k0_t4_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3984 : Index := Scalar.indexCast v2187
  let c31_1563 : Index := 31#32
  let c8_1564 : Index := 8#32
  let c0_1565 : Index := 0#32
  ![v3984.toNat, 31, 8, 0]
def k0_off268 (i : grid0.Coords) (k0_t4 : Fin (k0_t4_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let c0_i32_27 : BitVec 32 := 0#32
  let v64 : BitVec 32 := Scalar.subi v54 v63
  let c2_i32 : BitVec 32 := 2#32
  let v65 : BitVec 32 := Scalar.shrui v64 c2_i32
  let v66 : BitVec 32 := Scalar.subi v65 c0_i32_27
  let c1_i32_28 : BitVec 32 := 1#32
  let v68 : BitVec 32 := Scalar.divsi v66 c1_i32_28
  let v69 : BitVec 32 := Scalar.muli v68 c1_i32_28
  let v70 : BitVec 32 := Scalar.addi c0_i32_27 v69
  let c1_i32_30 : BitVec 32 := 1#32
  let arg17 : BitVec 32 := Scf.iv v70 c1_i32_30 k0_t4
  let c4_i32_878 : BitVec 32 := 4#32
  let v2185 : BitVec 32 := Scalar.muli arg17 c4_i32_878
  let v2186 : BitVec 32 := Scalar.addi v63 v2185
  let v2187 : BitVec 32 := Scalar.addi v2186 c0_i32_879
  let v3989 : Index := Scalar.indexCast v2187
  let c0_1567 : Index := 0#32
  let c0_1568 : Index := 0#32
  ![v3989.toNat, 0, 0]
@[reducible] def k0_t5_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_25 : BitVec 32 := 0#32
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_35 : BitVec 32 := 1#32
  ⟨c0_i32_33, v79, c1_i32_35⟩
def k0_off269 (i : grid0.Coords) (k0_t5 : Fin (k0_t5_loop i).trips) (c0_i32_879 : BitVec 32) : Fin 4 → Nat :=
  let c0_881 : Index := 0#32
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2189 : Index := Scalar.indexCast v2187
  let c0_882 : Index := 0#32
  let c0_883 : Index := 0#32
  ![0, v2189.toNat, 0, 0]
def k0_off270 (i : grid0.Coords) (k0_t5 : Fin (k0_t5_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2220 : Index := Scalar.indexCast v2187
  let c0_888 : Index := 0#32
  let c0_889 : Index := 0#32
  ![v2220.toNat, 0, 0]
def k0_off271 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2977 : Index := Scalar.indexCast v2187
  let c0_1131 : Index := 0#32
  let c0_1132 : Index := 0#32
  let c0_1133 : Index := 0#32
  ![v2977.toNat, 0, 0, 0]
def k0_off272 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2981 : Index := Scalar.indexCast v2187
  let c1_1134 : Index := 1#32
  let c0_1135 : Index := 0#32
  let c0_1136 : Index := 0#32
  ![v2981.toNat, 1, 0, 0]
def k0_off273 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2985 : Index := Scalar.indexCast v2187
  let c2_1137 : Index := 2#32
  let c0_1138 : Index := 0#32
  let c0_1139 : Index := 0#32
  ![v2985.toNat, 2, 0, 0]
def k0_off274 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2989 : Index := Scalar.indexCast v2187
  let c3_1140 : Index := 3#32
  let c0_1141 : Index := 0#32
  let c0_1142 : Index := 0#32
  ![v2989.toNat, 3, 0, 0]
def k0_off275 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2993 : Index := Scalar.indexCast v2187
  let c4_1143 : Index := 4#32
  let c0_1144 : Index := 0#32
  let c0_1145 : Index := 0#32
  ![v2993.toNat, 4, 0, 0]
def k0_off276 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2997 : Index := Scalar.indexCast v2187
  let c5_1146 : Index := 5#32
  let c0_1147 : Index := 0#32
  let c0_1148 : Index := 0#32
  ![v2997.toNat, 5, 0, 0]
def k0_off277 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3001 : Index := Scalar.indexCast v2187
  let c6_1149 : Index := 6#32
  let c0_1150 : Index := 0#32
  let c0_1151 : Index := 0#32
  ![v3001.toNat, 6, 0, 0]
def k0_off278 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3005 : Index := Scalar.indexCast v2187
  let c7_1152 : Index := 7#32
  let c0_1153 : Index := 0#32
  let c0_1154 : Index := 0#32
  ![v3005.toNat, 7, 0, 0]
def k0_off279 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3009 : Index := Scalar.indexCast v2187
  let c8_1155 : Index := 8#32
  let c0_1156 : Index := 0#32
  let c0_1157 : Index := 0#32
  ![v3009.toNat, 8, 0, 0]
def k0_off280 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3013 : Index := Scalar.indexCast v2187
  let c9_1158 : Index := 9#32
  let c0_1159 : Index := 0#32
  let c0_1160 : Index := 0#32
  ![v3013.toNat, 9, 0, 0]
def k0_off281 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3017 : Index := Scalar.indexCast v2187
  let c10_1161 : Index := 10#32
  let c0_1162 : Index := 0#32
  let c0_1163 : Index := 0#32
  ![v3017.toNat, 10, 0, 0]
def k0_off282 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3021 : Index := Scalar.indexCast v2187
  let c11_1164 : Index := 11#32
  let c0_1165 : Index := 0#32
  let c0_1166 : Index := 0#32
  ![v3021.toNat, 11, 0, 0]
def k0_off283 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3025 : Index := Scalar.indexCast v2187
  let c12_1167 : Index := 12#32
  let c0_1168 : Index := 0#32
  let c0_1169 : Index := 0#32
  ![v3025.toNat, 12, 0, 0]
def k0_off284 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3029 : Index := Scalar.indexCast v2187
  let c13_1170 : Index := 13#32
  let c0_1171 : Index := 0#32
  let c0_1172 : Index := 0#32
  ![v3029.toNat, 13, 0, 0]
def k0_off285 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3033 : Index := Scalar.indexCast v2187
  let c14_1173 : Index := 14#32
  let c0_1174 : Index := 0#32
  let c0_1175 : Index := 0#32
  ![v3033.toNat, 14, 0, 0]
def k0_off286 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3037 : Index := Scalar.indexCast v2187
  let c15_1176 : Index := 15#32
  let c0_1177 : Index := 0#32
  let c0_1178 : Index := 0#32
  ![v3037.toNat, 15, 0, 0]
def k0_off287 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3041 : Index := Scalar.indexCast v2187
  let c16_1179 : Index := 16#32
  let c0_1180 : Index := 0#32
  let c0_1181 : Index := 0#32
  ![v3041.toNat, 16, 0, 0]
def k0_off288 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3045 : Index := Scalar.indexCast v2187
  let c17_1182 : Index := 17#32
  let c0_1183 : Index := 0#32
  let c0_1184 : Index := 0#32
  ![v3045.toNat, 17, 0, 0]
def k0_off289 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3049 : Index := Scalar.indexCast v2187
  let c18_1185 : Index := 18#32
  let c0_1186 : Index := 0#32
  let c0_1187 : Index := 0#32
  ![v3049.toNat, 18, 0, 0]
def k0_off290 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3053 : Index := Scalar.indexCast v2187
  let c19_1188 : Index := 19#32
  let c0_1189 : Index := 0#32
  let c0_1190 : Index := 0#32
  ![v3053.toNat, 19, 0, 0]
def k0_off291 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3057 : Index := Scalar.indexCast v2187
  let c20_1191 : Index := 20#32
  let c0_1192 : Index := 0#32
  let c0_1193 : Index := 0#32
  ![v3057.toNat, 20, 0, 0]
def k0_off292 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3061 : Index := Scalar.indexCast v2187
  let c21_1194 : Index := 21#32
  let c0_1195 : Index := 0#32
  let c0_1196 : Index := 0#32
  ![v3061.toNat, 21, 0, 0]
def k0_off293 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3065 : Index := Scalar.indexCast v2187
  let c22_1197 : Index := 22#32
  let c0_1198 : Index := 0#32
  let c0_1199 : Index := 0#32
  ![v3065.toNat, 22, 0, 0]
def k0_off294 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3069 : Index := Scalar.indexCast v2187
  let c23_1200 : Index := 23#32
  let c0_1201 : Index := 0#32
  let c0_1202 : Index := 0#32
  ![v3069.toNat, 23, 0, 0]
def k0_off295 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3073 : Index := Scalar.indexCast v2187
  let c24_1203 : Index := 24#32
  let c0_1204 : Index := 0#32
  let c0_1205 : Index := 0#32
  ![v3073.toNat, 24, 0, 0]
def k0_off296 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3077 : Index := Scalar.indexCast v2187
  let c25_1206 : Index := 25#32
  let c0_1207 : Index := 0#32
  let c0_1208 : Index := 0#32
  ![v3077.toNat, 25, 0, 0]
def k0_off297 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3081 : Index := Scalar.indexCast v2187
  let c26_1209 : Index := 26#32
  let c0_1210 : Index := 0#32
  let c0_1211 : Index := 0#32
  ![v3081.toNat, 26, 0, 0]
def k0_off298 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3085 : Index := Scalar.indexCast v2187
  let c27_1212 : Index := 27#32
  let c0_1213 : Index := 0#32
  let c0_1214 : Index := 0#32
  ![v3085.toNat, 27, 0, 0]
def k0_off299 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3089 : Index := Scalar.indexCast v2187
  let c28_1215 : Index := 28#32
  let c0_1216 : Index := 0#32
  let c0_1217 : Index := 0#32
  ![v3089.toNat, 28, 0, 0]
def k0_off300 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3093 : Index := Scalar.indexCast v2187
  let c29_1218 : Index := 29#32
  let c0_1219 : Index := 0#32
  let c0_1220 : Index := 0#32
  ![v3093.toNat, 29, 0, 0]
def k0_off301 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3097 : Index := Scalar.indexCast v2187
  let c30_1221 : Index := 30#32
  let c0_1222 : Index := 0#32
  let c0_1223 : Index := 0#32
  ![v3097.toNat, 30, 0, 0]
def k0_off302 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3101 : Index := Scalar.indexCast v2187
  let c31_1224 : Index := 31#32
  let c0_1225 : Index := 0#32
  let c0_1226 : Index := 0#32
  ![v3101.toNat, 31, 0, 0]
def k0_off303 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3858 : Index := Scalar.indexCast v2187
  let c0_1468 : Index := 0#32
  let c8_1469 : Index := 8#32
  let c0_1470 : Index := 0#32
  ![v3858.toNat, 0, 8, 0]
def k0_off304 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3862 : Index := Scalar.indexCast v2187
  let c1_1471 : Index := 1#32
  let c8_1472 : Index := 8#32
  let c0_1473 : Index := 0#32
  ![v3862.toNat, 1, 8, 0]
def k0_off305 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3866 : Index := Scalar.indexCast v2187
  let c2_1474 : Index := 2#32
  let c8_1475 : Index := 8#32
  let c0_1476 : Index := 0#32
  ![v3866.toNat, 2, 8, 0]
def k0_off306 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3870 : Index := Scalar.indexCast v2187
  let c3_1477 : Index := 3#32
  let c8_1478 : Index := 8#32
  let c0_1479 : Index := 0#32
  ![v3870.toNat, 3, 8, 0]
def k0_off307 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3874 : Index := Scalar.indexCast v2187
  let c4_1480 : Index := 4#32
  let c8_1481 : Index := 8#32
  let c0_1482 : Index := 0#32
  ![v3874.toNat, 4, 8, 0]
def k0_off308 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3878 : Index := Scalar.indexCast v2187
  let c5_1483 : Index := 5#32
  let c8_1484 : Index := 8#32
  let c0_1485 : Index := 0#32
  ![v3878.toNat, 5, 8, 0]
def k0_off309 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3882 : Index := Scalar.indexCast v2187
  let c6_1486 : Index := 6#32
  let c8_1487 : Index := 8#32
  let c0_1488 : Index := 0#32
  ![v3882.toNat, 6, 8, 0]
def k0_off310 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3886 : Index := Scalar.indexCast v2187
  let c7_1489 : Index := 7#32
  let c8_1490 : Index := 8#32
  let c0_1491 : Index := 0#32
  ![v3886.toNat, 7, 8, 0]
def k0_off311 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3890 : Index := Scalar.indexCast v2187
  let c8_1492 : Index := 8#32
  let c8_1493 : Index := 8#32
  let c0_1494 : Index := 0#32
  ![v3890.toNat, 8, 8, 0]
def k0_off312 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3894 : Index := Scalar.indexCast v2187
  let c9_1495 : Index := 9#32
  let c8_1496 : Index := 8#32
  let c0_1497 : Index := 0#32
  ![v3894.toNat, 9, 8, 0]
def k0_off313 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3898 : Index := Scalar.indexCast v2187
  let c10_1498 : Index := 10#32
  let c8_1499 : Index := 8#32
  let c0_1500 : Index := 0#32
  ![v3898.toNat, 10, 8, 0]
def k0_off314 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3902 : Index := Scalar.indexCast v2187
  let c11_1501 : Index := 11#32
  let c8_1502 : Index := 8#32
  let c0_1503 : Index := 0#32
  ![v3902.toNat, 11, 8, 0]
def k0_off315 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3906 : Index := Scalar.indexCast v2187
  let c12_1504 : Index := 12#32
  let c8_1505 : Index := 8#32
  let c0_1506 : Index := 0#32
  ![v3906.toNat, 12, 8, 0]
def k0_off316 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3910 : Index := Scalar.indexCast v2187
  let c13_1507 : Index := 13#32
  let c8_1508 : Index := 8#32
  let c0_1509 : Index := 0#32
  ![v3910.toNat, 13, 8, 0]
def k0_off317 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3914 : Index := Scalar.indexCast v2187
  let c14_1510 : Index := 14#32
  let c8_1511 : Index := 8#32
  let c0_1512 : Index := 0#32
  ![v3914.toNat, 14, 8, 0]
def k0_off318 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3918 : Index := Scalar.indexCast v2187
  let c15_1513 : Index := 15#32
  let c8_1514 : Index := 8#32
  let c0_1515 : Index := 0#32
  ![v3918.toNat, 15, 8, 0]
def k0_off319 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3922 : Index := Scalar.indexCast v2187
  let c16_1516 : Index := 16#32
  let c8_1517 : Index := 8#32
  let c0_1518 : Index := 0#32
  ![v3922.toNat, 16, 8, 0]
def k0_off320 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3926 : Index := Scalar.indexCast v2187
  let c17_1519 : Index := 17#32
  let c8_1520 : Index := 8#32
  let c0_1521 : Index := 0#32
  ![v3926.toNat, 17, 8, 0]
def k0_off321 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3930 : Index := Scalar.indexCast v2187
  let c18_1522 : Index := 18#32
  let c8_1523 : Index := 8#32
  let c0_1524 : Index := 0#32
  ![v3930.toNat, 18, 8, 0]
def k0_off322 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3934 : Index := Scalar.indexCast v2187
  let c19_1525 : Index := 19#32
  let c8_1526 : Index := 8#32
  let c0_1527 : Index := 0#32
  ![v3934.toNat, 19, 8, 0]
def k0_off323 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3938 : Index := Scalar.indexCast v2187
  let c20_1528 : Index := 20#32
  let c8_1529 : Index := 8#32
  let c0_1530 : Index := 0#32
  ![v3938.toNat, 20, 8, 0]
def k0_off324 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3942 : Index := Scalar.indexCast v2187
  let c21_1531 : Index := 21#32
  let c8_1532 : Index := 8#32
  let c0_1533 : Index := 0#32
  ![v3942.toNat, 21, 8, 0]
def k0_off325 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3946 : Index := Scalar.indexCast v2187
  let c22_1534 : Index := 22#32
  let c8_1535 : Index := 8#32
  let c0_1536 : Index := 0#32
  ![v3946.toNat, 22, 8, 0]
def k0_off326 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3950 : Index := Scalar.indexCast v2187
  let c23_1537 : Index := 23#32
  let c8_1538 : Index := 8#32
  let c0_1539 : Index := 0#32
  ![v3950.toNat, 23, 8, 0]
def k0_off327 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3954 : Index := Scalar.indexCast v2187
  let c24_1540 : Index := 24#32
  let c8_1541 : Index := 8#32
  let c0_1542 : Index := 0#32
  ![v3954.toNat, 24, 8, 0]
def k0_off328 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3958 : Index := Scalar.indexCast v2187
  let c25_1543 : Index := 25#32
  let c8_1544 : Index := 8#32
  let c0_1545 : Index := 0#32
  ![v3958.toNat, 25, 8, 0]
def k0_off329 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3962 : Index := Scalar.indexCast v2187
  let c26_1546 : Index := 26#32
  let c8_1547 : Index := 8#32
  let c0_1548 : Index := 0#32
  ![v3962.toNat, 26, 8, 0]
def k0_off330 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3966 : Index := Scalar.indexCast v2187
  let c27_1549 : Index := 27#32
  let c8_1550 : Index := 8#32
  let c0_1551 : Index := 0#32
  ![v3966.toNat, 27, 8, 0]
def k0_off331 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3970 : Index := Scalar.indexCast v2187
  let c28_1552 : Index := 28#32
  let c8_1553 : Index := 8#32
  let c0_1554 : Index := 0#32
  ![v3970.toNat, 28, 8, 0]
def k0_off332 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3974 : Index := Scalar.indexCast v2187
  let c29_1555 : Index := 29#32
  let c8_1556 : Index := 8#32
  let c0_1557 : Index := 0#32
  ![v3974.toNat, 29, 8, 0]
def k0_off333 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3978 : Index := Scalar.indexCast v2187
  let c30_1558 : Index := 30#32
  let c8_1559 : Index := 8#32
  let c0_1560 : Index := 0#32
  ![v3978.toNat, 30, 8, 0]
def k0_off334 (i : grid0.Coords) (k0_t5 : Fin (k0_t5_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3982 : Index := Scalar.indexCast v2187
  let c31_1561 : Index := 31#32
  let c8_1562 : Index := 8#32
  let c0_1563 : Index := 0#32
  ![v3982.toNat, 31, 8, 0]
def k0_off335 (i : grid0.Coords) (k0_t5 : Fin (k0_t5_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let c1_i32_35 : BitVec 32 := 1#32
  let arg17 : BitVec 32 := Scf.iv c0_i32_33 c1_i32_35 k0_t5
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3987 : Index := Scalar.indexCast v2187
  let c0_1565 : Index := 0#32
  let c0_1566 : Index := 0#32
  ![v3987.toNat, 0, 0]
@[reducible] def k0_t6_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_25 : BitVec 32 := 0#32
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let v76 : BitVec 32 := Scalar.addi c0_i32_33 v75
  let c1_i32_36 : BitVec 32 := 1#32
  ⟨v79, v76, c1_i32_36⟩
def k0_off336 (i : grid0.Coords) (k0_t6 : Fin (k0_t6_loop i).trips) (c0_i32_879 : BitVec 32) : Fin 4 → Nat :=
  let c0_881 : Index := 0#32
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2189 : Index := Scalar.indexCast v2187
  let c0_882 : Index := 0#32
  let c0_883 : Index := 0#32
  ![0, v2189.toNat, 0, 0]
def k0_off337 (i : grid0.Coords) (k0_t6 : Fin (k0_t6_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2220 : Index := Scalar.indexCast v2187
  let c0_888 : Index := 0#32
  let c0_889 : Index := 0#32
  ![v2220.toNat, 0, 0]
def k0_off338 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2977 : Index := Scalar.indexCast v2187
  let c0_1131 : Index := 0#32
  let c0_1132 : Index := 0#32
  let c0_1133 : Index := 0#32
  ![v2977.toNat, 0, 0, 0]
def k0_off339 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2981 : Index := Scalar.indexCast v2187
  let c1_1134 : Index := 1#32
  let c0_1135 : Index := 0#32
  let c0_1136 : Index := 0#32
  ![v2981.toNat, 1, 0, 0]
def k0_off340 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2985 : Index := Scalar.indexCast v2187
  let c2_1137 : Index := 2#32
  let c0_1138 : Index := 0#32
  let c0_1139 : Index := 0#32
  ![v2985.toNat, 2, 0, 0]
def k0_off341 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2989 : Index := Scalar.indexCast v2187
  let c3_1140 : Index := 3#32
  let c0_1141 : Index := 0#32
  let c0_1142 : Index := 0#32
  ![v2989.toNat, 3, 0, 0]
def k0_off342 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2993 : Index := Scalar.indexCast v2187
  let c4_1143 : Index := 4#32
  let c0_1144 : Index := 0#32
  let c0_1145 : Index := 0#32
  ![v2993.toNat, 4, 0, 0]
def k0_off343 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v2997 : Index := Scalar.indexCast v2187
  let c5_1146 : Index := 5#32
  let c0_1147 : Index := 0#32
  let c0_1148 : Index := 0#32
  ![v2997.toNat, 5, 0, 0]
def k0_off344 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3001 : Index := Scalar.indexCast v2187
  let c6_1149 : Index := 6#32
  let c0_1150 : Index := 0#32
  let c0_1151 : Index := 0#32
  ![v3001.toNat, 6, 0, 0]
def k0_off345 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3005 : Index := Scalar.indexCast v2187
  let c7_1152 : Index := 7#32
  let c0_1153 : Index := 0#32
  let c0_1154 : Index := 0#32
  ![v3005.toNat, 7, 0, 0]
def k0_off346 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3009 : Index := Scalar.indexCast v2187
  let c8_1155 : Index := 8#32
  let c0_1156 : Index := 0#32
  let c0_1157 : Index := 0#32
  ![v3009.toNat, 8, 0, 0]
def k0_off347 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3013 : Index := Scalar.indexCast v2187
  let c9_1158 : Index := 9#32
  let c0_1159 : Index := 0#32
  let c0_1160 : Index := 0#32
  ![v3013.toNat, 9, 0, 0]
def k0_off348 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3017 : Index := Scalar.indexCast v2187
  let c10_1161 : Index := 10#32
  let c0_1162 : Index := 0#32
  let c0_1163 : Index := 0#32
  ![v3017.toNat, 10, 0, 0]
def k0_off349 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3021 : Index := Scalar.indexCast v2187
  let c11_1164 : Index := 11#32
  let c0_1165 : Index := 0#32
  let c0_1166 : Index := 0#32
  ![v3021.toNat, 11, 0, 0]
def k0_off350 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3025 : Index := Scalar.indexCast v2187
  let c12_1167 : Index := 12#32
  let c0_1168 : Index := 0#32
  let c0_1169 : Index := 0#32
  ![v3025.toNat, 12, 0, 0]
def k0_off351 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3029 : Index := Scalar.indexCast v2187
  let c13_1170 : Index := 13#32
  let c0_1171 : Index := 0#32
  let c0_1172 : Index := 0#32
  ![v3029.toNat, 13, 0, 0]
def k0_off352 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3033 : Index := Scalar.indexCast v2187
  let c14_1173 : Index := 14#32
  let c0_1174 : Index := 0#32
  let c0_1175 : Index := 0#32
  ![v3033.toNat, 14, 0, 0]
def k0_off353 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3037 : Index := Scalar.indexCast v2187
  let c15_1176 : Index := 15#32
  let c0_1177 : Index := 0#32
  let c0_1178 : Index := 0#32
  ![v3037.toNat, 15, 0, 0]
def k0_off354 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3041 : Index := Scalar.indexCast v2187
  let c16_1179 : Index := 16#32
  let c0_1180 : Index := 0#32
  let c0_1181 : Index := 0#32
  ![v3041.toNat, 16, 0, 0]
def k0_off355 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3045 : Index := Scalar.indexCast v2187
  let c17_1182 : Index := 17#32
  let c0_1183 : Index := 0#32
  let c0_1184 : Index := 0#32
  ![v3045.toNat, 17, 0, 0]
def k0_off356 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3049 : Index := Scalar.indexCast v2187
  let c18_1185 : Index := 18#32
  let c0_1186 : Index := 0#32
  let c0_1187 : Index := 0#32
  ![v3049.toNat, 18, 0, 0]
def k0_off357 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3053 : Index := Scalar.indexCast v2187
  let c19_1188 : Index := 19#32
  let c0_1189 : Index := 0#32
  let c0_1190 : Index := 0#32
  ![v3053.toNat, 19, 0, 0]
def k0_off358 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3057 : Index := Scalar.indexCast v2187
  let c20_1191 : Index := 20#32
  let c0_1192 : Index := 0#32
  let c0_1193 : Index := 0#32
  ![v3057.toNat, 20, 0, 0]
def k0_off359 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3061 : Index := Scalar.indexCast v2187
  let c21_1194 : Index := 21#32
  let c0_1195 : Index := 0#32
  let c0_1196 : Index := 0#32
  ![v3061.toNat, 21, 0, 0]
def k0_off360 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3065 : Index := Scalar.indexCast v2187
  let c22_1197 : Index := 22#32
  let c0_1198 : Index := 0#32
  let c0_1199 : Index := 0#32
  ![v3065.toNat, 22, 0, 0]
def k0_off361 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3069 : Index := Scalar.indexCast v2187
  let c23_1200 : Index := 23#32
  let c0_1201 : Index := 0#32
  let c0_1202 : Index := 0#32
  ![v3069.toNat, 23, 0, 0]
def k0_off362 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3073 : Index := Scalar.indexCast v2187
  let c24_1203 : Index := 24#32
  let c0_1204 : Index := 0#32
  let c0_1205 : Index := 0#32
  ![v3073.toNat, 24, 0, 0]
def k0_off363 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3077 : Index := Scalar.indexCast v2187
  let c25_1206 : Index := 25#32
  let c0_1207 : Index := 0#32
  let c0_1208 : Index := 0#32
  ![v3077.toNat, 25, 0, 0]
def k0_off364 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3081 : Index := Scalar.indexCast v2187
  let c26_1209 : Index := 26#32
  let c0_1210 : Index := 0#32
  let c0_1211 : Index := 0#32
  ![v3081.toNat, 26, 0, 0]
def k0_off365 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3085 : Index := Scalar.indexCast v2187
  let c27_1212 : Index := 27#32
  let c0_1213 : Index := 0#32
  let c0_1214 : Index := 0#32
  ![v3085.toNat, 27, 0, 0]
def k0_off366 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3089 : Index := Scalar.indexCast v2187
  let c28_1215 : Index := 28#32
  let c0_1216 : Index := 0#32
  let c0_1217 : Index := 0#32
  ![v3089.toNat, 28, 0, 0]
def k0_off367 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3093 : Index := Scalar.indexCast v2187
  let c29_1218 : Index := 29#32
  let c0_1219 : Index := 0#32
  let c0_1220 : Index := 0#32
  ![v3093.toNat, 29, 0, 0]
def k0_off368 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3097 : Index := Scalar.indexCast v2187
  let c30_1221 : Index := 30#32
  let c0_1222 : Index := 0#32
  let c0_1223 : Index := 0#32
  ![v3097.toNat, 30, 0, 0]
def k0_off369 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3101 : Index := Scalar.indexCast v2187
  let c31_1224 : Index := 31#32
  let c0_1225 : Index := 0#32
  let c0_1226 : Index := 0#32
  ![v3101.toNat, 31, 0, 0]
def k0_off370 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3858 : Index := Scalar.indexCast v2187
  let c0_1468 : Index := 0#32
  let c8_1469 : Index := 8#32
  let c0_1470 : Index := 0#32
  ![v3858.toNat, 0, 8, 0]
def k0_off371 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3862 : Index := Scalar.indexCast v2187
  let c1_1471 : Index := 1#32
  let c8_1472 : Index := 8#32
  let c0_1473 : Index := 0#32
  ![v3862.toNat, 1, 8, 0]
def k0_off372 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3866 : Index := Scalar.indexCast v2187
  let c2_1474 : Index := 2#32
  let c8_1475 : Index := 8#32
  let c0_1476 : Index := 0#32
  ![v3866.toNat, 2, 8, 0]
def k0_off373 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3870 : Index := Scalar.indexCast v2187
  let c3_1477 : Index := 3#32
  let c8_1478 : Index := 8#32
  let c0_1479 : Index := 0#32
  ![v3870.toNat, 3, 8, 0]
def k0_off374 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3874 : Index := Scalar.indexCast v2187
  let c4_1480 : Index := 4#32
  let c8_1481 : Index := 8#32
  let c0_1482 : Index := 0#32
  ![v3874.toNat, 4, 8, 0]
def k0_off375 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3878 : Index := Scalar.indexCast v2187
  let c5_1483 : Index := 5#32
  let c8_1484 : Index := 8#32
  let c0_1485 : Index := 0#32
  ![v3878.toNat, 5, 8, 0]
def k0_off376 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3882 : Index := Scalar.indexCast v2187
  let c6_1486 : Index := 6#32
  let c8_1487 : Index := 8#32
  let c0_1488 : Index := 0#32
  ![v3882.toNat, 6, 8, 0]
def k0_off377 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3886 : Index := Scalar.indexCast v2187
  let c7_1489 : Index := 7#32
  let c8_1490 : Index := 8#32
  let c0_1491 : Index := 0#32
  ![v3886.toNat, 7, 8, 0]
def k0_off378 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3890 : Index := Scalar.indexCast v2187
  let c8_1492 : Index := 8#32
  let c8_1493 : Index := 8#32
  let c0_1494 : Index := 0#32
  ![v3890.toNat, 8, 8, 0]
def k0_off379 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3894 : Index := Scalar.indexCast v2187
  let c9_1495 : Index := 9#32
  let c8_1496 : Index := 8#32
  let c0_1497 : Index := 0#32
  ![v3894.toNat, 9, 8, 0]
def k0_off380 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3898 : Index := Scalar.indexCast v2187
  let c10_1498 : Index := 10#32
  let c8_1499 : Index := 8#32
  let c0_1500 : Index := 0#32
  ![v3898.toNat, 10, 8, 0]
def k0_off381 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3902 : Index := Scalar.indexCast v2187
  let c11_1501 : Index := 11#32
  let c8_1502 : Index := 8#32
  let c0_1503 : Index := 0#32
  ![v3902.toNat, 11, 8, 0]
def k0_off382 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3906 : Index := Scalar.indexCast v2187
  let c12_1504 : Index := 12#32
  let c8_1505 : Index := 8#32
  let c0_1506 : Index := 0#32
  ![v3906.toNat, 12, 8, 0]
def k0_off383 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3910 : Index := Scalar.indexCast v2187
  let c13_1507 : Index := 13#32
  let c8_1508 : Index := 8#32
  let c0_1509 : Index := 0#32
  ![v3910.toNat, 13, 8, 0]
def k0_off384 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3914 : Index := Scalar.indexCast v2187
  let c14_1510 : Index := 14#32
  let c8_1511 : Index := 8#32
  let c0_1512 : Index := 0#32
  ![v3914.toNat, 14, 8, 0]
def k0_off385 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3918 : Index := Scalar.indexCast v2187
  let c15_1513 : Index := 15#32
  let c8_1514 : Index := 8#32
  let c0_1515 : Index := 0#32
  ![v3918.toNat, 15, 8, 0]
def k0_off386 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3922 : Index := Scalar.indexCast v2187
  let c16_1516 : Index := 16#32
  let c8_1517 : Index := 8#32
  let c0_1518 : Index := 0#32
  ![v3922.toNat, 16, 8, 0]
def k0_off387 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3926 : Index := Scalar.indexCast v2187
  let c17_1519 : Index := 17#32
  let c8_1520 : Index := 8#32
  let c0_1521 : Index := 0#32
  ![v3926.toNat, 17, 8, 0]
def k0_off388 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3930 : Index := Scalar.indexCast v2187
  let c18_1522 : Index := 18#32
  let c8_1523 : Index := 8#32
  let c0_1524 : Index := 0#32
  ![v3930.toNat, 18, 8, 0]
def k0_off389 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3934 : Index := Scalar.indexCast v2187
  let c19_1525 : Index := 19#32
  let c8_1526 : Index := 8#32
  let c0_1527 : Index := 0#32
  ![v3934.toNat, 19, 8, 0]
def k0_off390 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3938 : Index := Scalar.indexCast v2187
  let c20_1528 : Index := 20#32
  let c8_1529 : Index := 8#32
  let c0_1530 : Index := 0#32
  ![v3938.toNat, 20, 8, 0]
def k0_off391 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3942 : Index := Scalar.indexCast v2187
  let c21_1531 : Index := 21#32
  let c8_1532 : Index := 8#32
  let c0_1533 : Index := 0#32
  ![v3942.toNat, 21, 8, 0]
def k0_off392 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3946 : Index := Scalar.indexCast v2187
  let c22_1534 : Index := 22#32
  let c8_1535 : Index := 8#32
  let c0_1536 : Index := 0#32
  ![v3946.toNat, 22, 8, 0]
def k0_off393 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3950 : Index := Scalar.indexCast v2187
  let c23_1537 : Index := 23#32
  let c8_1538 : Index := 8#32
  let c0_1539 : Index := 0#32
  ![v3950.toNat, 23, 8, 0]
def k0_off394 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3954 : Index := Scalar.indexCast v2187
  let c24_1540 : Index := 24#32
  let c8_1541 : Index := 8#32
  let c0_1542 : Index := 0#32
  ![v3954.toNat, 24, 8, 0]
def k0_off395 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3958 : Index := Scalar.indexCast v2187
  let c25_1543 : Index := 25#32
  let c8_1544 : Index := 8#32
  let c0_1545 : Index := 0#32
  ![v3958.toNat, 25, 8, 0]
def k0_off396 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3962 : Index := Scalar.indexCast v2187
  let c26_1546 : Index := 26#32
  let c8_1547 : Index := 8#32
  let c0_1548 : Index := 0#32
  ![v3962.toNat, 26, 8, 0]
def k0_off397 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3966 : Index := Scalar.indexCast v2187
  let c27_1549 : Index := 27#32
  let c8_1550 : Index := 8#32
  let c0_1551 : Index := 0#32
  ![v3966.toNat, 27, 8, 0]
def k0_off398 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3970 : Index := Scalar.indexCast v2187
  let c28_1552 : Index := 28#32
  let c8_1553 : Index := 8#32
  let c0_1554 : Index := 0#32
  ![v3970.toNat, 28, 8, 0]
def k0_off399 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3974 : Index := Scalar.indexCast v2187
  let c29_1555 : Index := 29#32
  let c8_1556 : Index := 8#32
  let c0_1557 : Index := 0#32
  ![v3974.toNat, 29, 8, 0]
def k0_off400 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3978 : Index := Scalar.indexCast v2187
  let c30_1558 : Index := 30#32
  let c8_1559 : Index := 8#32
  let c0_1560 : Index := 0#32
  ![v3978.toNat, 30, 8, 0]
def k0_off401 (i : grid0.Coords) (k0_t6 : Fin (k0_t6_loop i).trips) (c0_i32_879 : BitVec 32) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3982 : Index := Scalar.indexCast v2187
  let c31_1561 : Index := 31#32
  let c8_1562 : Index := 8#32
  let c0_1563 : Index := 0#32
  ![v3982.toNat, 31, 8, 0]
def k0_off402 (i : grid0.Coords) (k0_t6 : Fin (k0_t6_loop i).trips) (c0_i32_879 : BitVec 32) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let c0_i32_33 : BitVec 32 := 0#32
  let v73 : BitVec 32 := Scalar.subi v54 v72
  let c1_i32_31 : BitVec 32 := 1#32
  let v74 : BitVec 32 := Scalar.shrui v73 c1_i32_31
  let v75 : BitVec 32 := Scalar.subi v74 c0_i32_33
  let c1_i32_34 : BitVec 32 := 1#32
  let v77 : BitVec 32 := Scalar.divsi v75 c1_i32_34
  let v78 : BitVec 32 := Scalar.muli v77 c1_i32_34
  let v79 : BitVec 32 := Scalar.addi c0_i32_33 v78
  let c1_i32_36 : BitVec 32 := 1#32
  let arg17 : BitVec 32 := Scf.iv v79 c1_i32_36 k0_t6
  let c2_i32_878 : BitVec 32 := 2#32
  let v2185 : BitVec 32 := Scalar.muli arg17 c2_i32_878
  let v2186 : BitVec 32 := Scalar.addi v72 v2185
  let v2187 : BitVec 32 := Scalar.addi v2186 c0_i32_879
  let v3987 : Index := Scalar.indexCast v2187
  let c0_1565 : Index := 0#32
  let c0_1566 : Index := 0#32
  ![v3987.toNat, 0, 0]
@[reducible] def k0_t7_loop (i : grid0.Coords) : Scf.Loop 32 :=
  let c0_i32_40 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_25 : BitVec 32 := 0#32
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_42 : BitVec 32 := 1#32
  ⟨c0_i32_40, v88, c1_i32_42⟩
def k0_off403 (i : grid0.Coords) (k0_t7 : Fin (k0_t7_loop i).trips) : Fin 4 → Nat :=
  let c0_880 : Index := 0#32
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2188 : Index := Scalar.indexCast v2187
  let c0_881 : Index := 0#32
  let c0_882 : Index := 0#32
  ![0, v2188.toNat, 0, 0]
def k0_off404 (i : grid0.Coords) (k0_t7 : Fin (k0_t7_loop i).trips) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2219 : Index := Scalar.indexCast v2187
  let c0_887 : Index := 0#32
  let c0_888 : Index := 0#32
  ![v2219.toNat, 0, 0]
def k0_off405 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2976 : Index := Scalar.indexCast v2187
  let c0_1130 : Index := 0#32
  let c0_1131 : Index := 0#32
  let c0_1132 : Index := 0#32
  ![v2976.toNat, 0, 0, 0]
def k0_off406 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2980 : Index := Scalar.indexCast v2187
  let c1_1133 : Index := 1#32
  let c0_1134 : Index := 0#32
  let c0_1135 : Index := 0#32
  ![v2980.toNat, 1, 0, 0]
def k0_off407 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2984 : Index := Scalar.indexCast v2187
  let c2_1136 : Index := 2#32
  let c0_1137 : Index := 0#32
  let c0_1138 : Index := 0#32
  ![v2984.toNat, 2, 0, 0]
def k0_off408 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2988 : Index := Scalar.indexCast v2187
  let c3_1139 : Index := 3#32
  let c0_1140 : Index := 0#32
  let c0_1141 : Index := 0#32
  ![v2988.toNat, 3, 0, 0]
def k0_off409 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2992 : Index := Scalar.indexCast v2187
  let c4_1142 : Index := 4#32
  let c0_1143 : Index := 0#32
  let c0_1144 : Index := 0#32
  ![v2992.toNat, 4, 0, 0]
def k0_off410 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2996 : Index := Scalar.indexCast v2187
  let c5_1145 : Index := 5#32
  let c0_1146 : Index := 0#32
  let c0_1147 : Index := 0#32
  ![v2996.toNat, 5, 0, 0]
def k0_off411 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3000 : Index := Scalar.indexCast v2187
  let c6_1148 : Index := 6#32
  let c0_1149 : Index := 0#32
  let c0_1150 : Index := 0#32
  ![v3000.toNat, 6, 0, 0]
def k0_off412 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3004 : Index := Scalar.indexCast v2187
  let c7_1151 : Index := 7#32
  let c0_1152 : Index := 0#32
  let c0_1153 : Index := 0#32
  ![v3004.toNat, 7, 0, 0]
def k0_off413 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3008 : Index := Scalar.indexCast v2187
  let c8_1154 : Index := 8#32
  let c0_1155 : Index := 0#32
  let c0_1156 : Index := 0#32
  ![v3008.toNat, 8, 0, 0]
def k0_off414 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3012 : Index := Scalar.indexCast v2187
  let c9_1157 : Index := 9#32
  let c0_1158 : Index := 0#32
  let c0_1159 : Index := 0#32
  ![v3012.toNat, 9, 0, 0]
def k0_off415 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3016 : Index := Scalar.indexCast v2187
  let c10_1160 : Index := 10#32
  let c0_1161 : Index := 0#32
  let c0_1162 : Index := 0#32
  ![v3016.toNat, 10, 0, 0]
def k0_off416 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3020 : Index := Scalar.indexCast v2187
  let c11_1163 : Index := 11#32
  let c0_1164 : Index := 0#32
  let c0_1165 : Index := 0#32
  ![v3020.toNat, 11, 0, 0]
def k0_off417 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3024 : Index := Scalar.indexCast v2187
  let c12_1166 : Index := 12#32
  let c0_1167 : Index := 0#32
  let c0_1168 : Index := 0#32
  ![v3024.toNat, 12, 0, 0]
def k0_off418 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3028 : Index := Scalar.indexCast v2187
  let c13_1169 : Index := 13#32
  let c0_1170 : Index := 0#32
  let c0_1171 : Index := 0#32
  ![v3028.toNat, 13, 0, 0]
def k0_off419 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3032 : Index := Scalar.indexCast v2187
  let c14_1172 : Index := 14#32
  let c0_1173 : Index := 0#32
  let c0_1174 : Index := 0#32
  ![v3032.toNat, 14, 0, 0]
def k0_off420 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3036 : Index := Scalar.indexCast v2187
  let c15_1175 : Index := 15#32
  let c0_1176 : Index := 0#32
  let c0_1177 : Index := 0#32
  ![v3036.toNat, 15, 0, 0]
def k0_off421 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3040 : Index := Scalar.indexCast v2187
  let c16_1178 : Index := 16#32
  let c0_1179 : Index := 0#32
  let c0_1180 : Index := 0#32
  ![v3040.toNat, 16, 0, 0]
def k0_off422 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3044 : Index := Scalar.indexCast v2187
  let c17_1181 : Index := 17#32
  let c0_1182 : Index := 0#32
  let c0_1183 : Index := 0#32
  ![v3044.toNat, 17, 0, 0]
def k0_off423 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3048 : Index := Scalar.indexCast v2187
  let c18_1184 : Index := 18#32
  let c0_1185 : Index := 0#32
  let c0_1186 : Index := 0#32
  ![v3048.toNat, 18, 0, 0]
def k0_off424 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3052 : Index := Scalar.indexCast v2187
  let c19_1187 : Index := 19#32
  let c0_1188 : Index := 0#32
  let c0_1189 : Index := 0#32
  ![v3052.toNat, 19, 0, 0]
def k0_off425 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3056 : Index := Scalar.indexCast v2187
  let c20_1190 : Index := 20#32
  let c0_1191 : Index := 0#32
  let c0_1192 : Index := 0#32
  ![v3056.toNat, 20, 0, 0]
def k0_off426 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3060 : Index := Scalar.indexCast v2187
  let c21_1193 : Index := 21#32
  let c0_1194 : Index := 0#32
  let c0_1195 : Index := 0#32
  ![v3060.toNat, 21, 0, 0]
def k0_off427 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3064 : Index := Scalar.indexCast v2187
  let c22_1196 : Index := 22#32
  let c0_1197 : Index := 0#32
  let c0_1198 : Index := 0#32
  ![v3064.toNat, 22, 0, 0]
def k0_off428 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3068 : Index := Scalar.indexCast v2187
  let c23_1199 : Index := 23#32
  let c0_1200 : Index := 0#32
  let c0_1201 : Index := 0#32
  ![v3068.toNat, 23, 0, 0]
def k0_off429 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3072 : Index := Scalar.indexCast v2187
  let c24_1202 : Index := 24#32
  let c0_1203 : Index := 0#32
  let c0_1204 : Index := 0#32
  ![v3072.toNat, 24, 0, 0]
def k0_off430 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3076 : Index := Scalar.indexCast v2187
  let c25_1205 : Index := 25#32
  let c0_1206 : Index := 0#32
  let c0_1207 : Index := 0#32
  ![v3076.toNat, 25, 0, 0]
def k0_off431 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3080 : Index := Scalar.indexCast v2187
  let c26_1208 : Index := 26#32
  let c0_1209 : Index := 0#32
  let c0_1210 : Index := 0#32
  ![v3080.toNat, 26, 0, 0]
def k0_off432 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3084 : Index := Scalar.indexCast v2187
  let c27_1211 : Index := 27#32
  let c0_1212 : Index := 0#32
  let c0_1213 : Index := 0#32
  ![v3084.toNat, 27, 0, 0]
def k0_off433 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3088 : Index := Scalar.indexCast v2187
  let c28_1214 : Index := 28#32
  let c0_1215 : Index := 0#32
  let c0_1216 : Index := 0#32
  ![v3088.toNat, 28, 0, 0]
def k0_off434 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3092 : Index := Scalar.indexCast v2187
  let c29_1217 : Index := 29#32
  let c0_1218 : Index := 0#32
  let c0_1219 : Index := 0#32
  ![v3092.toNat, 29, 0, 0]
def k0_off435 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3096 : Index := Scalar.indexCast v2187
  let c30_1220 : Index := 30#32
  let c0_1221 : Index := 0#32
  let c0_1222 : Index := 0#32
  ![v3096.toNat, 30, 0, 0]
def k0_off436 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3100 : Index := Scalar.indexCast v2187
  let c31_1223 : Index := 31#32
  let c0_1224 : Index := 0#32
  let c0_1225 : Index := 0#32
  ![v3100.toNat, 31, 0, 0]
def k0_off437 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3857 : Index := Scalar.indexCast v2187
  let c0_1467 : Index := 0#32
  let c8_1468 : Index := 8#32
  let c0_1469 : Index := 0#32
  ![v3857.toNat, 0, 8, 0]
def k0_off438 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3861 : Index := Scalar.indexCast v2187
  let c1_1470 : Index := 1#32
  let c8_1471 : Index := 8#32
  let c0_1472 : Index := 0#32
  ![v3861.toNat, 1, 8, 0]
def k0_off439 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3865 : Index := Scalar.indexCast v2187
  let c2_1473 : Index := 2#32
  let c8_1474 : Index := 8#32
  let c0_1475 : Index := 0#32
  ![v3865.toNat, 2, 8, 0]
def k0_off440 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3869 : Index := Scalar.indexCast v2187
  let c3_1476 : Index := 3#32
  let c8_1477 : Index := 8#32
  let c0_1478 : Index := 0#32
  ![v3869.toNat, 3, 8, 0]
def k0_off441 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3873 : Index := Scalar.indexCast v2187
  let c4_1479 : Index := 4#32
  let c8_1480 : Index := 8#32
  let c0_1481 : Index := 0#32
  ![v3873.toNat, 4, 8, 0]
def k0_off442 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3877 : Index := Scalar.indexCast v2187
  let c5_1482 : Index := 5#32
  let c8_1483 : Index := 8#32
  let c0_1484 : Index := 0#32
  ![v3877.toNat, 5, 8, 0]
def k0_off443 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3881 : Index := Scalar.indexCast v2187
  let c6_1485 : Index := 6#32
  let c8_1486 : Index := 8#32
  let c0_1487 : Index := 0#32
  ![v3881.toNat, 6, 8, 0]
def k0_off444 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3885 : Index := Scalar.indexCast v2187
  let c7_1488 : Index := 7#32
  let c8_1489 : Index := 8#32
  let c0_1490 : Index := 0#32
  ![v3885.toNat, 7, 8, 0]
def k0_off445 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3889 : Index := Scalar.indexCast v2187
  let c8_1491 : Index := 8#32
  let c8_1492 : Index := 8#32
  let c0_1493 : Index := 0#32
  ![v3889.toNat, 8, 8, 0]
def k0_off446 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3893 : Index := Scalar.indexCast v2187
  let c9_1494 : Index := 9#32
  let c8_1495 : Index := 8#32
  let c0_1496 : Index := 0#32
  ![v3893.toNat, 9, 8, 0]
def k0_off447 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3897 : Index := Scalar.indexCast v2187
  let c10_1497 : Index := 10#32
  let c8_1498 : Index := 8#32
  let c0_1499 : Index := 0#32
  ![v3897.toNat, 10, 8, 0]
def k0_off448 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3901 : Index := Scalar.indexCast v2187
  let c11_1500 : Index := 11#32
  let c8_1501 : Index := 8#32
  let c0_1502 : Index := 0#32
  ![v3901.toNat, 11, 8, 0]
def k0_off449 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3905 : Index := Scalar.indexCast v2187
  let c12_1503 : Index := 12#32
  let c8_1504 : Index := 8#32
  let c0_1505 : Index := 0#32
  ![v3905.toNat, 12, 8, 0]
def k0_off450 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3909 : Index := Scalar.indexCast v2187
  let c13_1506 : Index := 13#32
  let c8_1507 : Index := 8#32
  let c0_1508 : Index := 0#32
  ![v3909.toNat, 13, 8, 0]
def k0_off451 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3913 : Index := Scalar.indexCast v2187
  let c14_1509 : Index := 14#32
  let c8_1510 : Index := 8#32
  let c0_1511 : Index := 0#32
  ![v3913.toNat, 14, 8, 0]
def k0_off452 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3917 : Index := Scalar.indexCast v2187
  let c15_1512 : Index := 15#32
  let c8_1513 : Index := 8#32
  let c0_1514 : Index := 0#32
  ![v3917.toNat, 15, 8, 0]
def k0_off453 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3921 : Index := Scalar.indexCast v2187
  let c16_1515 : Index := 16#32
  let c8_1516 : Index := 8#32
  let c0_1517 : Index := 0#32
  ![v3921.toNat, 16, 8, 0]
def k0_off454 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3925 : Index := Scalar.indexCast v2187
  let c17_1518 : Index := 17#32
  let c8_1519 : Index := 8#32
  let c0_1520 : Index := 0#32
  ![v3925.toNat, 17, 8, 0]
def k0_off455 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3929 : Index := Scalar.indexCast v2187
  let c18_1521 : Index := 18#32
  let c8_1522 : Index := 8#32
  let c0_1523 : Index := 0#32
  ![v3929.toNat, 18, 8, 0]
def k0_off456 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3933 : Index := Scalar.indexCast v2187
  let c19_1524 : Index := 19#32
  let c8_1525 : Index := 8#32
  let c0_1526 : Index := 0#32
  ![v3933.toNat, 19, 8, 0]
def k0_off457 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3937 : Index := Scalar.indexCast v2187
  let c20_1527 : Index := 20#32
  let c8_1528 : Index := 8#32
  let c0_1529 : Index := 0#32
  ![v3937.toNat, 20, 8, 0]
def k0_off458 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3941 : Index := Scalar.indexCast v2187
  let c21_1530 : Index := 21#32
  let c8_1531 : Index := 8#32
  let c0_1532 : Index := 0#32
  ![v3941.toNat, 21, 8, 0]
def k0_off459 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3945 : Index := Scalar.indexCast v2187
  let c22_1533 : Index := 22#32
  let c8_1534 : Index := 8#32
  let c0_1535 : Index := 0#32
  ![v3945.toNat, 22, 8, 0]
def k0_off460 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3949 : Index := Scalar.indexCast v2187
  let c23_1536 : Index := 23#32
  let c8_1537 : Index := 8#32
  let c0_1538 : Index := 0#32
  ![v3949.toNat, 23, 8, 0]
def k0_off461 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3953 : Index := Scalar.indexCast v2187
  let c24_1539 : Index := 24#32
  let c8_1540 : Index := 8#32
  let c0_1541 : Index := 0#32
  ![v3953.toNat, 24, 8, 0]
def k0_off462 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3957 : Index := Scalar.indexCast v2187
  let c25_1542 : Index := 25#32
  let c8_1543 : Index := 8#32
  let c0_1544 : Index := 0#32
  ![v3957.toNat, 25, 8, 0]
def k0_off463 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3961 : Index := Scalar.indexCast v2187
  let c26_1545 : Index := 26#32
  let c8_1546 : Index := 8#32
  let c0_1547 : Index := 0#32
  ![v3961.toNat, 26, 8, 0]
def k0_off464 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3965 : Index := Scalar.indexCast v2187
  let c27_1548 : Index := 27#32
  let c8_1549 : Index := 8#32
  let c0_1550 : Index := 0#32
  ![v3965.toNat, 27, 8, 0]
def k0_off465 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3969 : Index := Scalar.indexCast v2187
  let c28_1551 : Index := 28#32
  let c8_1552 : Index := 8#32
  let c0_1553 : Index := 0#32
  ![v3969.toNat, 28, 8, 0]
def k0_off466 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3973 : Index := Scalar.indexCast v2187
  let c29_1554 : Index := 29#32
  let c8_1555 : Index := 8#32
  let c0_1556 : Index := 0#32
  ![v3973.toNat, 29, 8, 0]
def k0_off467 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3977 : Index := Scalar.indexCast v2187
  let c30_1557 : Index := 30#32
  let c8_1558 : Index := 8#32
  let c0_1559 : Index := 0#32
  ![v3977.toNat, 30, 8, 0]
def k0_off468 (i : grid0.Coords) (k0_t7 : Fin (k0_t7_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3981 : Index := Scalar.indexCast v2187
  let c31_1560 : Index := 31#32
  let c8_1561 : Index := 8#32
  let c0_1562 : Index := 0#32
  ![v3981.toNat, 31, 8, 0]
def k0_off469 (i : grid0.Coords) (k0_t7 : Fin (k0_t7_loop i).trips) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let c1_i32_42 : BitVec 32 := 1#32
  let arg17 : BitVec 32 := Scf.iv c0_i32_40 c1_i32_42 k0_t7
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3986 : Index := Scalar.indexCast v2187
  let c0_1564 : Index := 0#32
  let c0_1565 : Index := 0#32
  ![v3986.toNat, 0, 0]
@[reducible] def k0_t8_loop (i : grid0.Coords) : Scf.Loop 32 :=
  let c0_i32_40 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_25 : BitVec 32 := 0#32
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let v85 : BitVec 32 := Scalar.addi c0_i32_40 v84
  let c1_i32_43 : BitVec 32 := 1#32
  ⟨v88, v85, c1_i32_43⟩
def k0_off470 (i : grid0.Coords) (k0_t8 : Fin (k0_t8_loop i).trips) : Fin 4 → Nat :=
  let c0_880 : Index := 0#32
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2188 : Index := Scalar.indexCast v2187
  let c0_881 : Index := 0#32
  let c0_882 : Index := 0#32
  ![0, v2188.toNat, 0, 0]
def k0_off471 (i : grid0.Coords) (k0_t8 : Fin (k0_t8_loop i).trips) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2219 : Index := Scalar.indexCast v2187
  let c0_887 : Index := 0#32
  let c0_888 : Index := 0#32
  ![v2219.toNat, 0, 0]
def k0_off472 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2976 : Index := Scalar.indexCast v2187
  let c0_1130 : Index := 0#32
  let c0_1131 : Index := 0#32
  let c0_1132 : Index := 0#32
  ![v2976.toNat, 0, 0, 0]
def k0_off473 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2980 : Index := Scalar.indexCast v2187
  let c1_1133 : Index := 1#32
  let c0_1134 : Index := 0#32
  let c0_1135 : Index := 0#32
  ![v2980.toNat, 1, 0, 0]
def k0_off474 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2984 : Index := Scalar.indexCast v2187
  let c2_1136 : Index := 2#32
  let c0_1137 : Index := 0#32
  let c0_1138 : Index := 0#32
  ![v2984.toNat, 2, 0, 0]
def k0_off475 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2988 : Index := Scalar.indexCast v2187
  let c3_1139 : Index := 3#32
  let c0_1140 : Index := 0#32
  let c0_1141 : Index := 0#32
  ![v2988.toNat, 3, 0, 0]
def k0_off476 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2992 : Index := Scalar.indexCast v2187
  let c4_1142 : Index := 4#32
  let c0_1143 : Index := 0#32
  let c0_1144 : Index := 0#32
  ![v2992.toNat, 4, 0, 0]
def k0_off477 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v2996 : Index := Scalar.indexCast v2187
  let c5_1145 : Index := 5#32
  let c0_1146 : Index := 0#32
  let c0_1147 : Index := 0#32
  ![v2996.toNat, 5, 0, 0]
def k0_off478 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3000 : Index := Scalar.indexCast v2187
  let c6_1148 : Index := 6#32
  let c0_1149 : Index := 0#32
  let c0_1150 : Index := 0#32
  ![v3000.toNat, 6, 0, 0]
def k0_off479 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3004 : Index := Scalar.indexCast v2187
  let c7_1151 : Index := 7#32
  let c0_1152 : Index := 0#32
  let c0_1153 : Index := 0#32
  ![v3004.toNat, 7, 0, 0]
def k0_off480 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3008 : Index := Scalar.indexCast v2187
  let c8_1154 : Index := 8#32
  let c0_1155 : Index := 0#32
  let c0_1156 : Index := 0#32
  ![v3008.toNat, 8, 0, 0]
def k0_off481 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3012 : Index := Scalar.indexCast v2187
  let c9_1157 : Index := 9#32
  let c0_1158 : Index := 0#32
  let c0_1159 : Index := 0#32
  ![v3012.toNat, 9, 0, 0]
def k0_off482 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3016 : Index := Scalar.indexCast v2187
  let c10_1160 : Index := 10#32
  let c0_1161 : Index := 0#32
  let c0_1162 : Index := 0#32
  ![v3016.toNat, 10, 0, 0]
def k0_off483 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3020 : Index := Scalar.indexCast v2187
  let c11_1163 : Index := 11#32
  let c0_1164 : Index := 0#32
  let c0_1165 : Index := 0#32
  ![v3020.toNat, 11, 0, 0]
def k0_off484 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3024 : Index := Scalar.indexCast v2187
  let c12_1166 : Index := 12#32
  let c0_1167 : Index := 0#32
  let c0_1168 : Index := 0#32
  ![v3024.toNat, 12, 0, 0]
def k0_off485 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3028 : Index := Scalar.indexCast v2187
  let c13_1169 : Index := 13#32
  let c0_1170 : Index := 0#32
  let c0_1171 : Index := 0#32
  ![v3028.toNat, 13, 0, 0]
def k0_off486 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3032 : Index := Scalar.indexCast v2187
  let c14_1172 : Index := 14#32
  let c0_1173 : Index := 0#32
  let c0_1174 : Index := 0#32
  ![v3032.toNat, 14, 0, 0]
def k0_off487 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3036 : Index := Scalar.indexCast v2187
  let c15_1175 : Index := 15#32
  let c0_1176 : Index := 0#32
  let c0_1177 : Index := 0#32
  ![v3036.toNat, 15, 0, 0]
def k0_off488 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3040 : Index := Scalar.indexCast v2187
  let c16_1178 : Index := 16#32
  let c0_1179 : Index := 0#32
  let c0_1180 : Index := 0#32
  ![v3040.toNat, 16, 0, 0]
def k0_off489 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3044 : Index := Scalar.indexCast v2187
  let c17_1181 : Index := 17#32
  let c0_1182 : Index := 0#32
  let c0_1183 : Index := 0#32
  ![v3044.toNat, 17, 0, 0]
def k0_off490 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3048 : Index := Scalar.indexCast v2187
  let c18_1184 : Index := 18#32
  let c0_1185 : Index := 0#32
  let c0_1186 : Index := 0#32
  ![v3048.toNat, 18, 0, 0]
def k0_off491 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3052 : Index := Scalar.indexCast v2187
  let c19_1187 : Index := 19#32
  let c0_1188 : Index := 0#32
  let c0_1189 : Index := 0#32
  ![v3052.toNat, 19, 0, 0]
def k0_off492 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3056 : Index := Scalar.indexCast v2187
  let c20_1190 : Index := 20#32
  let c0_1191 : Index := 0#32
  let c0_1192 : Index := 0#32
  ![v3056.toNat, 20, 0, 0]
def k0_off493 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3060 : Index := Scalar.indexCast v2187
  let c21_1193 : Index := 21#32
  let c0_1194 : Index := 0#32
  let c0_1195 : Index := 0#32
  ![v3060.toNat, 21, 0, 0]
def k0_off494 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3064 : Index := Scalar.indexCast v2187
  let c22_1196 : Index := 22#32
  let c0_1197 : Index := 0#32
  let c0_1198 : Index := 0#32
  ![v3064.toNat, 22, 0, 0]
def k0_off495 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3068 : Index := Scalar.indexCast v2187
  let c23_1199 : Index := 23#32
  let c0_1200 : Index := 0#32
  let c0_1201 : Index := 0#32
  ![v3068.toNat, 23, 0, 0]
def k0_off496 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3072 : Index := Scalar.indexCast v2187
  let c24_1202 : Index := 24#32
  let c0_1203 : Index := 0#32
  let c0_1204 : Index := 0#32
  ![v3072.toNat, 24, 0, 0]
def k0_off497 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3076 : Index := Scalar.indexCast v2187
  let c25_1205 : Index := 25#32
  let c0_1206 : Index := 0#32
  let c0_1207 : Index := 0#32
  ![v3076.toNat, 25, 0, 0]
def k0_off498 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3080 : Index := Scalar.indexCast v2187
  let c26_1208 : Index := 26#32
  let c0_1209 : Index := 0#32
  let c0_1210 : Index := 0#32
  ![v3080.toNat, 26, 0, 0]
def k0_off499 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3084 : Index := Scalar.indexCast v2187
  let c27_1211 : Index := 27#32
  let c0_1212 : Index := 0#32
  let c0_1213 : Index := 0#32
  ![v3084.toNat, 27, 0, 0]
def k0_off500 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3088 : Index := Scalar.indexCast v2187
  let c28_1214 : Index := 28#32
  let c0_1215 : Index := 0#32
  let c0_1216 : Index := 0#32
  ![v3088.toNat, 28, 0, 0]
def k0_off501 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3092 : Index := Scalar.indexCast v2187
  let c29_1217 : Index := 29#32
  let c0_1218 : Index := 0#32
  let c0_1219 : Index := 0#32
  ![v3092.toNat, 29, 0, 0]
def k0_off502 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3096 : Index := Scalar.indexCast v2187
  let c30_1220 : Index := 30#32
  let c0_1221 : Index := 0#32
  let c0_1222 : Index := 0#32
  ![v3096.toNat, 30, 0, 0]
def k0_off503 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3100 : Index := Scalar.indexCast v2187
  let c31_1223 : Index := 31#32
  let c0_1224 : Index := 0#32
  let c0_1225 : Index := 0#32
  ![v3100.toNat, 31, 0, 0]
def k0_off504 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3857 : Index := Scalar.indexCast v2187
  let c0_1467 : Index := 0#32
  let c8_1468 : Index := 8#32
  let c0_1469 : Index := 0#32
  ![v3857.toNat, 0, 8, 0]
def k0_off505 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3861 : Index := Scalar.indexCast v2187
  let c1_1470 : Index := 1#32
  let c8_1471 : Index := 8#32
  let c0_1472 : Index := 0#32
  ![v3861.toNat, 1, 8, 0]
def k0_off506 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3865 : Index := Scalar.indexCast v2187
  let c2_1473 : Index := 2#32
  let c8_1474 : Index := 8#32
  let c0_1475 : Index := 0#32
  ![v3865.toNat, 2, 8, 0]
def k0_off507 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3869 : Index := Scalar.indexCast v2187
  let c3_1476 : Index := 3#32
  let c8_1477 : Index := 8#32
  let c0_1478 : Index := 0#32
  ![v3869.toNat, 3, 8, 0]
def k0_off508 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3873 : Index := Scalar.indexCast v2187
  let c4_1479 : Index := 4#32
  let c8_1480 : Index := 8#32
  let c0_1481 : Index := 0#32
  ![v3873.toNat, 4, 8, 0]
def k0_off509 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3877 : Index := Scalar.indexCast v2187
  let c5_1482 : Index := 5#32
  let c8_1483 : Index := 8#32
  let c0_1484 : Index := 0#32
  ![v3877.toNat, 5, 8, 0]
def k0_off510 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3881 : Index := Scalar.indexCast v2187
  let c6_1485 : Index := 6#32
  let c8_1486 : Index := 8#32
  let c0_1487 : Index := 0#32
  ![v3881.toNat, 6, 8, 0]
def k0_off511 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3885 : Index := Scalar.indexCast v2187
  let c7_1488 : Index := 7#32
  let c8_1489 : Index := 8#32
  let c0_1490 : Index := 0#32
  ![v3885.toNat, 7, 8, 0]
def k0_off512 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3889 : Index := Scalar.indexCast v2187
  let c8_1491 : Index := 8#32
  let c8_1492 : Index := 8#32
  let c0_1493 : Index := 0#32
  ![v3889.toNat, 8, 8, 0]
def k0_off513 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3893 : Index := Scalar.indexCast v2187
  let c9_1494 : Index := 9#32
  let c8_1495 : Index := 8#32
  let c0_1496 : Index := 0#32
  ![v3893.toNat, 9, 8, 0]
def k0_off514 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3897 : Index := Scalar.indexCast v2187
  let c10_1497 : Index := 10#32
  let c8_1498 : Index := 8#32
  let c0_1499 : Index := 0#32
  ![v3897.toNat, 10, 8, 0]
def k0_off515 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3901 : Index := Scalar.indexCast v2187
  let c11_1500 : Index := 11#32
  let c8_1501 : Index := 8#32
  let c0_1502 : Index := 0#32
  ![v3901.toNat, 11, 8, 0]
def k0_off516 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3905 : Index := Scalar.indexCast v2187
  let c12_1503 : Index := 12#32
  let c8_1504 : Index := 8#32
  let c0_1505 : Index := 0#32
  ![v3905.toNat, 12, 8, 0]
def k0_off517 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3909 : Index := Scalar.indexCast v2187
  let c13_1506 : Index := 13#32
  let c8_1507 : Index := 8#32
  let c0_1508 : Index := 0#32
  ![v3909.toNat, 13, 8, 0]
def k0_off518 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3913 : Index := Scalar.indexCast v2187
  let c14_1509 : Index := 14#32
  let c8_1510 : Index := 8#32
  let c0_1511 : Index := 0#32
  ![v3913.toNat, 14, 8, 0]
def k0_off519 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3917 : Index := Scalar.indexCast v2187
  let c15_1512 : Index := 15#32
  let c8_1513 : Index := 8#32
  let c0_1514 : Index := 0#32
  ![v3917.toNat, 15, 8, 0]
def k0_off520 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3921 : Index := Scalar.indexCast v2187
  let c16_1515 : Index := 16#32
  let c8_1516 : Index := 8#32
  let c0_1517 : Index := 0#32
  ![v3921.toNat, 16, 8, 0]
def k0_off521 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3925 : Index := Scalar.indexCast v2187
  let c17_1518 : Index := 17#32
  let c8_1519 : Index := 8#32
  let c0_1520 : Index := 0#32
  ![v3925.toNat, 17, 8, 0]
def k0_off522 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3929 : Index := Scalar.indexCast v2187
  let c18_1521 : Index := 18#32
  let c8_1522 : Index := 8#32
  let c0_1523 : Index := 0#32
  ![v3929.toNat, 18, 8, 0]
def k0_off523 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3933 : Index := Scalar.indexCast v2187
  let c19_1524 : Index := 19#32
  let c8_1525 : Index := 8#32
  let c0_1526 : Index := 0#32
  ![v3933.toNat, 19, 8, 0]
def k0_off524 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3937 : Index := Scalar.indexCast v2187
  let c20_1527 : Index := 20#32
  let c8_1528 : Index := 8#32
  let c0_1529 : Index := 0#32
  ![v3937.toNat, 20, 8, 0]
def k0_off525 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3941 : Index := Scalar.indexCast v2187
  let c21_1530 : Index := 21#32
  let c8_1531 : Index := 8#32
  let c0_1532 : Index := 0#32
  ![v3941.toNat, 21, 8, 0]
def k0_off526 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3945 : Index := Scalar.indexCast v2187
  let c22_1533 : Index := 22#32
  let c8_1534 : Index := 8#32
  let c0_1535 : Index := 0#32
  ![v3945.toNat, 22, 8, 0]
def k0_off527 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3949 : Index := Scalar.indexCast v2187
  let c23_1536 : Index := 23#32
  let c8_1537 : Index := 8#32
  let c0_1538 : Index := 0#32
  ![v3949.toNat, 23, 8, 0]
def k0_off528 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3953 : Index := Scalar.indexCast v2187
  let c24_1539 : Index := 24#32
  let c8_1540 : Index := 8#32
  let c0_1541 : Index := 0#32
  ![v3953.toNat, 24, 8, 0]
def k0_off529 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3957 : Index := Scalar.indexCast v2187
  let c25_1542 : Index := 25#32
  let c8_1543 : Index := 8#32
  let c0_1544 : Index := 0#32
  ![v3957.toNat, 25, 8, 0]
def k0_off530 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3961 : Index := Scalar.indexCast v2187
  let c26_1545 : Index := 26#32
  let c8_1546 : Index := 8#32
  let c0_1547 : Index := 0#32
  ![v3961.toNat, 26, 8, 0]
def k0_off531 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3965 : Index := Scalar.indexCast v2187
  let c27_1548 : Index := 27#32
  let c8_1549 : Index := 8#32
  let c0_1550 : Index := 0#32
  ![v3965.toNat, 27, 8, 0]
def k0_off532 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3969 : Index := Scalar.indexCast v2187
  let c28_1551 : Index := 28#32
  let c8_1552 : Index := 8#32
  let c0_1553 : Index := 0#32
  ![v3969.toNat, 28, 8, 0]
def k0_off533 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3973 : Index := Scalar.indexCast v2187
  let c29_1554 : Index := 29#32
  let c8_1555 : Index := 8#32
  let c0_1556 : Index := 0#32
  ![v3973.toNat, 29, 8, 0]
def k0_off534 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3977 : Index := Scalar.indexCast v2187
  let c30_1557 : Index := 30#32
  let c8_1558 : Index := 8#32
  let c0_1559 : Index := 0#32
  ![v3977.toNat, 30, 8, 0]
def k0_off535 (i : grid0.Coords) (k0_t8 : Fin (k0_t8_loop i).trips) : Fin 4 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3981 : Index := Scalar.indexCast v2187
  let c31_1560 : Index := 31#32
  let c8_1561 : Index := 8#32
  let c0_1562 : Index := 0#32
  ![v3981.toNat, 31, 8, 0]
def k0_off536 (i : grid0.Coords) (k0_t8 : Fin (k0_t8_loop i).trips) : Fin 3 → Nat :=
  let c0_i32_25 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_18 : BitVec 32 := 1#32
  let v54 : BitVec 32 := Scalar.subi v20 c1_i32_18
  let c0_i32_19 : BitVec 32 := 0#32
  let v55 : BitVec 32 := Scalar.subi v54 c0_i32_19
  let c3_i32 : BitVec 32 := 3#32
  let v56 : BitVec 32 := Scalar.shrui v55 c3_i32
  let c8_i32 : BitVec 32 := 8#32
  let v62 : BitVec 32 := Scalar.muli v56 c8_i32
  let v63 : BitVec 32 := Scalar.addi c0_i32_25 v62
  let v64 : BitVec 32 := Scalar.subi v54 v63
  let c2_i32 : BitVec 32 := 2#32
  let v65 : BitVec 32 := Scalar.shrui v64 c2_i32
  let c4_i32 : BitVec 32 := 4#32
  let v71 : BitVec 32 := Scalar.muli v65 c4_i32
  let v72 : BitVec 32 := Scalar.addi v63 v71
  let v73 : BitVec 32 := Scalar.subi v54 v72
  let c1_i32_31 : BitVec 32 := 1#32
  let v74 : BitVec 32 := Scalar.shrui v73 c1_i32_31
  let c2_i32_37 : BitVec 32 := 2#32
  let v80 : BitVec 32 := Scalar.muli v74 c2_i32_37
  let v81 : BitVec 32 := Scalar.addi v72 v80
  let c0_i32_40 : BitVec 32 := 0#32
  let v82 : BitVec 32 := Scalar.subi v54 v81
  let c0_i32_38 : BitVec 32 := 0#32
  let v83 : BitVec 32 := Scalar.shrui v82 c0_i32_38
  let v84 : BitVec 32 := Scalar.subi v83 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t8
  let c1_i32_878 : BitVec 32 := 1#32
  let v2185 : BitVec 32 := Scalar.muli arg17 c1_i32_878
  let v2186 : BitVec 32 := Scalar.addi v81 v2185
  let c0_i32_879 : BitVec 32 := 0#32
  let v2187 : BitVec 32 := Scalar.addi v2186 c0_i32_879
  let v3986 : Index := Scalar.indexCast v2187
  let c0_1564 : Index := 0#32
  let c0_1565 : Index := 0#32
  ![v3986.toNat, 0, 0]
def k0_off537 (i : grid0.Coords) : Fin 4 → Nat :=
  let c0_45 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v90 : Index := Scalar.indexCast v89
  let c0_46 : Index := 0#32
  let c0_47 : Index := 0#32
  ![0, v90.toNat, 0, 0]
def k0_off538 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v128 : Index := Scalar.indexCast v89
  let c0_53 : Index := 0#32
  let c0_54 : Index := 0#32
  ![v128.toNat, 0, 0]
def k0_off539 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v885 : Index := Scalar.indexCast v89
  let c0_290 : Index := 0#32
  let c0_291 : Index := 0#32
  let c0_292 : Index := 0#32
  ![v885.toNat, 0, 0, 0]
def k0_off540 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v889 : Index := Scalar.indexCast v89
  let c1 : Index := 1#32
  let c0_293 : Index := 0#32
  let c0_294 : Index := 0#32
  ![v889.toNat, 1, 0, 0]
def k0_off541 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v893 : Index := Scalar.indexCast v89
  let c2 : Index := 2#32
  let c0_295 : Index := 0#32
  let c0_296 : Index := 0#32
  ![v893.toNat, 2, 0, 0]
def k0_off542 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v897 : Index := Scalar.indexCast v89
  let c3 : Index := 3#32
  let c0_297 : Index := 0#32
  let c0_298 : Index := 0#32
  ![v897.toNat, 3, 0, 0]
def k0_off543 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v901 : Index := Scalar.indexCast v89
  let c4 : Index := 4#32
  let c0_299 : Index := 0#32
  let c0_300 : Index := 0#32
  ![v901.toNat, 4, 0, 0]
def k0_off544 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v905 : Index := Scalar.indexCast v89
  let c5 : Index := 5#32
  let c0_301 : Index := 0#32
  let c0_302 : Index := 0#32
  ![v905.toNat, 5, 0, 0]
def k0_off545 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v909 : Index := Scalar.indexCast v89
  let c6 : Index := 6#32
  let c0_303 : Index := 0#32
  let c0_304 : Index := 0#32
  ![v909.toNat, 6, 0, 0]
def k0_off546 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v913 : Index := Scalar.indexCast v89
  let c7 : Index := 7#32
  let c0_305 : Index := 0#32
  let c0_306 : Index := 0#32
  ![v913.toNat, 7, 0, 0]
def k0_off547 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v917 : Index := Scalar.indexCast v89
  let c8 : Index := 8#32
  let c0_307 : Index := 0#32
  let c0_308 : Index := 0#32
  ![v917.toNat, 8, 0, 0]
def k0_off548 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v921 : Index := Scalar.indexCast v89
  let c9 : Index := 9#32
  let c0_309 : Index := 0#32
  let c0_310 : Index := 0#32
  ![v921.toNat, 9, 0, 0]
def k0_off549 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v925 : Index := Scalar.indexCast v89
  let c10 : Index := 10#32
  let c0_311 : Index := 0#32
  let c0_312 : Index := 0#32
  ![v925.toNat, 10, 0, 0]
def k0_off550 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v929 : Index := Scalar.indexCast v89
  let c11 : Index := 11#32
  let c0_313 : Index := 0#32
  let c0_314 : Index := 0#32
  ![v929.toNat, 11, 0, 0]
def k0_off551 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v933 : Index := Scalar.indexCast v89
  let c12 : Index := 12#32
  let c0_315 : Index := 0#32
  let c0_316 : Index := 0#32
  ![v933.toNat, 12, 0, 0]
def k0_off552 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v937 : Index := Scalar.indexCast v89
  let c13 : Index := 13#32
  let c0_317 : Index := 0#32
  let c0_318 : Index := 0#32
  ![v937.toNat, 13, 0, 0]
def k0_off553 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v941 : Index := Scalar.indexCast v89
  let c14 : Index := 14#32
  let c0_319 : Index := 0#32
  let c0_320 : Index := 0#32
  ![v941.toNat, 14, 0, 0]
def k0_off554 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v945 : Index := Scalar.indexCast v89
  let c15 : Index := 15#32
  let c0_321 : Index := 0#32
  let c0_322 : Index := 0#32
  ![v945.toNat, 15, 0, 0]
def k0_off555 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v949 : Index := Scalar.indexCast v89
  let c16 : Index := 16#32
  let c0_323 : Index := 0#32
  let c0_324 : Index := 0#32
  ![v949.toNat, 16, 0, 0]
def k0_off556 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v953 : Index := Scalar.indexCast v89
  let c17 : Index := 17#32
  let c0_325 : Index := 0#32
  let c0_326 : Index := 0#32
  ![v953.toNat, 17, 0, 0]
def k0_off557 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v957 : Index := Scalar.indexCast v89
  let c18 : Index := 18#32
  let c0_327 : Index := 0#32
  let c0_328 : Index := 0#32
  ![v957.toNat, 18, 0, 0]
def k0_off558 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v961 : Index := Scalar.indexCast v89
  let c19 : Index := 19#32
  let c0_329 : Index := 0#32
  let c0_330 : Index := 0#32
  ![v961.toNat, 19, 0, 0]
def k0_off559 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v965 : Index := Scalar.indexCast v89
  let c20 : Index := 20#32
  let c0_331 : Index := 0#32
  let c0_332 : Index := 0#32
  ![v965.toNat, 20, 0, 0]
def k0_off560 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v969 : Index := Scalar.indexCast v89
  let c21 : Index := 21#32
  let c0_333 : Index := 0#32
  let c0_334 : Index := 0#32
  ![v969.toNat, 21, 0, 0]
def k0_off561 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v973 : Index := Scalar.indexCast v89
  let c22 : Index := 22#32
  let c0_335 : Index := 0#32
  let c0_336 : Index := 0#32
  ![v973.toNat, 22, 0, 0]
def k0_off562 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v977 : Index := Scalar.indexCast v89
  let c23 : Index := 23#32
  let c0_337 : Index := 0#32
  let c0_338 : Index := 0#32
  ![v977.toNat, 23, 0, 0]
def k0_off563 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v981 : Index := Scalar.indexCast v89
  let c24 : Index := 24#32
  let c0_339 : Index := 0#32
  let c0_340 : Index := 0#32
  ![v981.toNat, 24, 0, 0]
def k0_off564 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v985 : Index := Scalar.indexCast v89
  let c25 : Index := 25#32
  let c0_341 : Index := 0#32
  let c0_342 : Index := 0#32
  ![v985.toNat, 25, 0, 0]
def k0_off565 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v989 : Index := Scalar.indexCast v89
  let c26 : Index := 26#32
  let c0_343 : Index := 0#32
  let c0_344 : Index := 0#32
  ![v989.toNat, 26, 0, 0]
def k0_off566 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v993 : Index := Scalar.indexCast v89
  let c27 : Index := 27#32
  let c0_345 : Index := 0#32
  let c0_346 : Index := 0#32
  ![v993.toNat, 27, 0, 0]
def k0_off567 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v997 : Index := Scalar.indexCast v89
  let c28 : Index := 28#32
  let c0_347 : Index := 0#32
  let c0_348 : Index := 0#32
  ![v997.toNat, 28, 0, 0]
def k0_off568 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1001 : Index := Scalar.indexCast v89
  let c29 : Index := 29#32
  let c0_349 : Index := 0#32
  let c0_350 : Index := 0#32
  ![v1001.toNat, 29, 0, 0]
def k0_off569 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1005 : Index := Scalar.indexCast v89
  let c30 : Index := 30#32
  let c0_351 : Index := 0#32
  let c0_352 : Index := 0#32
  ![v1005.toNat, 30, 0, 0]
def k0_off570 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1009 : Index := Scalar.indexCast v89
  let c31 : Index := 31#32
  let c0_353 : Index := 0#32
  let c0_354 : Index := 0#32
  ![v1009.toNat, 31, 0, 0]
def k0_off571 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1766 : Index := Scalar.indexCast v89
  let c0_596 : Index := 0#32
  let c8_597 : Index := 8#32
  let c0_598 : Index := 0#32
  ![v1766.toNat, 0, 8, 0]
def k0_off572 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1770 : Index := Scalar.indexCast v89
  let c1_599 : Index := 1#32
  let c8_600 : Index := 8#32
  let c0_601 : Index := 0#32
  ![v1770.toNat, 1, 8, 0]
def k0_off573 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1774 : Index := Scalar.indexCast v89
  let c2_602 : Index := 2#32
  let c8_603 : Index := 8#32
  let c0_604 : Index := 0#32
  ![v1774.toNat, 2, 8, 0]
def k0_off574 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1778 : Index := Scalar.indexCast v89
  let c3_605 : Index := 3#32
  let c8_606 : Index := 8#32
  let c0_607 : Index := 0#32
  ![v1778.toNat, 3, 8, 0]
def k0_off575 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1782 : Index := Scalar.indexCast v89
  let c4_608 : Index := 4#32
  let c8_609 : Index := 8#32
  let c0_610 : Index := 0#32
  ![v1782.toNat, 4, 8, 0]
def k0_off576 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1786 : Index := Scalar.indexCast v89
  let c5_611 : Index := 5#32
  let c8_612 : Index := 8#32
  let c0_613 : Index := 0#32
  ![v1786.toNat, 5, 8, 0]
def k0_off577 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1790 : Index := Scalar.indexCast v89
  let c6_614 : Index := 6#32
  let c8_615 : Index := 8#32
  let c0_616 : Index := 0#32
  ![v1790.toNat, 6, 8, 0]
def k0_off578 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1794 : Index := Scalar.indexCast v89
  let c7_617 : Index := 7#32
  let c8_618 : Index := 8#32
  let c0_619 : Index := 0#32
  ![v1794.toNat, 7, 8, 0]
def k0_off579 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1798 : Index := Scalar.indexCast v89
  let c8_620 : Index := 8#32
  let c8_621 : Index := 8#32
  let c0_622 : Index := 0#32
  ![v1798.toNat, 8, 8, 0]
def k0_off580 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1802 : Index := Scalar.indexCast v89
  let c9_623 : Index := 9#32
  let c8_624 : Index := 8#32
  let c0_625 : Index := 0#32
  ![v1802.toNat, 9, 8, 0]
def k0_off581 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1806 : Index := Scalar.indexCast v89
  let c10_626 : Index := 10#32
  let c8_627 : Index := 8#32
  let c0_628 : Index := 0#32
  ![v1806.toNat, 10, 8, 0]
def k0_off582 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1810 : Index := Scalar.indexCast v89
  let c11_629 : Index := 11#32
  let c8_630 : Index := 8#32
  let c0_631 : Index := 0#32
  ![v1810.toNat, 11, 8, 0]
def k0_off583 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1814 : Index := Scalar.indexCast v89
  let c12_632 : Index := 12#32
  let c8_633 : Index := 8#32
  let c0_634 : Index := 0#32
  ![v1814.toNat, 12, 8, 0]
def k0_off584 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1818 : Index := Scalar.indexCast v89
  let c13_635 : Index := 13#32
  let c8_636 : Index := 8#32
  let c0_637 : Index := 0#32
  ![v1818.toNat, 13, 8, 0]
def k0_off585 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1822 : Index := Scalar.indexCast v89
  let c14_638 : Index := 14#32
  let c8_639 : Index := 8#32
  let c0_640 : Index := 0#32
  ![v1822.toNat, 14, 8, 0]
def k0_off586 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1826 : Index := Scalar.indexCast v89
  let c15_641 : Index := 15#32
  let c8_642 : Index := 8#32
  let c0_643 : Index := 0#32
  ![v1826.toNat, 15, 8, 0]
def k0_off587 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1830 : Index := Scalar.indexCast v89
  let c16_644 : Index := 16#32
  let c8_645 : Index := 8#32
  let c0_646 : Index := 0#32
  ![v1830.toNat, 16, 8, 0]
def k0_off588 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1834 : Index := Scalar.indexCast v89
  let c17_647 : Index := 17#32
  let c8_648 : Index := 8#32
  let c0_649 : Index := 0#32
  ![v1834.toNat, 17, 8, 0]
def k0_off589 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1838 : Index := Scalar.indexCast v89
  let c18_650 : Index := 18#32
  let c8_651 : Index := 8#32
  let c0_652 : Index := 0#32
  ![v1838.toNat, 18, 8, 0]
def k0_off590 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1842 : Index := Scalar.indexCast v89
  let c19_653 : Index := 19#32
  let c8_654 : Index := 8#32
  let c0_655 : Index := 0#32
  ![v1842.toNat, 19, 8, 0]
def k0_off591 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1846 : Index := Scalar.indexCast v89
  let c20_656 : Index := 20#32
  let c8_657 : Index := 8#32
  let c0_658 : Index := 0#32
  ![v1846.toNat, 20, 8, 0]
def k0_off592 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1850 : Index := Scalar.indexCast v89
  let c21_659 : Index := 21#32
  let c8_660 : Index := 8#32
  let c0_661 : Index := 0#32
  ![v1850.toNat, 21, 8, 0]
def k0_off593 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1854 : Index := Scalar.indexCast v89
  let c22_662 : Index := 22#32
  let c8_663 : Index := 8#32
  let c0_664 : Index := 0#32
  ![v1854.toNat, 22, 8, 0]
def k0_off594 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1858 : Index := Scalar.indexCast v89
  let c23_665 : Index := 23#32
  let c8_666 : Index := 8#32
  let c0_667 : Index := 0#32
  ![v1858.toNat, 23, 8, 0]
def k0_off595 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1862 : Index := Scalar.indexCast v89
  let c24_668 : Index := 24#32
  let c8_669 : Index := 8#32
  let c0_670 : Index := 0#32
  ![v1862.toNat, 24, 8, 0]
def k0_off596 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1866 : Index := Scalar.indexCast v89
  let c25_671 : Index := 25#32
  let c8_672 : Index := 8#32
  let c0_673 : Index := 0#32
  ![v1866.toNat, 25, 8, 0]
def k0_off597 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1870 : Index := Scalar.indexCast v89
  let c26_674 : Index := 26#32
  let c8_675 : Index := 8#32
  let c0_676 : Index := 0#32
  ![v1870.toNat, 26, 8, 0]
def k0_off598 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1874 : Index := Scalar.indexCast v89
  let c27_677 : Index := 27#32
  let c8_678 : Index := 8#32
  let c0_679 : Index := 0#32
  ![v1874.toNat, 27, 8, 0]
def k0_off599 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1878 : Index := Scalar.indexCast v89
  let c28_680 : Index := 28#32
  let c8_681 : Index := 8#32
  let c0_682 : Index := 0#32
  ![v1878.toNat, 28, 8, 0]
def k0_off600 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1882 : Index := Scalar.indexCast v89
  let c29_683 : Index := 29#32
  let c8_684 : Index := 8#32
  let c0_685 : Index := 0#32
  ![v1882.toNat, 29, 8, 0]
def k0_off601 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1886 : Index := Scalar.indexCast v89
  let c30_686 : Index := 30#32
  let c8_687 : Index := 8#32
  let c0_688 : Index := 0#32
  ![v1886.toNat, 30, 8, 0]
def k0_off602 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1890 : Index := Scalar.indexCast v89
  let c31_689 : Index := 31#32
  let c8_690 : Index := 8#32
  let c0_691 : Index := 0#32
  ![v1890.toNat, 31, 8, 0]
def k0_off603 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_44 : BitVec 32 := 1#32
  let v89 : BitVec 32 := Scalar.subi v20 c1_i32_44
  let v1895 : Index := Scalar.indexCast v89
  let c0_692 : Index := 0#32
  let c0_693 : Index := 0#32
  ![v1895.toNat, 0, 0]
@[reducible] def k0_t9_loop (i : grid0.Coords) : Scf.Loop 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c16_i32_695 : BitVec 32 := 16#32
  let v1899 : BitVec 32 := Scalar.subi c16_i32_695 v20
  let c1_i32_696 : BitVec 32 := 1#32
  let v1901 : BitVec 32 := Scalar.divsi v1899 c1_i32_696
  let v1902 : BitVec 32 := Scalar.muli v1901 c1_i32_696
  let v1903 : BitVec 32 := Scalar.addi v20 v1902
  let c1_i32_697 : BitVec 32 := 1#32
  ⟨v20, v1903, c1_i32_697⟩
def k0_off604 (i : grid0.Coords) (k0_t9 : Fin (k0_t9_loop i).trips) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_697 : BitVec 32 := 1#32
  let arg17 : BitVec 32 := Scf.iv v20 c1_i32_697 k0_t9
  let v2186 : Index := Scalar.indexCast arg17
  let c0_879 : Index := 0#32
  let c0_880 : Index := 0#32
  let c0_881 : Index := 0#32
  ![v2186.toNat, 0, 0, 0]
def k0_off605 (i : grid0.Coords) (k0_t9 : Fin (k0_t9_loop i).trips) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_697 : BitVec 32 := 1#32
  let arg17 : BitVec 32 := Scf.iv v20 c1_i32_697 k0_t9
  let v2191 : Index := Scalar.indexCast arg17
  let c0_883 : Index := 0#32
  let c0_884 : Index := 0#32
  ![v2191.toNat, 0, 0]
@[reducible] def k0_t10_loop (i : grid0.Coords) : Scf.Loop 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c16_i32_695 : BitVec 32 := 16#32
  let v1899 : BitVec 32 := Scalar.subi c16_i32_695 v20
  let c1_i32_696 : BitVec 32 := 1#32
  let v1901 : BitVec 32 := Scalar.divsi v1899 c1_i32_696
  let v1902 : BitVec 32 := Scalar.muli v1901 c1_i32_696
  let v1903 : BitVec 32 := Scalar.addi v20 v1902
  let v1900 : BitVec 32 := Scalar.addi v20 v1899
  let c1_i32_698 : BitVec 32 := 1#32
  ⟨v1903, v1900, c1_i32_698⟩
def k0_off606 (i : grid0.Coords) (k0_t10 : Fin (k0_t10_loop i).trips) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c16_i32_695 : BitVec 32 := 16#32
  let v1899 : BitVec 32 := Scalar.subi c16_i32_695 v20
  let c1_i32_696 : BitVec 32 := 1#32
  let v1901 : BitVec 32 := Scalar.divsi v1899 c1_i32_696
  let v1902 : BitVec 32 := Scalar.muli v1901 c1_i32_696
  let v1903 : BitVec 32 := Scalar.addi v20 v1902
  let c1_i32_698 : BitVec 32 := 1#32
  let arg17 : BitVec 32 := Scf.iv v1903 c1_i32_698 k0_t10
  let v2186 : Index := Scalar.indexCast arg17
  let c0_879 : Index := 0#32
  let c0_880 : Index := 0#32
  let c0_881 : Index := 0#32
  ![v2186.toNat, 0, 0, 0]
def k0_off607 (i : grid0.Coords) (k0_t10 : Fin (k0_t10_loop i).trips) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c16_i32_695 : BitVec 32 := 16#32
  let v1899 : BitVec 32 := Scalar.subi c16_i32_695 v20
  let c1_i32_696 : BitVec 32 := 1#32
  let v1901 : BitVec 32 := Scalar.divsi v1899 c1_i32_696
  let v1902 : BitVec 32 := Scalar.muli v1901 c1_i32_696
  let v1903 : BitVec 32 := Scalar.addi v20 v1902
  let c1_i32_698 : BitVec 32 := 1#32
  let arg17 : BitVec 32 := Scf.iv v1903 c1_i32_698 k0_t10
  let v2191 : Index := Scalar.indexCast arg17
  let c0_883 : Index := 0#32
  let c0_884 : Index := 0#32
  ![v2191.toNat, 0, 0]
@[reducible] def k0_t11_loop : Scf.Loop 32 :=
  let c0_i32_702 : BitVec 32 := 0#32
  let c32_i32 : BitVec 32 := 32#32
  let v1907 : BitVec 32 := Scalar.addi c0_i32_702 c32_i32
  let c1_i32_703 : BitVec 32 := 1#32
  ⟨c0_i32_702, v1907, c1_i32_703⟩
def k0_off608 (k0_t11 : Fin k0_t11_loop.trips) : Fin 4 → Nat :=
  let c0_886 : Index := 0#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2191 : Index := Scalar.indexCast v2188
  let c0_887 : Index := 0#32
  let c0_888 : Index := 0#32
  ![0, v2191.toNat, 0, 0]
def k0_off609 (k0_t11 : Fin k0_t11_loop.trips) : Fin 4 → Nat :=
  let c0_892 : Index := 0#32
  let c0_i32_702 : BitVec 32 := 0#32
  let c1_i32_703 : BitVec 32 := 1#32
  let arg17 : BitVec 32 := Scf.iv c0_i32_702 c1_i32_703 k0_t11
  let v2202 : Index := Scalar.indexCast arg17
  let c0_893 : Index := 0#32
  let c0_894 : Index := 0#32
  ![0, v2202.toNat, 0, 0]
def k0_off610 (k0_t11 : Fin k0_t11_loop.trips) : Fin 4 → Nat :=
  let c1_898 : Index := 1#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2209 : Index := Scalar.indexCast v2188
  let c0_899 : Index := 0#32
  let c0_900 : Index := 0#32
  ![1, v2209.toNat, 0, 0]
def k0_off611 (k0_t11 : Fin k0_t11_loop.trips) : Fin 4 → Nat :=
  let c1_904 : Index := 1#32
  let c0_i32_702 : BitVec 32 := 0#32
  let c1_i32_703 : BitVec 32 := 1#32
  let arg17 : BitVec 32 := Scf.iv c0_i32_702 c1_i32_703 k0_t11
  let v2220 : Index := Scalar.indexCast arg17
  let c0_905 : Index := 0#32
  let c0_906 : Index := 0#32
  ![1, v2220.toNat, 0, 0]
def k0_off612 (k0_t11 : Fin k0_t11_loop.trips) : Fin 4 → Nat :=
  let c2_910 : Index := 2#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2227 : Index := Scalar.indexCast v2188
  let c0_911 : Index := 0#32
  let c0_912 : Index := 0#32
  ![2, v2227.toNat, 0, 0]
def k0_off613 (k0_t11 : Fin k0_t11_loop.trips) : Fin 4 → Nat :=
  let c2_916 : Index := 2#32
  let c0_i32_702 : BitVec 32 := 0#32
  let c1_i32_703 : BitVec 32 := 1#32
  let arg17 : BitVec 32 := Scf.iv c0_i32_702 c1_i32_703 k0_t11
  let v2238 : Index := Scalar.indexCast arg17
  let c0_917 : Index := 0#32
  let c0_918 : Index := 0#32
  ![2, v2238.toNat, 0, 0]
def k0_off614 (k0_t11 : Fin k0_t11_loop.trips) : Fin 4 → Nat :=
  let c3_922 : Index := 3#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2245 : Index := Scalar.indexCast v2188
  let c0_923 : Index := 0#32
  let c0_924 : Index := 0#32
  ![3, v2245.toNat, 0, 0]
def k0_off615 (k0_t11 : Fin k0_t11_loop.trips) : Fin 4 → Nat :=
  let c3_928 : Index := 3#32
  let c0_i32_702 : BitVec 32 := 0#32
  let c1_i32_703 : BitVec 32 := 1#32
  let arg17 : BitVec 32 := Scf.iv c0_i32_702 c1_i32_703 k0_t11
  let v2256 : Index := Scalar.indexCast arg17
  let c0_929 : Index := 0#32
  let c0_930 : Index := 0#32
  ![3, v2256.toNat, 0, 0]
def k0_off616 (k0_t11 : Fin k0_t11_loop.trips) : Fin 4 → Nat :=
  let c4_934 : Index := 4#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2263 : Index := Scalar.indexCast v2188
  let c0_935 : Index := 0#32
  let c0_936 : Index := 0#32
  ![4, v2263.toNat, 0, 0]
def k0_off617 (k0_t11 : Fin k0_t11_loop.trips) : Fin 4 → Nat :=
  let c4_940 : Index := 4#32
  let c0_i32_702 : BitVec 32 := 0#32
  let c1_i32_703 : BitVec 32 := 1#32
  let arg17 : BitVec 32 := Scf.iv c0_i32_702 c1_i32_703 k0_t11
  let v2274 : Index := Scalar.indexCast arg17
  let c0_941 : Index := 0#32
  let c0_942 : Index := 0#32
  ![4, v2274.toNat, 0, 0]
def k0_off618 (k0_t11 : Fin k0_t11_loop.trips) : Fin 4 → Nat :=
  let c5_946 : Index := 5#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2281 : Index := Scalar.indexCast v2188
  let c0_947 : Index := 0#32
  let c0_948 : Index := 0#32
  ![5, v2281.toNat, 0, 0]
def k0_off619 (k0_t11 : Fin k0_t11_loop.trips) : Fin 4 → Nat :=
  let c5_952 : Index := 5#32
  let c0_i32_702 : BitVec 32 := 0#32
  let c1_i32_703 : BitVec 32 := 1#32
  let arg17 : BitVec 32 := Scf.iv c0_i32_702 c1_i32_703 k0_t11
  let v2292 : Index := Scalar.indexCast arg17
  let c0_953 : Index := 0#32
  let c0_954 : Index := 0#32
  ![5, v2292.toNat, 0, 0]
def k0_off620 (k0_t11 : Fin k0_t11_loop.trips) : Fin 4 → Nat :=
  let c6_958 : Index := 6#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2299 : Index := Scalar.indexCast v2188
  let c0_959 : Index := 0#32
  let c0_960 : Index := 0#32
  ![6, v2299.toNat, 0, 0]
def k0_off621 (k0_t11 : Fin k0_t11_loop.trips) : Fin 4 → Nat :=
  let c6_964 : Index := 6#32
  let c0_i32_702 : BitVec 32 := 0#32
  let c1_i32_703 : BitVec 32 := 1#32
  let arg17 : BitVec 32 := Scf.iv c0_i32_702 c1_i32_703 k0_t11
  let v2310 : Index := Scalar.indexCast arg17
  let c0_965 : Index := 0#32
  let c0_966 : Index := 0#32
  ![6, v2310.toNat, 0, 0]
def k0_off622 (k0_t11 : Fin k0_t11_loop.trips) : Fin 4 → Nat :=
  let c7_970 : Index := 7#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2317 : Index := Scalar.indexCast v2188
  let c0_971 : Index := 0#32
  let c0_972 : Index := 0#32
  ![7, v2317.toNat, 0, 0]
def k0_off623 (k0_t11 : Fin k0_t11_loop.trips) : Fin 4 → Nat :=
  let c7_976 : Index := 7#32
  let c0_i32_702 : BitVec 32 := 0#32
  let c1_i32_703 : BitVec 32 := 1#32
  let arg17 : BitVec 32 := Scf.iv c0_i32_702 c1_i32_703 k0_t11
  let v2328 : Index := Scalar.indexCast arg17
  let c0_977 : Index := 0#32
  let c0_978 : Index := 0#32
  ![7, v2328.toNat, 0, 0]
def k0_off624 (k0_t11 : Fin k0_t11_loop.trips) : Fin 4 → Nat :=
  let c8_982 : Index := 8#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2335 : Index := Scalar.indexCast v2188
  let c0_983 : Index := 0#32
  let c0_984 : Index := 0#32
  ![8, v2335.toNat, 0, 0]
def k0_off625 (k0_t11 : Fin k0_t11_loop.trips) : Fin 4 → Nat :=
  let c8_988 : Index := 8#32
  let c0_i32_702 : BitVec 32 := 0#32
  let c1_i32_703 : BitVec 32 := 1#32
  let arg17 : BitVec 32 := Scf.iv c0_i32_702 c1_i32_703 k0_t11
  let v2346 : Index := Scalar.indexCast arg17
  let c0_989 : Index := 0#32
  let c0_990 : Index := 0#32
  ![8, v2346.toNat, 0, 0]
def k0_off626 (k0_t11 : Fin k0_t11_loop.trips) : Fin 4 → Nat :=
  let c9_994 : Index := 9#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2353 : Index := Scalar.indexCast v2188
  let c0_995 : Index := 0#32
  let c0_996 : Index := 0#32
  ![9, v2353.toNat, 0, 0]
def k0_off627 (k0_t11 : Fin k0_t11_loop.trips) : Fin 4 → Nat :=
  let c9_1000 : Index := 9#32
  let c0_i32_702 : BitVec 32 := 0#32
  let c1_i32_703 : BitVec 32 := 1#32
  let arg17 : BitVec 32 := Scf.iv c0_i32_702 c1_i32_703 k0_t11
  let v2364 : Index := Scalar.indexCast arg17
  let c0_1001 : Index := 0#32
  let c0_1002 : Index := 0#32
  ![9, v2364.toNat, 0, 0]
def k0_off628 (k0_t11 : Fin k0_t11_loop.trips) : Fin 4 → Nat :=
  let c10_1006 : Index := 10#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2371 : Index := Scalar.indexCast v2188
  let c0_1007 : Index := 0#32
  let c0_1008 : Index := 0#32
  ![10, v2371.toNat, 0, 0]
def k0_off629 (k0_t11 : Fin k0_t11_loop.trips) : Fin 4 → Nat :=
  let c10_1012 : Index := 10#32
  let c0_i32_702 : BitVec 32 := 0#32
  let c1_i32_703 : BitVec 32 := 1#32
  let arg17 : BitVec 32 := Scf.iv c0_i32_702 c1_i32_703 k0_t11
  let v2382 : Index := Scalar.indexCast arg17
  let c0_1013 : Index := 0#32
  let c0_1014 : Index := 0#32
  ![10, v2382.toNat, 0, 0]
def k0_off630 (k0_t11 : Fin k0_t11_loop.trips) : Fin 4 → Nat :=
  let c11_1018 : Index := 11#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2389 : Index := Scalar.indexCast v2188
  let c0_1019 : Index := 0#32
  let c0_1020 : Index := 0#32
  ![11, v2389.toNat, 0, 0]
def k0_off631 (k0_t11 : Fin k0_t11_loop.trips) : Fin 4 → Nat :=
  let c11_1024 : Index := 11#32
  let c0_i32_702 : BitVec 32 := 0#32
  let c1_i32_703 : BitVec 32 := 1#32
  let arg17 : BitVec 32 := Scf.iv c0_i32_702 c1_i32_703 k0_t11
  let v2400 : Index := Scalar.indexCast arg17
  let c0_1025 : Index := 0#32
  let c0_1026 : Index := 0#32
  ![11, v2400.toNat, 0, 0]
def k0_off632 (k0_t11 : Fin k0_t11_loop.trips) : Fin 4 → Nat :=
  let c12_1030 : Index := 12#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2407 : Index := Scalar.indexCast v2188
  let c0_1031 : Index := 0#32
  let c0_1032 : Index := 0#32
  ![12, v2407.toNat, 0, 0]
def k0_off633 (k0_t11 : Fin k0_t11_loop.trips) : Fin 4 → Nat :=
  let c12_1036 : Index := 12#32
  let c0_i32_702 : BitVec 32 := 0#32
  let c1_i32_703 : BitVec 32 := 1#32
  let arg17 : BitVec 32 := Scf.iv c0_i32_702 c1_i32_703 k0_t11
  let v2418 : Index := Scalar.indexCast arg17
  let c0_1037 : Index := 0#32
  let c0_1038 : Index := 0#32
  ![12, v2418.toNat, 0, 0]
def k0_off634 (k0_t11 : Fin k0_t11_loop.trips) : Fin 4 → Nat :=
  let c13_1042 : Index := 13#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2425 : Index := Scalar.indexCast v2188
  let c0_1043 : Index := 0#32
  let c0_1044 : Index := 0#32
  ![13, v2425.toNat, 0, 0]
def k0_off635 (k0_t11 : Fin k0_t11_loop.trips) : Fin 4 → Nat :=
  let c13_1048 : Index := 13#32
  let c0_i32_702 : BitVec 32 := 0#32
  let c1_i32_703 : BitVec 32 := 1#32
  let arg17 : BitVec 32 := Scf.iv c0_i32_702 c1_i32_703 k0_t11
  let v2436 : Index := Scalar.indexCast arg17
  let c0_1049 : Index := 0#32
  let c0_1050 : Index := 0#32
  ![13, v2436.toNat, 0, 0]
def k0_off636 (k0_t11 : Fin k0_t11_loop.trips) : Fin 4 → Nat :=
  let c14_1054 : Index := 14#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2443 : Index := Scalar.indexCast v2188
  let c0_1055 : Index := 0#32
  let c0_1056 : Index := 0#32
  ![14, v2443.toNat, 0, 0]
def k0_off637 (k0_t11 : Fin k0_t11_loop.trips) : Fin 4 → Nat :=
  let c14_1060 : Index := 14#32
  let c0_i32_702 : BitVec 32 := 0#32
  let c1_i32_703 : BitVec 32 := 1#32
  let arg17 : BitVec 32 := Scf.iv c0_i32_702 c1_i32_703 k0_t11
  let v2454 : Index := Scalar.indexCast arg17
  let c0_1061 : Index := 0#32
  let c0_1062 : Index := 0#32
  ![14, v2454.toNat, 0, 0]
def k0_off638 (k0_t11 : Fin k0_t11_loop.trips) : Fin 4 → Nat :=
  let c15_1066 : Index := 15#32
  let c0_i32_702 : BitVec 32 := 0#32
  let c1_i32_703 : BitVec 32 := 1#32
  let arg17 : BitVec 32 := Scf.iv c0_i32_702 c1_i32_703 k0_t11
  let c1_i32_881 : BitVec 32 := 1#32
  let v2187 : BitVec 32 := Scalar.subi arg17 c1_i32_881
  let c0_i32_882 : BitVec 32 := 0#32
  let v2188 : BitVec 32 := Scalar.maxsi v2187 c0_i32_882
  let v2461 : Index := Scalar.indexCast v2188
  let c0_1067 : Index := 0#32
  let c0_1068 : Index := 0#32
  ![15, v2461.toNat, 0, 0]
def k0_off639 (k0_t11 : Fin k0_t11_loop.trips) : Fin 4 → Nat :=
  let c15_1072 : Index := 15#32
  let c0_i32_702 : BitVec 32 := 0#32
  let c1_i32_703 : BitVec 32 := 1#32
  let arg17 : BitVec 32 := Scf.iv c0_i32_702 c1_i32_703 k0_t11
  let v2472 : Index := Scalar.indexCast arg17
  let c0_1073 : Index := 0#32
  let c0_1074 : Index := 0#32
  ![15, v2472.toNat, 0, 0]
@[reducible] def k0_t12_loop (i : grid0.Coords) : Scf.Loop 32 :=
  let c0_i32_879 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2187 : BitVec 32 := Scalar.subi v20 c0_i32_879
  let c1_i32_880 : BitVec 32 := 1#32
  let v2189 : BitVec 32 := Scalar.divsi v2187 c1_i32_880
  let v2190 : BitVec 32 := Scalar.muli v2189 c1_i32_880
  let v2191 : BitVec 32 := Scalar.addi c0_i32_879 v2190
  let c1_i32_881 : BitVec 32 := 1#32
  ⟨c0_i32_879, v2191, c1_i32_881⟩
def k0_off640 (i : grid0.Coords) (k0_t12 : Fin (k0_t12_loop i).trips) : Fin 3 → Nat :=
  let c0_i32_879 : BitVec 32 := 0#32
  let c1_i32_881 : BitVec 32 := 1#32
  let arg17 : BitVec 32 := Scf.iv c0_i32_879 c1_i32_881 k0_t12
  let v2192 : Index := Scalar.indexCast arg17
  let c0_883 : Index := 0#32
  let c0_884 : Index := 0#32
  ![v2192.toNat, 0, 0]
@[reducible] def k0_t13_loop (i : grid0.Coords) : Scf.Loop 32 :=
  let c0_i32_879 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2187 : BitVec 32 := Scalar.subi v20 c0_i32_879
  let c1_i32_880 : BitVec 32 := 1#32
  let v2189 : BitVec 32 := Scalar.divsi v2187 c1_i32_880
  let v2190 : BitVec 32 := Scalar.muli v2189 c1_i32_880
  let v2191 : BitVec 32 := Scalar.addi c0_i32_879 v2190
  let v2188 : BitVec 32 := Scalar.addi c0_i32_879 v2187
  let c1_i32_882 : BitVec 32 := 1#32
  ⟨v2191, v2188, c1_i32_882⟩
def k0_off641 (i : grid0.Coords) (k0_t13 : Fin (k0_t13_loop i).trips) : Fin 3 → Nat :=
  let c0_i32_879 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2187 : BitVec 32 := Scalar.subi v20 c0_i32_879
  let c1_i32_880 : BitVec 32 := 1#32
  let v2189 : BitVec 32 := Scalar.divsi v2187 c1_i32_880
  let v2190 : BitVec 32 := Scalar.muli v2189 c1_i32_880
  let v2191 : BitVec 32 := Scalar.addi c0_i32_879 v2190
  let c1_i32_882 : BitVec 32 := 1#32
  let arg17 : BitVec 32 := Scf.iv v2191 c1_i32_882 k0_t13
  let v2192 : Index := Scalar.indexCast arg17
  let c0_883 : Index := 0#32
  let c0_884 : Index := 0#32
  ![v2192.toNat, 0, 0]
@[reducible] def k0_t14_loop (i : grid0.Coords) : Scf.Loop 32 :=
  let c0_i32_881 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2188 : BitVec 32 := Scalar.subi v20 c0_i32_881
  let c1_i32_882 : BitVec 32 := 1#32
  let v2190 : BitVec 32 := Scalar.divsi v2188 c1_i32_882
  let v2191 : BitVec 32 := Scalar.muli v2190 c1_i32_882
  let v2192 : BitVec 32 := Scalar.addi c0_i32_881 v2191
  let c1_i32_883 : BitVec 32 := 1#32
  ⟨c0_i32_881, v2192, c1_i32_883⟩
def k0_off642 (i : grid0.Coords) (k0_t14 : Fin (k0_t14_loop i).trips) : Fin 3 → Nat :=
  let c0_i32_881 : BitVec 32 := 0#32
  let c1_i32_883 : BitVec 32 := 1#32
  let arg17 : BitVec 32 := Scf.iv c0_i32_881 c1_i32_883 k0_t14
  let v2195 : Index := Scalar.indexCast arg17
  let c0_885 : Index := 0#32
  let c0_886 : Index := 0#32
  ![v2195.toNat, 0, 0]
def k0_off643 (i : grid0.Coords) (k0_t14 : Fin (k0_t14_loop i).trips) : Fin 3 → Nat :=
  let c0_i32_881 : BitVec 32 := 0#32
  let c1_i32_883 : BitVec 32 := 1#32
  let arg17 : BitVec 32 := Scf.iv c0_i32_881 c1_i32_883 k0_t14
  let v2220 : Index := Scalar.indexCast arg17
  let c0_892 : Index := 0#32
  let c0_893 : Index := 0#32
  ![v2220.toNat, 0, 0]
def k0_off644 (i : grid0.Coords) (k0_t14 : Fin (k0_t14_loop i).trips) : Fin 3 → Nat :=
  let c0_i32_881 : BitVec 32 := 0#32
  let c1_i32_883 : BitVec 32 := 1#32
  let arg17 : BitVec 32 := Scf.iv c0_i32_881 c1_i32_883 k0_t14
  let v2247 : Index := Scalar.indexCast arg17
  let c256 : Index := 256#32
  let c0_899 : Index := 0#32
  ![v2247.toNat, 256, 0]
@[reducible] def k0_t15_loop (i : grid0.Coords) : Scf.Loop 32 :=
  let c0_i32_881 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2188 : BitVec 32 := Scalar.subi v20 c0_i32_881
  let c1_i32_882 : BitVec 32 := 1#32
  let v2190 : BitVec 32 := Scalar.divsi v2188 c1_i32_882
  let v2191 : BitVec 32 := Scalar.muli v2190 c1_i32_882
  let v2192 : BitVec 32 := Scalar.addi c0_i32_881 v2191
  let v2189 : BitVec 32 := Scalar.addi c0_i32_881 v2188
  let c1_i32_884 : BitVec 32 := 1#32
  ⟨v2192, v2189, c1_i32_884⟩
def k0_off645 (i : grid0.Coords) (k0_t15 : Fin (k0_t15_loop i).trips) : Fin 3 → Nat :=
  let c0_i32_881 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2188 : BitVec 32 := Scalar.subi v20 c0_i32_881
  let c1_i32_882 : BitVec 32 := 1#32
  let v2190 : BitVec 32 := Scalar.divsi v2188 c1_i32_882
  let v2191 : BitVec 32 := Scalar.muli v2190 c1_i32_882
  let v2192 : BitVec 32 := Scalar.addi c0_i32_881 v2191
  let c1_i32_884 : BitVec 32 := 1#32
  let arg17 : BitVec 32 := Scf.iv v2192 c1_i32_884 k0_t15
  let v2195 : Index := Scalar.indexCast arg17
  let c0_885 : Index := 0#32
  let c0_886 : Index := 0#32
  ![v2195.toNat, 0, 0]
def k0_off646 (i : grid0.Coords) (k0_t15 : Fin (k0_t15_loop i).trips) : Fin 3 → Nat :=
  let c0_i32_881 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2188 : BitVec 32 := Scalar.subi v20 c0_i32_881
  let c1_i32_882 : BitVec 32 := 1#32
  let v2190 : BitVec 32 := Scalar.divsi v2188 c1_i32_882
  let v2191 : BitVec 32 := Scalar.muli v2190 c1_i32_882
  let v2192 : BitVec 32 := Scalar.addi c0_i32_881 v2191
  let c1_i32_884 : BitVec 32 := 1#32
  let arg17 : BitVec 32 := Scf.iv v2192 c1_i32_884 k0_t15
  let v2220 : Index := Scalar.indexCast arg17
  let c0_892 : Index := 0#32
  let c0_893 : Index := 0#32
  ![v2220.toNat, 0, 0]
def k0_off647 (i : grid0.Coords) (k0_t15 : Fin (k0_t15_loop i).trips) : Fin 3 → Nat :=
  let c0_i32_881 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2188 : BitVec 32 := Scalar.subi v20 c0_i32_881
  let c1_i32_882 : BitVec 32 := 1#32
  let v2190 : BitVec 32 := Scalar.divsi v2188 c1_i32_882
  let v2191 : BitVec 32 := Scalar.muli v2190 c1_i32_882
  let v2192 : BitVec 32 := Scalar.addi c0_i32_881 v2191
  let c1_i32_884 : BitVec 32 := 1#32
  let arg17 : BitVec 32 := Scf.iv v2192 c1_i32_884 k0_t15
  let v2247 : Index := Scalar.indexCast arg17
  let c256 : Index := 256#32
  let c0_899 : Index := 0#32
  ![v2247.toNat, 256, 0]
@[reducible] def k0_t16_loop (i : grid0.Coords) : Scf.Loop 32 :=
  let c0_i32_862 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_852 : BitVec 32 := 1#32
  let v2132 : BitVec 32 := Scalar.subi v20 c1_i32_852
  let v2140 : BitVec 32 := Scalar.subi v2132 c0_i32_862
  let c1_i32_863 : BitVec 32 := 1#32
  let v2142 : BitVec 32 := Scalar.divsi v2140 c1_i32_863
  let v2143 : BitVec 32 := Scalar.muli v2142 c1_i32_863
  let v2144 : BitVec 32 := Scalar.addi c0_i32_862 v2143
  let c1_i32_864 : BitVec 32 := 1#32
  ⟨c0_i32_862, v2144, c1_i32_864⟩
def k0_off648 (i : grid0.Coords) (k0_t16 : Fin (k0_t16_loop i).trips) : Fin 4 → Nat :=
  let c0_879 : Index := 0#32
  let c0_i32_862 : BitVec 32 := 0#32
  let c1_i32_864 : BitVec 32 := 1#32
  let arg17 : BitVec 32 := Scf.iv c0_i32_862 c1_i32_864 k0_t16
  let c1_i32_878 : BitVec 32 := 1#32
  let v2185 : BitVec 32 := Scalar.addi arg17 c1_i32_878
  let v2186 : Index := Scalar.indexCast v2185
  let c0_880 : Index := 0#32
  let c0_881 : Index := 0#32
  ![0, v2186.toNat, 0, 0]
def k0_off649 (i : grid0.Coords) (k0_t16 : Fin (k0_t16_loop i).trips) : Fin 3 → Nat :=
  let c0_i32_862 : BitVec 32 := 0#32
  let c1_i32_864 : BitVec 32 := 1#32
  let arg17 : BitVec 32 := Scf.iv c0_i32_862 c1_i32_864 k0_t16
  let c1_i32_878 : BitVec 32 := 1#32
  let v2185 : BitVec 32 := Scalar.addi arg17 c1_i32_878
  let v2189 : Index := Scalar.indexCast v2185
  let c0_882 : Index := 0#32
  let c0_883 : Index := 0#32
  ![v2189.toNat, 0, 0]
def k0_off650 (i : grid0.Coords) (k0_t16 : Fin (k0_t16_loop i).trips) : Fin 4 → Nat :=
  let c0_886 : Index := 0#32
  let c0_i32_862 : BitVec 32 := 0#32
  let c1_i32_864 : BitVec 32 := 1#32
  let arg17 : BitVec 32 := Scf.iv c0_i32_862 c1_i32_864 k0_t16
  let v2205 : Index := Scalar.indexCast arg17
  let c0_887 : Index := 0#32
  let c0_888 : Index := 0#32
  ![0, v2205.toNat, 0, 0]
@[reducible] def k0_t17_loop (i : grid0.Coords) : Scf.Loop 32 :=
  let c0_i32_862 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_852 : BitVec 32 := 1#32
  let v2132 : BitVec 32 := Scalar.subi v20 c1_i32_852
  let v2140 : BitVec 32 := Scalar.subi v2132 c0_i32_862
  let c1_i32_863 : BitVec 32 := 1#32
  let v2142 : BitVec 32 := Scalar.divsi v2140 c1_i32_863
  let v2143 : BitVec 32 := Scalar.muli v2142 c1_i32_863
  let v2144 : BitVec 32 := Scalar.addi c0_i32_862 v2143
  let v2141 : BitVec 32 := Scalar.addi c0_i32_862 v2140
  let c1_i32_865 : BitVec 32 := 1#32
  ⟨v2144, v2141, c1_i32_865⟩
def k0_off651 (i : grid0.Coords) (k0_t17 : Fin (k0_t17_loop i).trips) : Fin 4 → Nat :=
  let c0_879 : Index := 0#32
  let c0_i32_862 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_852 : BitVec 32 := 1#32
  let v2132 : BitVec 32 := Scalar.subi v20 c1_i32_852
  let v2140 : BitVec 32 := Scalar.subi v2132 c0_i32_862
  let c1_i32_863 : BitVec 32 := 1#32
  let v2142 : BitVec 32 := Scalar.divsi v2140 c1_i32_863
  let v2143 : BitVec 32 := Scalar.muli v2142 c1_i32_863
  let v2144 : BitVec 32 := Scalar.addi c0_i32_862 v2143
  let c1_i32_865 : BitVec 32 := 1#32
  let arg17 : BitVec 32 := Scf.iv v2144 c1_i32_865 k0_t17
  let c1_i32_878 : BitVec 32 := 1#32
  let v2185 : BitVec 32 := Scalar.addi arg17 c1_i32_878
  let v2186 : Index := Scalar.indexCast v2185
  let c0_880 : Index := 0#32
  let c0_881 : Index := 0#32
  ![0, v2186.toNat, 0, 0]
def k0_off652 (i : grid0.Coords) (k0_t17 : Fin (k0_t17_loop i).trips) : Fin 3 → Nat :=
  let c0_i32_862 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_852 : BitVec 32 := 1#32
  let v2132 : BitVec 32 := Scalar.subi v20 c1_i32_852
  let v2140 : BitVec 32 := Scalar.subi v2132 c0_i32_862
  let c1_i32_863 : BitVec 32 := 1#32
  let v2142 : BitVec 32 := Scalar.divsi v2140 c1_i32_863
  let v2143 : BitVec 32 := Scalar.muli v2142 c1_i32_863
  let v2144 : BitVec 32 := Scalar.addi c0_i32_862 v2143
  let c1_i32_865 : BitVec 32 := 1#32
  let arg17 : BitVec 32 := Scf.iv v2144 c1_i32_865 k0_t17
  let c1_i32_878 : BitVec 32 := 1#32
  let v2185 : BitVec 32 := Scalar.addi arg17 c1_i32_878
  let v2189 : Index := Scalar.indexCast v2185
  let c0_882 : Index := 0#32
  let c0_883 : Index := 0#32
  ![v2189.toNat, 0, 0]
def k0_off653 (i : grid0.Coords) (k0_t17 : Fin (k0_t17_loop i).trips) : Fin 4 → Nat :=
  let c0_886 : Index := 0#32
  let c0_i32_862 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_852 : BitVec 32 := 1#32
  let v2132 : BitVec 32 := Scalar.subi v20 c1_i32_852
  let v2140 : BitVec 32 := Scalar.subi v2132 c0_i32_862
  let c1_i32_863 : BitVec 32 := 1#32
  let v2142 : BitVec 32 := Scalar.divsi v2140 c1_i32_863
  let v2143 : BitVec 32 := Scalar.muli v2142 c1_i32_863
  let v2144 : BitVec 32 := Scalar.addi c0_i32_862 v2143
  let c1_i32_865 : BitVec 32 := 1#32
  let arg17 : BitVec 32 := Scf.iv v2144 c1_i32_865 k0_t17
  let v2205 : Index := Scalar.indexCast arg17
  let c0_887 : Index := 0#32
  let c0_888 : Index := 0#32
  ![0, v2205.toNat, 0, 0]
def k0_off654 (i : grid0.Coords) : Fin 4 → Nat :=
  let c0_868 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_866 : BitVec 32 := 1#32
  let v2147 : BitVec 32 := Scalar.subi v20 c1_i32_866
  let v2159 : Index := Scalar.indexCast v2147
  let c0_869 : Index := 0#32
  let c0_870 : Index := 0#32
  ![0, v2159.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

variable {F : FTy → Type} [BitOps F]
-- ==== FfnKernel.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S_, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== MixKernel.lean ====
abbrev S65536x1024 : Shape := ⟨2, ![65536, 1024]⟩
abbrev S8x8192x512 : Shape := ⟨3, ![8, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x8x8192x256 : Shape := ⟨4, ![2, 8, 8192, 256]⟩
abbrev S256x1024 : Shape := ⟨2, ![256, 1024]⟩
abbrev S65536x512 : Shape := ⟨2, ![65536, 512]⟩
abbrev S512x1024 : Shape := ⟨2, ![512, 1024]⟩
abbrev S1x1024 : Shape := ⟨2, ![1, 1024]⟩
abbrev S2x65536x256 : Shape := ⟨3, ![2, 65536, 256]⟩
abbrev S512x512 : Shape := ⟨2, ![512, 512]⟩
abbrev S1x512x256 : Shape := ⟨3, ![1, 512, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 27
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x8x8192x256, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S65536x512, .bf16⟩
  | .hbm, ⟨13, _⟩ => ⟨S65536x512, .bf16⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1x1024, .f32⟩
  | .hbm, ⟨19, _⟩ => ⟨S1024x2816, .bf16⟩
  | .hbm, ⟨20, _⟩ => ⟨S1024x2816, .bf16⟩
  | .hbm, ⟨21, _⟩ => ⟨S2816x1024, .bf16⟩
  | .hbm, ⟨22, _⟩ => ⟨S2x65536x256, .f32⟩
  | .hbm, ⟨23, _⟩ => ⟨S1x1024, .f32⟩
  | .hbm, ⟨24, _⟩ => ⟨S1024x1024, .bf16⟩
  | .hbm, ⟨25, _⟩ => ⟨S256x1024, .bf16⟩
  | .hbm, ⟨26, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x512x256, .f32⟩
  | .local _ .vmem, ⟨13, _⟩ => ⟨S1x512x256, .f32⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S512x1024, .f32⟩
  | .local _ .vmem, ⟨18, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixReferenceIdeal.lean ====
abbrev S65536x1024 : Shape := ⟨2, ![65536, 1024]⟩
abbrev S8x8192x512 : Shape := ⟨3, ![8, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x8x8192x256 : Shape := ⟨4, ![2, 8, 8192, 256]⟩
abbrev S256x1024 : Shape := ⟨2, ![256, 1024]⟩
abbrev S8x8192x1024 : Shape := ⟨3, ![8, 8192, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩
abbrev S1x8x8192x256 : Shape := ⟨4, ![1, 8, 8192, 256]⟩
abbrev S8x8192x256 : Shape := ⟨3, ![8, 8192, 256]⟩
abbrev S65536x256 : Shape := ⟨2, ![65536, 256]⟩

abbrev nBuf : Space → Nat
  | .hbm => 82
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x8x8192x256, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S8x8192x512, .f32⟩
  | .hbm, ⟨13, _⟩ => ⟨S8x8192x512, .f32⟩
  | .hbm, ⟨14, _⟩ => ⟨S8x8192x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S_, .f32⟩
  | .hbm, ⟨38, _⟩ => ⟨S65536x2816, .f32⟩
  | .hbm, ⟨39, _⟩ => ⟨S65536x2816, .f32⟩
  | .hbm, ⟨40, _⟩ => ⟨S_, .f32⟩
  | .hbm, ⟨41, _⟩ => ⟨S65536x2816, .f32⟩
  | .hbm, ⟨42, _⟩ => ⟨S65536x2816, .f32⟩
  | .hbm, ⟨43, _⟩ => ⟨S65536x2816, .f32⟩
  | .hbm, ⟨44, _⟩ => ⟨S65536x2816, .f32⟩
  | .hbm, ⟨45, _⟩ => ⟨S65536x2816, .f32⟩
  | .hbm, ⟨46, _⟩ => ⟨S65536x1024, .f32⟩
  | .hbm, ⟨47, _⟩ => ⟨S_, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1, .f32⟩
  | .hbm, ⟨62, _⟩ => ⟨S65536x1024, .f32⟩
  | .hbm, ⟨63, _⟩ => ⟨S65536x1024, .f32⟩
  | .hbm, ⟨64, _⟩ => ⟨S1x1024, .f32⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S65536x1024, .f32⟩
  | .hbm, ⟨69, _⟩ => ⟨S65536x1024, .f32⟩
  | .hbm, ⟨70, _⟩ => ⟨S_, .f32⟩
  | .hbm, ⟨71, _⟩ => ⟨S65536x1024, .f32⟩
  | .hbm, ⟨72, _⟩ => ⟨S65536x1024, .f32⟩
  | .hbm, ⟨73, _⟩ => ⟨S_, .f32⟩
  | .hbm, ⟨74, _⟩ => ⟨S65536x1024, .f32⟩
  | .hbm, ⟨75, _⟩ => ⟨S65536x1024, .f32⟩
  | .hbm, ⟨76, _⟩ => ⟨S1x8x8192x256, .f32⟩
  | .hbm, ⟨77, _⟩ => ⟨S8x8192x256, .f32⟩
  | .hbm, ⟨78, _⟩ => ⟨S65536x256, .f32⟩
  | .hbm, ⟨79, _⟩ => ⟨S65536x1024, .f32⟩
  | .hbm, ⟨80, _⟩ => ⟨S65536x1024, .f32⟩
  | .hbm, ⟨81, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== PleKernel.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S2x8x8192x256 : Shape := ⟨4, ![2, 8, 8192, 256]⟩
abbrev S1024x1024 : Shape := ⟨2, ![1024, 1024]⟩
abbrev S256x1024 : Shape := ⟨2, ![256, 1024]⟩
abbrev S1x1024 : Shape := ⟨2, ![1, 1024]⟩
abbrev S2x65536x256 : Shape := ⟨3, ![2, 65536, 256]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 18
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8x8192x256, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S2x65536x256, .f32⟩
  | .hbm, ⟨14, _⟩ => ⟨S1x1024, .f32⟩
  | .hbm, ⟨15, _⟩ => ⟨S1024x1024, .bf16⟩
  | .hbm, ⟨16, _⟩ => ⟨S256x1024, .bf16⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x512x256, .f32⟩
  | .local _ .vmem, ⟨7, _⟩ => ⟨S1x512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PleReferenceIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S2x8x8192x256 : Shape := ⟨4, ![2, 8, 8192, 256]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩
abbrev S1x8x8192x256 : Shape := ⟨4, ![1, 8, 8192, 256]⟩
abbrev S8x8192x256 : Shape := ⟨3, ![8, 8192, 256]⟩
abbrev S65536x256 : Shape := ⟨2, ![65536, 256]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8x8192x256, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x2816, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S1x1024, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S_, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S65536x1024, .f32⟩
  | .hbm, ⟨66, _⟩ => ⟨S65536x1024, .f32⟩
  | .hbm, ⟨67, _⟩ => ⟨S1x8x8192x256, .f32⟩
  | .hbm, ⟨68, _⟩ => ⟨S8x8192x256, .f32⟩
  | .hbm, ⟨69, _⟩ => ⟨S65536x256, .f32⟩
  | .hbm, ⟨70, _⟩ => ⟨S65536x1024, .f32⟩
  | .hbm, ⟨71, _⟩ => ⟨S65536x1024, .f32⟩
  | .hbm, ⟨72, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== OddKernel.lean ====
abbrev S65536x1024 : Shape := ⟨2, ![65536, 1024]⟩
abbrev S1024 : Shape := ⟨1, ![1024]⟩
abbrev S1024x2048 : Shape := ⟨2, ![1024, 2048]⟩
abbrev S1024x1024 : Shape := ⟨2, ![1024, 1024]⟩
abbrev S512 : Shape := ⟨1, ![512]⟩
abbrev S8x128x128 : Shape := ⟨3, ![8, 128, 128]⟩
abbrev S8x128 : Shape := ⟨2, ![8, 128]⟩
abbrev S31x512 : Shape := ⟨2, ![31, 512]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1x512 : Shape := ⟨2, ![1, 512]⟩
abbrev S512x1024 : Shape := ⟨2, ![512, 1024]⟩
abbrev S552x512 : Shape := ⟨2, ![552, 512]⟩
abbrev S512x1 : Shape := ⟨2, ![512, 1]⟩
abbrev S512x512 : Shape := ⟨2, ![512, 512]⟩
abbrev S128x128 : Shape := ⟨2, ![128, 128]⟩
abbrev S1x128x128 : Shape := ⟨3, ![1, 128, 128]⟩
abbrev S32x512 : Shape := ⟨2, ![32, 512]⟩
abbrev S8x512 : Shape := ⟨2, ![8, 512]⟩
abbrev S520x512 : Shape := ⟨2, ![520, 512]⟩

abbrev nBuf : Space → Nat
  | .hbm => 31
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S512, .f32⟩
  | .hbm, ⟨5, _⟩ => ⟨S512, .f32⟩
  | .hbm, ⟨6, _⟩ => ⟨S8x128x128, .f32⟩
  | .hbm, ⟨7, _⟩ => ⟨S8x128, .f32⟩
  | .hbm, ⟨8, _⟩ => ⟨S31x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S128x8, .f32⟩
  | .hbm, ⟨17, _⟩ => ⟨S128x8x64, .f32⟩
  | .hbm, ⟨18, _⟩ => ⟨S128x512, .f32⟩
  | .hbm, ⟨19, _⟩ => ⟨S1x1024, .f32⟩
  | .hbm, ⟨20, _⟩ => ⟨S1x512, .f32⟩
  | .hbm, ⟨21, _⟩ => ⟨S1x512, .f32⟩
  | .hbm, ⟨22, _⟩ => ⟨S8x128x128, .bf16⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S512x1024, .f32⟩
  | .hbm, ⟨27, _⟩ => ⟨S512x1024, .bf16⟩
  | .hbm, ⟨28, _⟩ => ⟨S512x1024, .f32⟩
  | .hbm, ⟨29, _⟩ => ⟨S512x1024, .bf16⟩
  | .hbm, ⟨30, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x512, .f32⟩
  | .local _ .vmem, ⟨6, _⟩ => ⟨S1x512, .f32⟩
  | .local _ .vmem, ⟨7, _⟩ => ⟨S8x128x128, .bf16⟩
  | .local _ .vmem, ⟨8, _⟩ => ⟨S128x512, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S552x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OddReferenceIdeal.lean ====
abbrev S65536x1024 : Shape := ⟨2, ![65536, 1024]⟩
abbrev S1024 : Shape := ⟨1, ![1024]⟩
abbrev S1024x2048 : Shape := ⟨2, ![1024, 2048]⟩
abbrev S1024x1024 : Shape := ⟨2, ![1024, 1024]⟩
abbrev S512 : Shape := ⟨1, ![512]⟩
abbrev S8x128x128 : Shape := ⟨3, ![8, 128, 128]⟩
abbrev S8x128 : Shape := ⟨2, ![8, 128]⟩
abbrev S31x512 : Shape := ⟨2, ![31, 512]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2048 : Shape := ⟨2, ![65536, 2048]⟩
abbrev S8x8192x2048 : Shape := ⟨3, ![8, 8192, 2048]⟩
abbrev S8x8192x1024 : Shape := ⟨3, ![8, 8192, 1024]⟩
abbrev S8x8192x512 : Shape := ⟨3, ![8, 8192, 512]⟩
abbrev S8x8192 : Shape := ⟨2, ![8, 8192]⟩
abbrev S8x8192x1 : Shape := ⟨3, ![8, 8192, 1]⟩
abbrev S1x1x512 : Shape := ⟨3, ![1, 1, 512]⟩
abbrev S8x64x128x8x64 : Shape := ⟨5, ![8, 64, 128, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x8x64x64x128 : Shape := ⟨5, ![8, 8, 64, 64, 128]⟩
abbrev S128x8 : Shape := ⟨2, ![128, 8]⟩
abbrev S1x1x128x8x1 : Shape := ⟨5, ![1, 1, 128, 8, 1]⟩
abbrev S8x8222x512 : Shape := ⟨3, ![8, 8222, 512]⟩
abbrev S1x512 : Shape := ⟨2, ![1, 512]⟩

abbrev nBuf : Space → Nat
  | .hbm => 397
  | .vmem => 0
  | .smem => 0
  | _ => 0

abbrev hbmTy0_0 (i : Nat) : BufTy := match i % 128 with
  | 0 => ⟨S65536x1024, .f32⟩
  | 1 => ⟨S1024, .f32⟩
  | 2 => ⟨S1024x2048, .f32⟩
  | 3 => ⟨S1024x1024, .f32⟩
  | 4 => ⟨S512, .f32⟩
  | 5 => ⟨S512, .f32⟩
  | 6 => ⟨S8x128x128, .f32⟩
  | 7 => ⟨S8x128, .f32⟩
  | 8 => ⟨S31x512, .f32⟩
  | 9 => ⟨S512, .f32⟩
  | 10 => ⟨S512, .f32⟩
  | 11 => ⟨S512, .f32⟩
  | 12 => ⟨S65536x1024, .f32⟩
  | 13 => ⟨S_, .f32⟩
  | 14 => ⟨S65536, .f32⟩
  | 15 => ⟨S65536x1, .f32⟩
  | 16 => ⟨S_, .f32⟩
  | 17 => ⟨S65536x1, .f32⟩
  | 18 => ⟨S65536x1, .f32⟩
  | 19 => ⟨S_, .f32⟩
  | 20 => ⟨S65536x1, .f32⟩
  | 21 => ⟨S65536x1, .f32⟩
  | 22 => ⟨S65536x1, .f32⟩
  | 23 => ⟨S65536x1024, .f32⟩
  | 24 => ⟨S65536x1024, .f32⟩
  | 25 => ⟨S1x1024, .f32⟩
  | 26 => ⟨S65536x1024, .f32⟩
  | 27 => ⟨S65536x1024, .f32⟩
  | 28 => ⟨S65536x2048, .f32⟩
  | 29 => ⟨S8x8192x2048, .f32⟩
  | 30 => ⟨S8x8192x1024, .f32⟩
  | 31 => ⟨S8x8192x1024, .f32⟩
  | 32 => ⟨S8x8192x1024, .f32⟩
  | 33 => ⟨S_, .f32⟩
  | 34 => ⟨S8x8192x1024, .f32⟩
  | 35 => ⟨S8x8192x1024, .f32⟩
  | 36 => ⟨S8x8192x1024, .f32⟩
  | 37 => ⟨S_, .f32⟩
  | 38 => ⟨S8x8192x1024, .f32⟩
  | 39 => ⟨S8x8192x1024, .f32⟩
  | 40 => ⟨S8x8192x1024, .f32⟩
  | 41 => ⟨S_, .f32⟩
  | 42 => ⟨S8x8192x1024, .f32⟩
  | 43 => ⟨S8x8192x1024, .f32⟩
  | 44 => ⟨S_, .f32⟩
  | 45 => ⟨S8x8192x1024, .f32⟩
  | 46 => ⟨S8x8192x1024, .f32⟩
  | 47 => ⟨S8x8192x1024, .f32⟩
  | 48 => ⟨S8x8192x512, .f32⟩
  | 49 => ⟨S8x8192x512, .f32⟩
  | 50 => ⟨S_, .f32⟩
  | 51 => ⟨S8x8192, .f32⟩
  | 52 => ⟨S8x8192x1, .f32⟩
  | 53 => ⟨S_, .f32⟩
  | 54 => ⟨S8x8192x1, .f32⟩
  | 55 => ⟨S8x8192x1, .f32⟩
  | 56 => ⟨S8x8192x512, .f32⟩
  | 57 => ⟨S8x8192x512, .f32⟩
  | 58 => ⟨S8x8192x512, .f32⟩
  | 59 => ⟨S_, .f32⟩
  | 60 => ⟨S8x8192, .f32⟩
  | 61 => ⟨S8x8192x1, .f32⟩
  | 62 => ⟨S_, .f32⟩
  | 63 => ⟨S8x8192x1, .f32⟩
  | 64 => ⟨S8x8192x1, .f32⟩
  | 65 => ⟨S8x8192x512, .f32⟩
  | 66 => ⟨S8x8192x512, .f32⟩
  | 67 => ⟨S_, .f32⟩
  | 68 => ⟨S8x8192x1, .f32⟩
  | 69 => ⟨S8x8192x1, .f32⟩
  | 70 => ⟨S8x8192x1, .f32⟩
  | 71 => ⟨S8x8192x512, .f32⟩
  | 72 => ⟨S8x8192x512, .f32⟩
  | 73 => ⟨S1x1x512, .f32⟩
  | 74 => ⟨S8x8192x512, .f32⟩
  | 75 => ⟨S8x8192x512, .f32⟩
  | 76 => ⟨S1x1x512, .f32⟩
  | 77 => ⟨S8x8192x512, .f32⟩
  | 78 => ⟨S8x8192x512, .f32⟩
  | 79 => ⟨S8x64x128x8x64, .f32⟩
  | 80 => ⟨S128, .i32⟩
  | 81 => ⟨S_, .i32⟩
  | 82 => ⟨S_, .i32⟩
  | 83 => ⟨S128, .i32⟩
  | 84 => ⟨S128, .i32⟩
  | 85 => ⟨S128, .i32⟩
  | 86 => ⟨S_, .i32⟩
  | 87 => ⟨S128, .i32⟩
  | 88 => ⟨S128, .i1⟩
  | 89 => ⟨S128, .i32⟩
  | 90 => ⟨S128, .i32⟩
  | 91 => ⟨S_, .i32⟩
  | 92 => ⟨S128, .i32⟩
  | 93 => ⟨S128, .i1⟩
  | 94 => ⟨S128, .i1⟩
  | 95 => ⟨S_, .i32⟩
  | 96 => ⟨S128, .i32⟩
  | 97 => ⟨S128, .i32⟩
  | 98 => ⟨S128, .i32⟩
  | 99 => ⟨S128x1, .i32⟩
  | 100 => ⟨S1x128, .i32⟩
  | 101 => ⟨S128x128, .i32⟩
  | 102 => ⟨S128x128, .i32⟩
  | 103 => ⟨S128x128, .i1⟩
  | 104 => ⟨S1x128x128, .i1⟩
  | 105 => ⟨S_, .f32⟩
  | 106 => ⟨S_, .f32⟩
  | 107 => ⟨S8x128x128, .i1⟩
  | 108 => ⟨S8x128x128, .f32⟩
  | 109 => ⟨S8x128x128, .f32⟩
  | 110 => ⟨S8x8x64x64x128, .f32⟩
  | 111 => ⟨S8x64x128x8x64, .f32⟩
  | 112 => ⟨S128x8, .f32⟩
  | 113 => ⟨S1x1x128x8x1, .f32⟩
  | 114 => ⟨S8x64x128x8x64, .f32⟩
  | 115 => ⟨S8x64x128x8x64, .f32⟩
  | 116 => ⟨S8x8192x512, .f32⟩
  | 117 => ⟨S8x8192x512, .f32⟩
  | 118 => ⟨S8x8192x1024, .f32⟩
  | 119 => ⟨S8x8192x512, .f32⟩
  | 120 => ⟨S8x8192x512, .f32⟩
  | 121 => ⟨S8x8192x512, .f32⟩
  | 122 => ⟨S8x8192x512, .f32⟩
  | 123 => ⟨S_, .f32⟩
  | 124 => ⟨S8x8192x512, .f32⟩
  | 125 => ⟨S8x8192x512, .f32⟩
  | 126 => ⟨S_, .f32⟩
  | 127 => ⟨S8x8192x512, .f32⟩
  | _ => ⟨S65536x1024, .f32⟩

abbrev hbmTy0_1 (i : Nat) : BufTy := match i % 128 with
  | 0 => ⟨S8x8192x512, .f32⟩
  | 1 => ⟨S8x8192x512, .f32⟩
  | 2 => ⟨S_, .i32⟩
  | 3 => ⟨S_, .f32⟩
  | 4 => ⟨S8x8222x512, .f32⟩
  | 5 => ⟨S8x8192x512, .f32⟩
  | 6 => ⟨S1x512, .f32⟩
  | 7 => ⟨S512, .f32⟩
  | 8 => ⟨S1x1x512, .f32⟩
  | 9 => ⟨S8x8192x512, .f32⟩
  | 10 => ⟨S8x8192x512, .f32⟩
  | 11 => ⟨S_, .f32⟩
  | 12 => ⟨S8x8192x512, .f32⟩
  | 13 => ⟨S8x8192x512, .f32⟩
  | 14 => ⟨S8x8192x512, .f32⟩
  | 15 => ⟨S1x512, .f32⟩
  | 16 => ⟨S512, .f32⟩
  | 17 => ⟨S1x1x512, .f32⟩
  | 18 => ⟨S8x8192x512, .f32⟩
  | 19 => ⟨S8x8192x512, .f32⟩
  | 20 => ⟨S8x8192x512, .f32⟩
  | 21 => ⟨S8x8192x512, .f32⟩
  | 22 => ⟨S1x512, .f32⟩
  | 23 => ⟨S512, .f32⟩
  | 24 => ⟨S1x1x512, .f32⟩
  | 25 => ⟨S8x8192x512, .f32⟩
  | 26 => ⟨S8x8192x512, .f32⟩
  | 27 => ⟨S8x8192x512, .f32⟩
  | 28 => ⟨S8x8192x512, .f32⟩
  | 29 => ⟨S1x512, .f32⟩
  | 30 => ⟨S512, .f32⟩
  | 31 => ⟨S1x1x512, .f32⟩
  | 32 => ⟨S8x8192x512, .f32⟩
  | 33 => ⟨S8x8192x512, .f32⟩
  | 34 => ⟨S8x8192x512, .f32⟩
  | 35 => ⟨S8x8192x512, .f32⟩
  | 36 => ⟨S1x512, .f32⟩
  | 37 => ⟨S512, .f32⟩
  | 38 => ⟨S1x1x512, .f32⟩
  | 39 => ⟨S8x8192x512, .f32⟩
  | 40 => ⟨S8x8192x512, .f32⟩
  | 41 => ⟨S8x8192x512, .f32⟩
  | 42 => ⟨S8x8192x512, .f32⟩
  | 43 => ⟨S1x512, .f32⟩
  | 44 => ⟨S512, .f32⟩
  | 45 => ⟨S1x1x512, .f32⟩
  | 46 => ⟨S8x8192x512, .f32⟩
  | 47 => ⟨S8x8192x512, .f32⟩
  | 48 => ⟨S8x8192x512, .f32⟩
  | 49 => ⟨S8x8192x512, .f32⟩
  | 50 => ⟨S1x512, .f32⟩
  | 51 => ⟨S512, .f32⟩
  | 52 => ⟨S1x1x512, .f32⟩
  | 53 => ⟨S8x8192x512, .f32⟩
  | 54 => ⟨S8x8192x512, .f32⟩
  | 55 => ⟨S8x8192x512, .f32⟩
  | 56 => ⟨S8x8192x512, .f32⟩
  | 57 => ⟨S1x512, .f32⟩
  | 58 => ⟨S512, .f32⟩
  | 59 => ⟨S1x1x512, .f32⟩
  | 60 => ⟨S8x8192x512, .f32⟩
  | 61 => ⟨S8x8192x512, .f32⟩
  | 62 => ⟨S8x8192x512, .f32⟩
  | 63 => ⟨S8x8192x512, .f32⟩
  | 64 => ⟨S1x512, .f32⟩
  | 65 => ⟨S512, .f32⟩
  | 66 => ⟨S1x1x512, .f32⟩
  | 67 => ⟨S8x8192x512, .f32⟩
  | 68 => ⟨S8x8192x512, .f32⟩
  | 69 => ⟨S8x8192x512, .f32⟩
  | 70 => ⟨S8x8192x512, .f32⟩
  | 71 => ⟨S1x512, .f32⟩
  | 72 => ⟨S512, .f32⟩
  | 73 => ⟨S1x1x512, .f32⟩
  | 74 => ⟨S8x8192x512, .f32⟩
  | 75 => ⟨S8x8192x512, .f32⟩
  | 76 => ⟨S8x8192x512, .f32⟩
  | 77 => ⟨S8x8192x512, .f32⟩
  | 78 => ⟨S1x512, .f32⟩
  | 79 => ⟨S512, .f32⟩
  | 80 => ⟨S1x1x512, .f32⟩
  | 81 => ⟨S8x8192x512, .f32⟩
  | 82 => ⟨S8x8192x512, .f32⟩
  | 83 => ⟨S8x8192x512, .f32⟩
  | 84 => ⟨S8x8192x512, .f32⟩
  | 85 => ⟨S1x512, .f32⟩
  | 86 => ⟨S512, .f32⟩
  | 87 => ⟨S1x1x512, .f32⟩
  | 88 => ⟨S8x8192x512, .f32⟩
  | 89 => ⟨S8x8192x512, .f32⟩
  | 90 => ⟨S8x8192x512, .f32⟩
  | 91 => ⟨S8x8192x512, .f32⟩
  | 92 => ⟨S1x512, .f32⟩
  | 93 => ⟨S512, .f32⟩
  | 94 => ⟨S1x1x512, .f32⟩
  | 95 => ⟨S8x8192x512, .f32⟩
  | 96 => ⟨S8x8192x512, .f32⟩
  | 97 => ⟨S8x8192x512, .f32⟩
  | 98 => ⟨S8x8192x512, .f32⟩
  | 99 => ⟨S1x512, .f32⟩
  | 100 => ⟨S512, .f32⟩
  | 101 => ⟨S1x1x512, .f32⟩
  | 102 => ⟨S8x8192x512, .f32⟩
  | 103 => ⟨S8x8192x512, .f32⟩
  | 104 => ⟨S8x8192x512, .f32⟩
  | 105 => ⟨S8x8192x512, .f32⟩
  | 106 => ⟨S1x512, .f32⟩
  | 107 => ⟨S512, .f32⟩
  | 108 => ⟨S1x1x512, .f32⟩
  | 109 => ⟨S8x8192x512, .f32⟩
  | 110 => ⟨S8x8192x512, .f32⟩
  | 111 => ⟨S8x8192x512, .f32⟩
  | 112 => ⟨S8x8192x512, .f32⟩
  | 113 => ⟨S1x512, .f32⟩
  | 114 => ⟨S512, .f32⟩
  | 115 => ⟨S1x1x512, .f32⟩
  | 116 => ⟨S8x8192x512, .f32⟩
  | 117 => ⟨S8x8192x512, .f32⟩
  | 118 => ⟨S8x8192x512, .f32⟩
  | 119 => ⟨S8x8192x512, .f32⟩
  | 120 => ⟨S1x512, .f32⟩
  | 121 => ⟨S512, .f32⟩
  | 122 => ⟨S1x1x512, .f32⟩
  | 123 => ⟨S8x8192x512, .f32⟩
  | 124 => ⟨S8x8192x512, .f32⟩
  | 125 => ⟨S8x8192x512, .f32⟩
  | 126 => ⟨S8x8192x512, .f32⟩
  | 127 => ⟨S1x512, .f32⟩
  | _ => ⟨S65536x1024, .f32⟩

abbrev hbmTy0_2 (i : Nat) : BufTy := match i % 128 with
  | 0 => ⟨S512, .f32⟩
  | 1 => ⟨S1x1x512, .f32⟩
  | 2 => ⟨S8x8192x512, .f32⟩
  | 3 => ⟨S8x8192x512, .f32⟩
  | 4 => ⟨S8x8192x512, .f32⟩
  | 5 => ⟨S8x8192x512, .f32⟩
  | 6 => ⟨S1x512, .f32⟩
  | 7 => ⟨S512, .f32⟩
  | 8 => ⟨S1x1x512, .f32⟩
  | 9 => ⟨S8x8192x512, .f32⟩
  | 10 => ⟨S8x8192x512, .f32⟩
  | 11 => ⟨S8x8192x512, .f32⟩
  | 12 => ⟨S8x8192x512, .f32⟩
  | 13 => ⟨S1x512, .f32⟩
  | 14 => ⟨S512, .f32⟩
  | 15 => ⟨S1x1x512, .f32⟩
  | 16 => ⟨S8x8192x512, .f32⟩
  | 17 => ⟨S8x8192x512, .f32⟩
  | 18 => ⟨S8x8192x512, .f32⟩
  | 19 => ⟨S8x8192x512, .f32⟩
  | 20 => ⟨S1x512, .f32⟩
  | 21 => ⟨S512, .f32⟩
  | 22 => ⟨S1x1x512, .f32⟩
  | 23 => ⟨S8x8192x512, .f32⟩
  | 24 => ⟨S8x8192x512, .f32⟩
  | 25 => ⟨S8x8192x512, .f32⟩
  | 26 => ⟨S8x8192x512, .f32⟩
  | 27 => ⟨S1x512, .f32⟩
  | 28 => ⟨S512, .f32⟩
  | 29 => ⟨S1x1x512, .f32⟩
  | 30 => ⟨S8x8192x512, .f32⟩
  | 31 => ⟨S8x8192x512, .f32⟩
  | 32 => ⟨S8x8192x512, .f32⟩
  | 33 => ⟨S8x8192x512, .f32⟩
  | 34 => ⟨S1x512, .f32⟩
  | 35 => ⟨S512, .f32⟩
  | 36 => ⟨S1x1x512, .f32⟩
  | 37 => ⟨S8x8192x512, .f32⟩
  | 38 => ⟨S8x8192x512, .f32⟩
  | 39 => ⟨S8x8192x512, .f32⟩
  | 40 => ⟨S8x8192x512, .f32⟩
  | 41 => ⟨S1x512, .f32⟩
  | 42 => ⟨S512, .f32⟩
  | 43 => ⟨S1x1x512, .f32⟩
  | 44 => ⟨S8x8192x512, .f32⟩
  | 45 => ⟨S8x8192x512, .f32⟩
  | 46 => ⟨S8x8192x512, .f32⟩
  | 47 => ⟨S8x8192x512, .f32⟩
  | 48 => ⟨S1x512, .f32⟩
  | 49 => ⟨S512, .f32⟩
  | 50 => ⟨S1x1x512, .f32⟩
  | 51 => ⟨S8x8192x512, .f32⟩
  | 52 => ⟨S8x8192x512, .f32⟩
  | 53 => ⟨S8x8192x512, .f32⟩
  | 54 => ⟨S8x8192x512, .f32⟩
  | 55 => ⟨S1x512, .f32⟩
  | 56 => ⟨S512, .f32⟩
  | 57 => ⟨S1x1x512, .f32⟩
  | 58 => ⟨S8x8192x512, .f32⟩
  | 59 => ⟨S8x8192x512, .f32⟩
  | 60 => ⟨S8x8192x512, .f32⟩
  | 61 => ⟨S8x8192x512, .f32⟩
  | 62 => ⟨S1x512, .f32⟩
  | 63 => ⟨S512, .f32⟩
  | 64 => ⟨S1x1x512, .f32⟩
  | 65 => ⟨S8x8192x512, .f32⟩
  | 66 => ⟨S8x8192x512, .f32⟩
  | 67 => ⟨S8x8192x512, .f32⟩
  | 68 => ⟨S8x8192x512, .f32⟩
  | 69 => ⟨S1x512, .f32⟩
  | 70 => ⟨S512, .f32⟩
  | 71 => ⟨S1x1x512, .f32⟩
  | 72 => ⟨S8x8192x512, .f32⟩
  | 73 => ⟨S8x8192x512, .f32⟩
  | 74 => ⟨S8x8192x512, .f32⟩
  | 75 => ⟨S8x8192x512, .f32⟩
  | 76 => ⟨S1x512, .f32⟩
  | 77 => ⟨S512, .f32⟩
  | 78 => ⟨S1x1x512, .f32⟩
  | 79 => ⟨S8x8192x512, .f32⟩
  | 80 => ⟨S8x8192x512, .f32⟩
  | 81 => ⟨S8x8192x512, .f32⟩
  | 82 => ⟨S8x8192x512, .f32⟩
  | 83 => ⟨S1x512, .f32⟩
  | 84 => ⟨S512, .f32⟩
  | 85 => ⟨S1x1x512, .f32⟩
  | 86 => ⟨S8x8192x512, .f32⟩
  | 87 => ⟨S8x8192x512, .f32⟩
  | 88 => ⟨S8x8192x512, .f32⟩
  | 89 => ⟨S8x8192x512, .f32⟩
  | 90 => ⟨S1x512, .f32⟩
  | 91 => ⟨S512, .f32⟩
  | 92 => ⟨S1x1x512, .f32⟩
  | 93 => ⟨S8x8192x512, .f32⟩
  | 94 => ⟨S8x8192x512, .f32⟩
  | 95 => ⟨S8x8192x512, .f32⟩
  | 96 => ⟨S1x1x512, .f32⟩
  | 97 => ⟨S8x8192x512, .f32⟩
  | 98 => ⟨S8x8192x512, .f32⟩
  | 99 => ⟨S_, .f32⟩
  | 100 => ⟨S8x8192, .f32⟩
  | 101 => ⟨S8x8192x1, .f32⟩
  | 102 => ⟨S_, .f32⟩
  | 103 => ⟨S8x8192x1, .f32⟩
  | 104 => ⟨S8x8192x1, .f32⟩
  | 105 => ⟨S8x8192x512, .f32⟩
  | 106 => ⟨S8x8192x512, .f32⟩
  | 107 => ⟨S8x8192x512, .f32⟩
  | 108 => ⟨S_, .f32⟩
  | 109 => ⟨S8x8192, .f32⟩
  | 110 => ⟨S8x8192x1, .f32⟩
  | 111 => ⟨S_, .f32⟩
  | 112 => ⟨S8x8192x1, .f32⟩
  | 113 => ⟨S8x8192x1, .f32⟩
  | 114 => ⟨S8x8192x512, .f32⟩
  | 115 => ⟨S8x8192x512, .f32⟩
  | 116 => ⟨S_, .f32⟩
  | 117 => ⟨S8x8192x1, .f32⟩
  | 118 => ⟨S8x8192x1, .f32⟩
  | 119 => ⟨S8x8192x1, .f32⟩
  | 120 => ⟨S8x8192x512, .f32⟩
  | 121 => ⟨S8x8192x512, .f32⟩
  | 122 => ⟨S1x1x512, .f32⟩
  | 123 => ⟨S8x8192x512, .f32⟩
  | 124 => ⟨S8x8192x512, .f32⟩
  | 125 => ⟨S1x1x512, .f32⟩
  | 126 => ⟨S8x8192x512, .f32⟩
  | 127 => ⟨S8x8192x512, .f32⟩
  | _ => ⟨S65536x1024, .f32⟩

abbrev hbmTy0_3 (i : Nat) : BufTy := match i % 128 with
  | 0 => ⟨S8x8192x512, .f32⟩
  | 1 => ⟨S8x8192x512, .f32⟩
  | 2 => ⟨S_, .f32⟩
  | 3 => ⟨S8x8192x512, .f32⟩
  | 4 => ⟨S8x8192x512, .f32⟩
  | 5 => ⟨S_, .f32⟩
  | 6 => ⟨S8x8192x512, .f32⟩
  | 7 => ⟨S8x8192x512, .f32⟩
  | 8 => ⟨S8x8192x512, .f32⟩
  | 9 => ⟨S8x8192x1024, .f32⟩
  | 10 => ⟨S65536x1024, .f32⟩
  | 11 => ⟨S65536x1024, .f32⟩
  | 12 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | 3 => hbmTy0_3 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_c : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_0 : Ref sig .tc := ⟨.hbm, 95, rfl⟩
abbrev main_call0_v12 : Ref sig .tc := ⟨.hbm, 96, rfl⟩
abbrev main_call0_v13 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_12 : Ref sig .tc := ⟨.hbm, 123, rfl⟩
abbrev main_v78 : Ref sig .tc := ⟨.hbm, 124, rfl⟩
abbrev main_v79 : Ref sig .tc := ⟨.hbm, 125, rfl⟩
abbrev main_cst_13 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_14 : Ref sig .tc := ⟨.hbm, 130, rfl⟩
abbrev main_call2_v0 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_15 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_cst_16 : Ref sig .tc := ⟨.hbm, 355, rfl⟩
abbrev main_v305 : Ref sig .tc := ⟨.hbm, 356, rfl⟩
abbrev main_v306 : Ref sig .tc := ⟨.hbm, 357, rfl⟩
abbrev main_cst_17 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_cst_18 : Ref sig .tc := ⟨.hbm, 364, rfl⟩
abbrev main_v312 : Ref sig .tc := ⟨.hbm, 365, rfl⟩
abbrev main_v313 : Ref sig .tc := ⟨.hbm, 366, rfl⟩
abbrev main_cst_19 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_cst_20 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_call3_v0 : Ref sig .tc := ⟨.hbm, 384, rfl⟩
abbrev main_call3_v1 : Ref sig .tc := ⟨.hbm, 385, rfl⟩
abbrev main_call3_cst : Ref sig .tc := ⟨.hbm, 386, rfl⟩
abbrev main_call3_v2 : Ref sig .tc := ⟨.hbm, 387, rfl⟩
abbrev main_call3_v3 : Ref sig .tc := ⟨.hbm, 388, rfl⟩
abbrev main_call3_cst_0 : Ref sig .tc := ⟨.hbm, 389, rfl⟩
abbrev main_call3_v4 : Ref sig .tc := ⟨.hbm, 390, rfl⟩
abbrev main_call3_v5 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩

abbrev nD : Nat := 1
abbrev τ : Topo := Topo.v7x

variable {F : FTy → Type} [FloatOps F]
-- ==== EvenKernel.lean ====
abbrev S65536x1024 : Shape := ⟨2, ![65536, 1024]⟩
abbrev S8x8192 : Shape := ⟨2, ![8, 8192]⟩
abbrev S1024 : Shape := ⟨1, ![1024]⟩
abbrev S1024x2564 : Shape := ⟨2, ![1024, 2564]⟩
abbrev S64 : Shape := ⟨1, ![64]⟩
abbrev S1x1024 : Shape := ⟨2, ![1, 1024]⟩
abbrev S1024x512 : Shape := ⟨2, ![1024, 512]⟩
abbrev S1024x64 : Shape := ⟨2, ![1024, 64]⟩
abbrev S1024x128 : Shape := ⟨2, ![1024, 128]⟩
abbrev S1024x256 : Shape := ⟨2, ![1024, 256]⟩
abbrev S1024x4 : Shape := ⟨2, ![1024, 4]⟩
abbrev S1024x1664 : Shape := ⟨2, ![1024, 1664]⟩
abbrev S1024x384 : Shape := ⟨2, ![1024, 384]⟩
abbrev S1024x640 : Shape := ⟨2, ![1024, 640]⟩
abbrev S4x1024 : Shape := ⟨2, ![4, 1024]⟩
abbrev S_ : Shape := ⟨0, ![]⟩
abbrev S8x1024 : Shape := ⟨2, ![8, 1024]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1664 : Shape := ⟨1, ![1664]⟩
abbrev S26x2x32 : Shape := ⟨3, ![26, 2, 32]⟩
abbrev S1x1664 : Shape := ⟨2, ![1, 1664]⟩
abbrev S32 : Shape := ⟨1, ![32]⟩
abbrev S1x32 : Shape := ⟨2, ![1, 32]⟩
abbrev S4x32 : Shape := ⟨2, ![4, 32]⟩
abbrev S1x128 : Shape := ⟨2, ![1, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S65536x1 : Shape := ⟨2, ![65536, 1]⟩
abbrev S65536x512 : Shape := ⟨2, ![65536, 512]⟩
abbrev S65536x128 : Shape := ⟨2, ![65536, 128]⟩
abbrev S65536x256 : Shape := ⟨2, ![65536, 256]⟩
abbrev S8x65536 : Shape := ⟨2, ![8, 65536]⟩
abbrev S512x1024 : Shape := ⟨2, ![512, 1024]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩
abbrev S8x512 : Shape := ⟨2, ![8, 512]⟩
abbrev S128x128 : Shape := ⟨2, ![128, 128]⟩

abbrev nBuf : Space → Nat
  | .hbm => 122
  | .vmem => 32
  | .smem => 0
  | _ => 0

abbrev bufTy : (tb : Table) → Fin (tcTables nBuf tb) → BufTy
  | .hbm, ⟨0, _⟩ => ⟨S65536x1024, .f32⟩
  | .hbm, ⟨1, _⟩ => ⟨S8x8192, .i32⟩
  | .hbm, ⟨2, _⟩ => ⟨S1024, .f32⟩
  | .hbm, ⟨3, _⟩ => ⟨S1024x2564, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1024, .f32⟩
  | .hbm, ⟨9, _⟩ => ⟨S1024x512, .f32⟩
  | .hbm, ⟨10, _⟩ => ⟨S1024x64, .f32⟩
  | .hbm, ⟨11, _⟩ => ⟨S1024x128, .f32⟩
  | .hbm, ⟨12, _⟩ => ⟨S1024x256, .f32⟩
  | .hbm, ⟨13, _⟩ => ⟨S1024x64, .f32⟩
  | .hbm, ⟨14, _⟩ => ⟨S1024x4, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x128, .f32⟩
  | .hbm, ⟨19, _⟩ => ⟨S1024x1664, .f32⟩
  | .hbm, ⟨20, _⟩ => ⟨S1024x1664, .bf16⟩
  | .hbm, ⟨21, _⟩ => ⟨S1024x128, .f32⟩
  | .hbm, ⟨22, _⟩ => ⟨S1024x384, .f32⟩
  | .hbm, ⟨23, _⟩ => ⟨S1024x384, .bf16⟩
  | .hbm, ⟨24, _⟩ => ⟨S1024x640, .f32⟩
  | .hbm, ⟨25, _⟩ => ⟨S1024x640, .bf16⟩
  | .hbm, ⟨26, _⟩ => ⟨S4x1024, .f32⟩
  | .hbm, ⟨27, _⟩ => ⟨S_, .i32⟩
  | .hbm, ⟨28, _⟩ => ⟨S_, .f32⟩
  | .hbm, ⟨29, _⟩ => ⟨S8x1024, .f32⟩
  | .hbm, ⟨30, _⟩ => ⟨S8x1024, .bf16⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S1x64, .f32⟩
  | .hbm, ⟨38, _⟩ => ⟨S2x64, .f32⟩
  | .hbm, ⟨39, _⟩ => ⟨S128, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S1x64, .f32⟩
  | .hbm, ⟨47, _⟩ => ⟨S8x64, .f32⟩
  | .hbm, ⟨48, _⟩ => ⟨S512, .f32⟩
  | .hbm, ⟨49, _⟩ => ⟨S1664, .f32⟩
  | .hbm, ⟨50, _⟩ => ⟨S26x2x32, .f32⟩
  | .hbm, ⟨51, _⟩ => ⟨S26x2x32, .f32⟩
  | .hbm, ⟨52, _⟩ => ⟨S1664, .f32⟩
  | .hbm, ⟨53, _⟩ => ⟨S1x1664, .f32⟩
  | .hbm, ⟨54, _⟩ => ⟨S1x1664, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S1x32, .f32⟩
  | .hbm, ⟨70, _⟩ => ⟨S4x32, .f32⟩
  | .hbm, ⟨71, _⟩ => ⟨S128, .f32⟩
  | .hbm, ⟨72, _⟩ => ⟨S1x128, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S64, .f32⟩
  | .hbm, ⟨79, _⟩ => ⟨S1x64, .f32⟩
  | .hbm, ⟨80, _⟩ => ⟨S2x64, .f32⟩
  | .hbm, ⟨81, _⟩ => ⟨S128, .f32⟩
  | .hbm, ⟨82, _⟩ => ⟨S1x128, .f32⟩
  | .hbm, ⟨83, _⟩ => ⟨S256, .i32⟩
  | .hbm, ⟨84, _⟩ => ⟨S_, .i32⟩
  | .hbm, ⟨85, _⟩ => ⟨S_, .i32⟩
  | .hbm, ⟨86, _⟩ => ⟨S256, .i32⟩
  | .hbm, ⟨87, _⟩ => ⟨S256, .i32⟩
  | .hbm, ⟨88, _⟩ => ⟨S256, .i32⟩
  | .hbm, ⟨89, _⟩ => ⟨S_, .i32⟩
  | .hbm, ⟨90, _⟩ => ⟨S256, .i32⟩
  | .hbm, ⟨91, _⟩ => ⟨S256, .i1⟩
  | .hbm, ⟨92, _⟩ => ⟨S256, .i32⟩
  | .hbm, ⟨93, _⟩ => ⟨S256, .i32⟩
  | .hbm, ⟨94, _⟩ => ⟨S_, .i32⟩
  | .hbm, ⟨95, _⟩ => ⟨S256, .i32⟩
  | .hbm, ⟨96, _⟩ => ⟨S256, .i1⟩
  | .hbm, ⟨97, _⟩ => ⟨S256, .i1⟩
  | .hbm, ⟨98, _⟩ => ⟨S_, .i32⟩
  | .hbm, ⟨99, _⟩ => ⟨S256, .i32⟩
  | .hbm, ⟨100, _⟩ => ⟨S256, .i32⟩
  | .hbm, ⟨101, _⟩ => ⟨S256, .i32⟩
  | .hbm, ⟨102, _⟩ => ⟨S256x1, .i32⟩
  | .hbm, ⟨103, _⟩ => ⟨S1x256, .i32⟩
  | .hbm, ⟨104, _⟩ => ⟨S256x256, .i32⟩
  | .hbm, ⟨105, _⟩ => ⟨S256x256, .i32⟩
  | .hbm, ⟨106, _⟩ => ⟨S256x256, .i1⟩
  | .hbm, ⟨107, _⟩ => ⟨S256x256, .f32⟩
  | .hbm, ⟨108, _⟩ => ⟨S_, .f32⟩
  | .hbm, ⟨109, _⟩ => ⟨S256x256, .f32⟩
  | .hbm, ⟨110, _⟩ => ⟨S256x256, .f32⟩
  | .hbm, ⟨111, _⟩ => ⟨S256x256, .bf16⟩
  | .hbm, ⟨112, _⟩ => ⟨S65536x1, .i32⟩
  | .hbm, ⟨113, _⟩ => ⟨S65536x512, .bf16⟩
  | .hbm, ⟨114, _⟩ => ⟨S65536x128, .bf16⟩
  | .hbm, ⟨115, _⟩ => ⟨S65536x512, .bf16⟩
  | .hbm, ⟨116, _⟩ => ⟨S65536x512, .bf16⟩
  | .hbm, ⟨117, _⟩ => ⟨S65536x256, .bf16⟩
  | .hbm, ⟨118, _⟩ => ⟨S65536x128, .bf16⟩
  | .hbm, ⟨119, _⟩ => ⟨S65536x128, .bf16⟩
  | .hbm, ⟨120, _⟩ => ⟨S65536x512, .bf16⟩
  | .hbm, ⟨121, _⟩ => ⟨S8x65536, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1x128, .f32⟩
  | .local _ .vmem, ⟨6, _⟩ => ⟨S1x128, .f32⟩
  | .local _ .vmem, ⟨7, _⟩ => ⟨S1024x1664, .bf16⟩
  | .local _ .vmem, ⟨8, _⟩ => ⟨S1024x384, .bf16⟩
  | .local _ .vmem, ⟨9, _⟩ => ⟨S1024x640, .bf16⟩
  | .local _ .vmem, ⟨10, _⟩ => ⟨S8x1024, .bf16⟩
  | .local _ .vmem, ⟨11, _⟩ => ⟨S1x1664, .f32⟩
  | .local _ .vmem, ⟨12, _⟩ => ⟨S1x1664, .f32⟩
  | .local _ .vmem, ⟨13, _⟩ => ⟨S256x256, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x256, .bf16⟩
  | .local _ .vmem, ⟨23, _⟩ => ⟨S512x256, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x512, .bf16⟩
  | .local _ .vmem, ⟨29, _⟩ => ⟨S512x512, .bf16⟩
  | .local _ .vmem, ⟨30, _⟩ => ⟨S8x512, .f32⟩
  | .local _ .vmem, ⟨31, _⟩ => ⟨S8x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_7 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_c : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_0 : Ref sig .tc := ⟨.hbm, 98, rfl⟩
abbrev main_call1_v12 : Ref sig .tc := ⟨.hbm, 99, rfl⟩
abbrev main_call1_v13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_8 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77_0 : Ref sig .tc := ⟨.hbm, 113, rfl⟩
abbrev main_v77_1 : Ref sig .tc := ⟨.hbm, 114, rfl⟩
abbrev main_v77_2 : Ref sig .tc := ⟨.hbm, 115, rfl⟩
abbrev main_v77_3 : Ref sig .tc := ⟨.hbm, 116, rfl⟩
abbrev main_v77_4 : Ref sig .tc := ⟨.hbm, 117, rfl⟩
abbrev main_v77_5 : Ref sig .tc := ⟨.hbm, 118, rfl⟩
abbrev main_v77_6 : Ref sig .tc := ⟨.hbm, 119, rfl⟩
abbrev main_v77_7 : Ref sig .tc := ⟨.hbm, 120, rfl⟩
abbrev main_v77_8 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1664 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1664 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== EvenReferenceIdeal.lean ====
abbrev S65536x1024 : Shape := ⟨2, ![65536, 1024]⟩
abbrev S8x8192 : Shape := ⟨2, ![8, 8192]⟩
abbrev S1024 : Shape := ⟨1, ![1024]⟩
abbrev S1024x2564 : Shape := ⟨2, ![1024, 2564]⟩
abbrev S64 : Shape := ⟨1, ![64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2564 : Shape := ⟨2, ![65536, 2564]⟩
abbrev S65536x512 : Shape := ⟨2, ![65536, 512]⟩
abbrev S65536x64 : Shape := ⟨2, ![65536, 64]⟩
abbrev S65536x128 : Shape := ⟨2, ![65536, 128]⟩
abbrev S65536x256 : Shape := ⟨2, ![65536, 256]⟩
abbrev S65536x4 : Shape := ⟨2, ![65536, 4]⟩
abbrev S4x65536 : Shape := ⟨2, ![4, 65536]⟩
abbrev S8x65536 : Shape := ⟨2, ![8, 65536]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192, .i32⟩
  | .hbm, ⟨2, _⟩ => ⟨S1024, .f32⟩
  | .hbm, ⟨3, _⟩ => ⟨S1024x2564, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x2564, .f32⟩
  | .hbm, ⟨25, _⟩ => ⟨S65536x512, .f32⟩
  | .hbm, ⟨26, _⟩ => ⟨S65536x64, .f32⟩
  | .hbm, ⟨27, _⟩ => ⟨S65536x128, .f32⟩
  | .hbm, ⟨28, _⟩ => ⟨S65536x256, .f32⟩
  | .hbm, ⟨29, _⟩ => ⟨S65536x64, .f32⟩
  | .hbm, ⟨30, _⟩ => ⟨S65536x4, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x128, .bf16⟩
  | .hbm, ⟨35, _⟩ => ⟨S65536x512, .bf16⟩
  | .hbm, ⟨36, _⟩ => ⟨S4x65536, .f32⟩
  | .hbm, ⟨37, _⟩ => ⟨S_, .i32⟩
  | .hbm, ⟨38, _⟩ => ⟨S_, .f32⟩
  | .hbm, ⟨39, _⟩ => ⟨S8x65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Keeps.lean ====
/- Programs that only load from and store into buffers they hold at whatever contents.

   `Keeps R p`: run from the resource `R`, the program `p` faults nowhere and hands `R` back. `R` names no contents of the
   buffers `p` stores into, so a store changes nothing it says; that makes the property compositional — a bind, a counted
   loop, a conditional keeps `R` if its parts do — and a kernel of thousands of accesses is gone through one access at a
   time, with no record of what was stored before. -/
module

public import Idealize.ShloMosaic.Adequacy
public import Idealize.ShloMosaic.Init
public import Idealize.ShloMosaic.Lib.Scf
public import Idealize.ShloMosaic.Lib.Tactic
public import Idealize.ShloMosaic.Lib.Pipeline.FrameBody

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- Some buffer elements that include all of `m`'s are held within `R`, at some contents, and are handed back as found. -/
def Readable (c : Thread nD τ) {sp : Space} {s : Shape} {e : EltTy} (R : sProp 𝕄) (m : Memref sig c.2.kind sp s e) : Prop :=
  ∃ (S : Finset (Idx (m.view.loc c))) (q : PosShare TreeShare), m.view.set ⊆ S ∧
    (R ⊢ iprop(∃ f, (m.view.loc c ↦[S]{q} f) ∗ ((m.view.loc c ↦[S]{q} f) -∗ R)))

/-- Some buffer elements that include all of `m`'s are held whole within `R`, and `R` is whole again whatever they hold. -/
def Writable (c : Thread nD τ) {sp : Space} {s : Shape} {e : EltTy} (R : sProp 𝕄) (m : Memref sig c.2.kind sp s e) : Prop :=
  ∃ (S : Finset (Idx (m.view.loc c))), m.view.set ⊆ S ∧
    (R ⊢ iprop(∃ f, (m.view.loc c ↦[S]{fullShare} f) ∗ (∀ g, (m.view.loc c ↦[S]{fullShare} g) -∗ R)))

theorem Writable.readable {c : Thread nD τ} {sp : Space} {s : Shape} {e : EltTy} {R : sProp 𝕄} {m : Memref sig c.2.kind sp s e}
    (h : Writable c R m) : Readable c R m := by
  obtain ⟨S, hS, h⟩ := h
  refine ⟨S, fullShare, hS, h.trans ?_⟩
  iintro ⟨%f, Hf, Hk⟩
  iexists f
  isplitl [Hf]
  · iexact Hf
  · iintro Hf
    iapply Hk $$ Hf

/-- From `R` the program runs to `R`. -/
def Keeps {α : Type} (defs : Defs nD τ sig Val Λ) (𝒱 : Variants) (c : Thread nD τ) (bd : Option 𝒱.V) (E : Set ℕ) (R : sProp 𝕄)
    (p : Prog (TpuEff nD τ sig Val Λ c.2) α) : Prop :=
  R ⊢ wp frame (wpE (Ix := Unit) (Name := ℕ) (U := UR sig nD τ) (Lvl := ℕ) defs 𝒱 c bd) E p (fun _ => R)

variable {defs : Defs nD τ sig Val Λ} {𝒱 : Variants} {c : Thread nD τ} {bd : Option 𝒱.V} {E : Set ℕ}

theorem Keeps.ret {R : sProp 𝕄} {α : Type} (a : α) : Keeps defs 𝒱 c bd E R (Prog.ret a) := by
  unfold Keeps
  rw [wp_ret]
  iintro H
  imodintro
  iexact H

theorem Keeps.pure {R : sProp 𝕄} {α : Type} (a : α) : Keeps defs 𝒱 c bd E R (Pure.pure a) := Keeps.ret a

theorem Keeps.bind {R : sProp 𝕄} {α β : Type} {p : Prog (TpuEff nD τ sig Val Λ c.2) α} {k : α → Prog (TpuEff nD τ sig Val Λ c.2) β}
    (hp : Keeps defs 𝒱 c bd E R p) (hk : ∀ a, Keeps defs 𝒱 c bd E R (k a)) : Keeps defs 𝒱 c bd E R (p >>= k) := by
  unfold Keeps at hp hk ⊢
  rw [wp_bind]
  iintro H
  iapply (wp_wand_r _ _ _)
  isplitl [H]
  · iapply hp; iexact H
  · iintro %a H
    iapply (hk a); iexact H

theorem Keeps.load {R : sProp 𝕄} {cs : CoreSpace} {s : Shape} {e : EltTy} {m : Memref sig c.2.kind cs s e} {r : LoadRect s} {hl : m.view.LoadsAt r}
    (hm : Readable c R m) : Keeps defs 𝒱 c bd E R (Prog.lift (.load m r hl)) := by
  obtain ⟨S, q, hS, h⟩ := hm
  unfold Keeps Prog.lift
  refine h.trans ?_
  iintro ⟨%f, Hf, Hk⟩
  iapply (wp_load (defs := defs) 𝒱 c bd (Γ := .empty) E (S := S) (q := q) (f := f) ((View.setOn_subset_set _ _).trans hS)) $$ Hf
  iintro Hf
  rw [wp_ret]
  imodintro
  iapply Hk $$ Hf

theorem Keeps.smemLoad {R : sProp 𝕄} {s : Shape} {e : EltTy} {m : Memref sig c.2.kind .smem s e} {r : Rect s} {h1 : r.shape.numel = 1}
    {hp : e.packing = 1} (hm : Readable c R m) : Keeps defs 𝒱 c bd E R (smemLoad m r h1 hp) := by
  obtain ⟨S, q, hS, h⟩ := hm
  unfold Keeps Idealize.ShloMosaic.smemLoad
  refine h.trans ?_
  iintro ⟨%f, Hf, Hk⟩
  iapply (wp_smemLoadElt (defs := defs) 𝒱 c bd (Γ := .empty) E (m := m) (r := r) (S := S) (q := q) (f := f)
    ((by rw [View.set_slice]; exact View.setOn_subset_set _ _ : (m.access r).set ⊆ m.view.set).trans hS)) $$ Hf
  iintro Hf
  rw [wp_ret]
  imodintro
  iapply Hk $$ Hf

theorem Keeps.store {R : sProp 𝕄} {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (hw : Writable c R m) : Keeps defs 𝒱 c bd E R (Prog.lift (.store m r w Mk hx hm)) := by
  obtain ⟨S, hS, h⟩ := hw
  unfold Keeps Prog.lift
  refine h.trans ?_
  iintro ⟨%f, Hf, Hk⟩
  iapply (wp_store (defs := defs) 𝒱 c bd (Γ := .empty) E (m := m) (r := r) (w := w) (Mk := Mk) (hx := hx) (hm := hm) (S := S) (f := f)
    (((View.setOn_subset_set _ _).trans (by rw [View.set_slice]; exact View.setOn_subset_set _ _)).trans hS)) $$ Hf
  iintro Hf
  rw [wp_ret]
  imodintro
  iapply Hk $$ Hf

theorem Keeps.for {R : sProp 𝕄} {w : Nat} {σ : Type} {l : Scf.Loop w} {hok : l.OK} {init : σ}
    {body : Fin l.trips → σ → Prog (TpuEff nD τ sig Val Λ c.2) σ}
    (hb : ∀ k acc, Keeps defs 𝒱 c bd E R (body k acc)) : Keeps defs 𝒱 c bd E R (Scf.Loop.for l hok init body) := by
  unfold Keeps at hb ⊢
  iintro H
  iapply (Scf.wp_for frame (wpE (Ix := Unit) (Name := ℕ) (U := UR sig nD τ) (Lvl := ℕ) defs 𝒱 c bd) E _ _ _ hok init body (fun _ _ => R) (fun k acc => hb k acc))
  isplitl [H]
  · iexact H
  · iintro %a H
    iexact H

theorem Keeps.ite {R : sProp 𝕄} {α : Type} {P : Prop} [Decidable P] {p q : Prog (TpuEff nD τ sig Val Λ c.2) α}
    (hp : Keeps defs 𝒱 c bd E R p) (hq : Keeps defs 𝒱 c bd E R q) : Keeps defs 𝒱 c bd E R (if P then p else q) := by
  split <;> assumption

end Cert.Proof

end
-- ==== Proof.DsaKeepsRowsA.lean ====
/- The index-and-attend kernel keeps what it holds, part by part: the first of its counted loops. -/
module

public import proofs.«01_k».proof.Kernel
public import proofs.«01_k».proof.Proof.Keeps

@[expose] public section

set_option maxRecDepth 16384
-- each access is one step of the proof, and there are about a thousand
set_option maxHeartbeats 0

noncomputable section

namespace Cert.Proof

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Cert.Kernel.Facts]

local notation "𝕄" => MT nD τ sig Unit (Elt F) ℕ (UR sig nD τ) ℕ

/-- The parts of the first of the kernel's counted loops run from a resource that holds the operands readable and the
    output block and the scratch writable to that resource. -/
theorem keeps_first_loop (defs : Defs nD τ sig (Elt F) Λ₀) (𝒱 : Variants) (c : Dev nD) (bd : Option 𝒱.V) (E : Set ℕ) (R : sProp 𝕄)
    (i : grid0.Coords)
    (arg2 : Memref sig .tc .smem S1 .f32) (harg2 : arg2.IsWhole)
    (arg3 : Memref sig .tc .vmem S1x128x512 .bf16) (harg3 : arg3.IsWhole)
    (arg4 : Memref sig .tc .vmem S1x128x256 .bf16) (harg4 : arg4.IsWhole)
    (arg5 : Memref sig .tc .vmem S8x128 .f32) (harg5 : arg5.IsWhole)
    (arg6 : Memref sig .tc .vmem S1x16x512x128 .bf16) (harg6 : arg6.IsWhole)
    (arg7 : Memref sig .tc .vmem S1x16x512x128 .bf16) (harg7 : arg7.IsWhole)
    (arg8 : Memref sig .tc .vmem S1x16x512x128 .bf16) (harg8 : arg8.IsWhole)
    (arg9 : Memref sig .tc .vmem S256x256 .bf16) (harg9 : arg9.IsWhole)
    (arg10 : Memref sig .tc .vmem S1024x512 .bf16) (harg10 : arg10.IsWhole)
    (arg11 : Memref sig .tc .vmem S1x128x512 .bf16) (harg11 : arg11.IsWhole)
    (arg12 : Memref sig .tc .vmem S16x512x128 .i32) (harg12 : arg12.IsWhole)
    (arg13 : Memref sig .tc .vmem S16x512x128 .bf16) (harg13 : arg13.IsWhole)
    (arg14 : Memref sig .tc .vmem S16x32x16x128 .i32) (harg14 : arg14.IsWhole)
    (arg15 : Memref sig .tc .vmem S16x16x128 .i32) (harg15 : arg15.IsWhole)
    (arg16 : Memref sig .tc .vmem S1024x256 .f32) (harg16 : arg16.IsWhole)
    (h2 : Readable c.tc R arg2) (h3 : Readable c.tc R arg3) (h4 : Readable c.tc R arg4) (h5 : Readable c.tc R arg5)
    (h6 : Readable c.tc R arg6) (h7 : Readable c.tc R arg7) (h8 : Readable c.tc R arg8) (h9 : Readable c.tc R arg9)
    (h10 : Readable c.tc R arg10) (h11 : Writable c.tc R arg11) (h12 : Writable c.tc R arg12) (h13 : Writable c.tc R arg13)
    (h14 : Writable c.tc R arg14) (h15 : Writable c.tc R arg15) (h16 : Writable c.tc R arg16) :
    (∀ x0 x1 x2 x3 x4, Keeps defs 𝒱 (c.tc) bd E R
        (k0_part341 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4))
      ∧ (∀ x0 x1 x2 x3 x4 x5 x6 x7 x8 x9 x10 x11 x12 x13 x14 x15 x16 x17 x18 x19 x20 x21 x22 x23 x24 x25 x26 x27 x28 x29 x30 x31 x32 x33 x34 x35 x36 x37, Keeps defs 𝒱 (c.tc) bd E R
        (k0_part342 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37))
      ∧ (∀ x0 x1 x2 x3 x4 x5 x6 x7 x8 x9 x10 x11 x12 x13 x14 x15 x16 x17 x18 x19 x20 x21 x22 x23 x24 x25 x26 x27 x28 x29 x30 x31 x32 x33 x34 x35 x36 x37, Keeps defs 𝒱 (c.tc) bd E R
        (k0_part343 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38 x39, Keeps defs 𝒱 (c.tc) bd E R
        (k0_part344 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38 x39))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38 x39, Keeps defs 𝒱 (c.tc) bd E R
        (k0_part345 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38 x39))
      ∧ (∀ x0 x1 x2 x3 x4 x5 x6 x7 x8 x9 x10 x11 x12 x13 x14 x15 x16 x17 x18 x19 x20 x21 x22 x23 x24 x25 x26 x27 x28 x29 x30 x31 x32 x33 x34, Keeps defs 𝒱 (c.tc) bd E R
        (k0_part346 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34)) := by
  refine ⟨?_, ?_, ?_, ?_, ?_, ?_⟩
  repeat' (first
    | with_reducible assumption
    | with_reducible exact Keeps.load (Writable.readable (by assumption))
    | with_reducible exact Keeps.load (by assumption)
    | with_reducible exact Keeps.store (by assumption)
    | with_reducible exact Keeps.smemLoad (by assumption)
    | with_reducible refine Keeps.bind ?_ ?_
    | with_reducible refine Keeps.for ?_
    | with_reducible refine Keeps.ite ?_ ?_
    | with_reducible exact Keeps.ret _
    | with_reducible exact Keeps.pure _
    | with_reducible intro _
    | refine Keeps.bind ?_ ?_
    | exact Keeps.ret _)

end Cert.Proof

end
-- ==== Proof.DsaKeepsRowsB.lean ====
/- The index-and-attend kernel keeps what it holds, part by part: the second of its counted loops. -/
module

public import proofs.«01_k».proof.Kernel
public import proofs.«01_k».proof.Proof.Keeps

@[expose] public section

set_option maxRecDepth 16384
-- each access is one step of the proof, and there are about a thousand
set_option maxHeartbeats 0

noncomputable section

namespace Cert.Proof

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Cert.Kernel.Facts]

local notation "𝕄" => MT nD τ sig Unit (Elt F) ℕ (UR sig nD τ) ℕ

/-- The parts of the second of the kernel's counted loops run from a resource that holds the operands readable and the
    output block and the scratch writable to that resource. -/
theorem keeps_second_loop (defs : Defs nD τ sig (Elt F) Λ₀) (𝒱 : Variants) (c : Dev nD) (bd : Option 𝒱.V) (E : Set ℕ) (R : sProp 𝕄)
    (i : grid0.Coords)
    (arg2 : Memref sig .tc .smem S1 .f32) (harg2 : arg2.IsWhole)
    (arg3 : Memref sig .tc .vmem S1x128x512 .bf16) (harg3 : arg3.IsWhole)
    (arg4 : Memref sig .tc .vmem S1x128x256 .bf16) (harg4 : arg4.IsWhole)
    (arg5 : Memref sig .tc .vmem S8x128 .f32) (harg5 : arg5.IsWhole)
    (arg6 : Memref sig .tc .vmem S1x16x512x128 .bf16) (harg6 : arg6.IsWhole)
    (arg7 : Memref sig .tc .vmem S1x16x512x128 .bf16) (harg7 : arg7.IsWhole)
    (arg8 : Memref sig .tc .vmem S1x16x512x128 .bf16) (harg8 : arg8.IsWhole)
    (arg9 : Memref sig .tc .vmem S256x256 .bf16) (harg9 : arg9.IsWhole)
    (arg10 : Memref sig .tc .vmem S1024x512 .bf16) (harg10 : arg10.IsWhole)
    (arg11 : Memref sig .tc .vmem S1x128x512 .bf16) (harg11 : arg11.IsWhole)
    (arg12 : Memref sig .tc .vmem S16x512x128 .i32) (harg12 : arg12.IsWhole)
    (arg13 : Memref sig .tc .vmem S16x512x128 .bf16) (harg13 : arg13.IsWhole)
    (arg14 : Memref sig .tc .vmem S16x32x16x128 .i32) (harg14 : arg14.IsWhole)
    (arg15 : Memref sig .tc .vmem S16x16x128 .i32) (harg15 : arg15.IsWhole)
    (arg16 : Memref sig .tc .vmem S1024x256 .f32) (harg16 : arg16.IsWhole)
    (h2 : Readable c.tc R arg2) (h3 : Readable c.tc R arg3) (h4 : Readable c.tc R arg4) (h5 : Readable c.tc R arg5)
    (h6 : Readable c.tc R arg6) (h7 : Readable c.tc R arg7) (h8 : Readable c.tc R arg8) (h9 : Readable c.tc R arg9)
    (h10 : Readable c.tc R arg10) (h11 : Writable c.tc R arg11) (h12 : Writable c.tc R arg12) (h13 : Writable c.tc R arg13)
    (h14 : Writable c.tc R arg14) (h15 : Writable c.tc R arg15) (h16 : Writable c.tc R arg16) :
    (∀ x0 x1 x2 x3 x4, Keeps defs 𝒱 (c.tc) bd E R
        (k0_part687 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4))
      ∧ (∀ x0 x1 x2 x3 x4 x5 x6 x7 x8 x9 x10 x11 x12 x13 x14 x15 x16 x17 x18 x19 x20 x21 x22 x23 x24 x25 x26 x27 x28 x29 x30 x31 x32 x33 x34 x35 x36 x37, Keeps defs 𝒱 (c.tc) bd E R
        (k0_part688 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37))
      ∧ (∀ x0 x1 x2 x3 x4 x5 x6 x7 x8 x9 x10 x11 x12 x13 x14 x15 x16 x17 x18 x19 x20 x21 x22 x23 x24 x25 x26 x27 x28 x29 x30 x31 x32 x33 x34 x35 x36 x37, Keeps defs 𝒱 (c.tc) bd E R
        (k0_part689 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38 x39, Keeps defs 𝒱 (c.tc) bd E R
        (k0_part690 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38 x39))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38 x39, Keeps defs 𝒱 (c.tc) bd E R
        (k0_part691 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38 x39))
      ∧ (∀ x0 x1 x2 x3 x4 x5 x6 x7 x8 x9 x10 x11 x12 x13 x14 x15 x16 x17 x18 x19 x20 x21 x22 x23 x24 x25 x26 x27 x28 x29 x30 x31 x32 x33 x34, Keeps defs 𝒱 (c.tc) bd E R
        (k0_part692 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34)) := by
  refine ⟨?_, ?_, ?_, ?_, ?_, ?_⟩
  repeat' (first
    | with_reducible assumption
    | with_reducible exact Keeps.load (Writable.readable (by assumption))
    | with_reducible exact Keeps.load (by assumption)
    | with_reducible exact Keeps.store (by assumption)
    | with_reducible exact Keeps.smemLoad (by assumption)
    | with_reducible refine Keeps.bind ?_ ?_
    | with_reducible refine Keeps.for ?_
    | with_reducible refine Keeps.ite ?_ ?_
    | with_reducible exact Keeps.ret _
    | with_reducible exact Keeps.pure _
    | with_reducible intro _
    | refine Keeps.bind ?_ ?_
    | exact Keeps.ret _)

end Cert.Proof

end
-- ==== Proof.DsaKeepsRowsC.lean ====
/- The index-and-attend kernel keeps what it holds, part by part: the third and fourth of its counted loops. -/
module

public import proofs.«01_k».proof.Kernel
public import proofs.«01_k».proof.Proof.Keeps

@[expose] public section

set_option maxRecDepth 16384
-- each access is one step of the proof, and there are about a thousand
set_option maxHeartbeats 0

noncomputable section

namespace Cert.Proof

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Cert.Kernel.Facts]

local notation "𝕄" => MT nD τ sig Unit (Elt F) ℕ (UR sig nD τ) ℕ

/-- The parts of the third and fourth of the kernel's counted loops run from a resource that holds the operands readable and the
    output block and the scratch writable to that resource. -/
theorem keeps_middle_loops (defs : Defs nD τ sig (Elt F) Λ₀) (𝒱 : Variants) (c : Dev nD) (bd : Option 𝒱.V) (E : Set ℕ) (R : sProp 𝕄)
    (i : grid0.Coords)
    (arg2 : Memref sig .tc .smem S1 .f32) (harg2 : arg2.IsWhole)
    (arg3 : Memref sig .tc .vmem S1x128x512 .bf16) (harg3 : arg3.IsWhole)
    (arg4 : Memref sig .tc .vmem S1x128x256 .bf16) (harg4 : arg4.IsWhole)
    (arg5 : Memref sig .tc .vmem S8x128 .f32) (harg5 : arg5.IsWhole)
    (arg6 : Memref sig .tc .vmem S1x16x512x128 .bf16) (harg6 : arg6.IsWhole)
    (arg7 : Memref sig .tc .vmem S1x16x512x128 .bf16) (harg7 : arg7.IsWhole)
    (arg8 : Memref sig .tc .vmem S1x16x512x128 .bf16) (harg8 : arg8.IsWhole)
    (arg9 : Memref sig .tc .vmem S256x256 .bf16) (harg9 : arg9.IsWhole)
    (arg10 : Memref sig .tc .vmem S1024x512 .bf16) (harg10 : arg10.IsWhole)
    (arg11 : Memref sig .tc .vmem S1x128x512 .bf16) (harg11 : arg11.IsWhole)
    (arg12 : Memref sig .tc .vmem S16x512x128 .i32) (harg12 : arg12.IsWhole)
    (arg13 : Memref sig .tc .vmem S16x512x128 .bf16) (harg13 : arg13.IsWhole)
    (arg14 : Memref sig .tc .vmem S16x32x16x128 .i32) (harg14 : arg14.IsWhole)
    (arg15 : Memref sig .tc .vmem S16x16x128 .i32) (harg15 : arg15.IsWhole)
    (arg16 : Memref sig .tc .vmem S1024x256 .f32) (harg16 : arg16.IsWhole)
    (h2 : Readable c.tc R arg2) (h3 : Readable c.tc R arg3) (h4 : Readable c.tc R arg4) (h5 : Readable c.tc R arg5)
    (h6 : Readable c.tc R arg6) (h7 : Readable c.tc R arg7) (h8 : Readable c.tc R arg8) (h9 : Readable c.tc R arg9)
    (h10 : Readable c.tc R arg10) (h11 : Writable c.tc R arg11) (h12 : Writable c.tc R arg12) (h13 : Writable c.tc R arg13)
    (h14 : Writable c.tc R arg14) (h15 : Writable c.tc R arg15) (h16 : Writable c.tc R arg16) :
    (∀ x0 x1 x2 x3 x4 x5, Keeps defs 𝒱 (c.tc) bd E R
        (k0_part863 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38 x39, Keeps defs 𝒱 (c.tc) bd E R
        (k0_part864 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38 x39))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38, Keeps defs 𝒱 (c.tc) bd E R
        (k0_part865 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38))
      ∧ (∀ x0 x1 x2 x3 x4 x5, Keeps defs 𝒱 (c.tc) bd E R
        (k0_part1036 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38 x39, Keeps defs 𝒱 (c.tc) bd E R
        (k0_part1037 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38 x39))
      ∧ (∀ x0 x1 x2 x3 x4 x5 x6 x7 x8 x9 x10 x11 x12 x13 x14 x15 x16 x17 x18 x19 x20 x21 x22 x23 x24 x25 x26 x27 x28 x29 x30 x31 x32 x33 x34 x35 x36 x37 x38, Keeps defs 𝒱 (c.tc) bd E R
        (k0_part1038 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30 x31 x32 x33 x34 x35 x36 x37 x38)) := by
  refine ⟨?_, ?_, ?_, ?_, ?_, ?_⟩
  repeat' (first
    | with_reducible assumption
    | with_reducible exact Keeps.load (Writable.readable (by assumption))
    | with_reducible exact Keeps.load (by assumption)
    | with_reducible exact Keeps.store (by assumption)
    | with_reducible exact Keeps.smemLoad (by assumption)
    | with_reducible refine Keeps.bind ?_ ?_
    | with_reducible refine Keeps.for ?_
    | with_reducible refine Keeps.ite ?_ ?_
    | with_reducible exact Keeps.ret _
    | with_reducible exact Keeps.pure _
    | with_reducible intro _
    | refine Keeps.bind ?_ ?_
    | exact Keeps.ret _)

end Cert.Proof

end
-- ==== Proof.DsaKeepsRowsD.lean ====
/- The index-and-attend kernel keeps what it holds, part by part: the fifth and later of its counted loops. -/
module

public import proofs.«01_k».proof.Kernel
public import proofs.«01_k».proof.Proof.Keeps

@[expose] public section

set_option maxRecDepth 16384
-- each access is one step of the proof, and there are about a thousand
set_option maxHeartbeats 0

noncomputable section

namespace Cert.Proof

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Cert.Kernel.Facts]

local notation "𝕄" => MT nD τ sig Unit (Elt F) ℕ (UR sig nD τ) ℕ

/-- The parts of the fifth and later of the kernel's counted loops run from a resource that holds the operands readable and the
    output block and the scratch writable to that resource. -/
theorem keeps_last_loops (defs : Defs nD τ sig (Elt F) Λ₀) (𝒱 : Variants) (c : Dev nD) (bd : Option 𝒱.V) (E : Set ℕ) (R : sProp 𝕄)
    (i : grid0.Coords)
    (arg2 : Memref sig .tc .smem S1 .f32) (harg2 : arg2.IsWhole)
    (arg3 : Memref sig .tc .vmem S1x128x512 .bf16) (harg3 : arg3.IsWhole)
    (arg4 : Memref sig .tc .vmem S1x128x256 .bf16) (harg4 : arg4.IsWhole)
    (arg5 : Memref sig .tc .vmem S8x128 .f32) (harg5 : arg5.IsWhole)
    (arg6 : Memref sig .tc .vmem S1x16x512x128 .bf16) (harg6 : arg6.IsWhole)
    (arg7 : Memref sig .tc .vmem S1x16x512x128 .bf16) (harg7 : arg7.IsWhole)
    (arg8 : Memref sig .tc .vmem S1x16x512x128 .bf16) (harg8 : arg8.IsWhole)
    (arg9 : Memref sig .tc .vmem S256x256 .bf16) (harg9 : arg9.IsWhole)
    (arg10 : Memref sig .tc .vmem S1024x512 .bf16) (harg10 : arg10.IsWhole)
    (arg11 : Memref sig .tc .vmem S1x128x512 .bf16) (harg11 : arg11.IsWhole)
    (arg12 : Memref sig .tc .vmem S16x512x128 .i32) (harg12 : arg12.IsWhole)
    (arg13 : Memref sig .tc .vmem S16x512x128 .bf16) (harg13 : arg13.IsWhole)
    (arg14 : Memref sig .tc .vmem S16x32x16x128 .i32) (harg14 : arg14.IsWhole)
    (arg15 : Memref sig .tc .vmem S16x16x128 .i32) (harg15 : arg15.IsWhole)
    (arg16 : Memref sig .tc .vmem S1024x256 .f32) (harg16 : arg16.IsWhole)
    (h2 : Readable c.tc R arg2) (h3 : Readable c.tc R arg3) (h4 : Readable c.tc R arg4) (h5 : Readable c.tc R arg5)
    (h6 : Readable c.tc R arg6) (h7 : Readable c.tc R arg7) (h8 : Readable c.tc R arg8) (h9 : Readable c.tc R arg9)
    (h10 : Readable c.tc R arg10) (h11 : Writable c.tc R arg11) (h12 : Writable c.tc R arg12) (h13 : Writable c.tc R arg13)
    (h14 : Writable c.tc R arg14) (h15 : Writable c.tc R arg15) (h16 : Writable c.tc R arg16) :
    (∀ x0 x1 x2 x3 x4 x5, Keeps defs 𝒱 (c.tc) bd E R
        (k0_part1124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5))
      ∧ (∀ x0 x1 x2 x3 x4 x5, Keeps defs 𝒱 (c.tc) bd E R
        (k0_part1210 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5))
      ∧ (∀ x0 x1 x2 x3 x4 x5, Keeps defs 𝒱 (c.tc) bd E R
        (k0_part1253 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5))
      ∧ (∀ x0 x1 x2 x3 x4 x5, Keeps defs 𝒱 (c.tc) bd E R
        (k0_part1296 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5)) := by
  refine ⟨?_, ?_, ?_, ?_⟩
  repeat' (first
    | with_reducible assumption
    | with_reducible exact Keeps.load (Writable.readable (by assumption))
    | with_reducible exact Keeps.load (by assumption)
    | with_reducible exact Keeps.store (by assumption)
    | with_reducible exact Keeps.smemLoad (by assumption)
    | with_reducible refine Keeps.bind ?_ ?_
    | with_reducible refine Keeps.for ?_
    | with_reducible refine Keeps.ite ?_ ?_
    | with_reducible exact Keeps.ret _
    | with_reducible exact Keeps.pure _
    | with_reducible intro _
    | refine Keeps.bind ?_ ?_
    | exact Keeps.ret _)

end Cert.Proof

end
-- ==== Proof.DsaKeeps.lean ====
/- The index-and-attend kernel keeps what it holds: its loads and stores, its counted loops and its conditional one by
   one, from the operand buffers at fixed contents and the output and scratch buffers at any. -/
module

public import proofs.«01_k».proof.Kernel
public import proofs.«01_k».proof.Proof.DsaKeepsRowsA
public import proofs.«01_k».proof.Proof.DsaKeepsRowsB
public import proofs.«01_k».proof.Proof.DsaKeepsRowsC
public import proofs.«01_k».proof.Proof.DsaKeepsRowsD

@[expose] public section

set_option maxRecDepth 16384
-- the kernel has some 4 300 accesses, each one step of the proof
set_option maxHeartbeats 0

noncomputable section

namespace Cert.Proof

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Cert.Kernel.Facts]

local notation "𝕄" => MT nD τ sig Unit (Elt F) ℕ (UR sig nD τ) ℕ

/-- From a resource that holds the operands readable and the output block and the scratch writable, the kernel runs to that
    resource. -/
theorem keeps_dsa (defs : Defs nD τ sig (Elt F) Λ₀) (𝒱 : Variants) (c : Dev nD) (bd : Option 𝒱.V) (E : Set ℕ) (R : sProp 𝕄)
    (i : grid0.Coords)
    (arg2 : Memref sig .tc .smem S1 .f32) (harg2 : arg2.IsWhole)
    (arg3 : Memref sig .tc .vmem S1x128x512 .bf16) (harg3 : arg3.IsWhole)
    (arg4 : Memref sig .tc .vmem S1x128x256 .bf16) (harg4 : arg4.IsWhole)
    (arg5 : Memref sig .tc .vmem S8x128 .f32) (harg5 : arg5.IsWhole)
    (arg6 : Memref sig .tc .vmem S1x16x512x128 .bf16) (harg6 : arg6.IsWhole)
    (arg7 : Memref sig .tc .vmem S1x16x512x128 .bf16) (harg7 : arg7.IsWhole)
    (arg8 : Memref sig .tc .vmem S1x16x512x128 .bf16) (harg8 : arg8.IsWhole)
    (arg9 : Memref sig .tc .vmem S256x256 .bf16) (harg9 : arg9.IsWhole)
    (arg10 : Memref sig .tc .vmem S1024x512 .bf16) (harg10 : arg10.IsWhole)
    (arg11 : Memref sig .tc .vmem S1x128x512 .bf16) (harg11 : arg11.IsWhole)
    (arg12 : Memref sig .tc .vmem S16x512x128 .i32) (harg12 : arg12.IsWhole)
    (arg13 : Memref sig .tc .vmem S16x512x128 .bf16) (harg13 : arg13.IsWhole)
    (arg14 : Memref sig .tc .vmem S16x32x16x128 .i32) (harg14 : arg14.IsWhole)
    (arg15 : Memref sig .tc .vmem S16x16x128 .i32) (harg15 : arg15.IsWhole)
    (arg16 : Memref sig .tc .vmem S1024x256 .f32) (harg16 : arg16.IsWhole)
    (h2 : Readable c.tc R arg2) (h3 : Readable c.tc R arg3) (h4 : Readable c.tc R arg4) (h5 : Readable c.tc R arg5)
    (h6 : Readable c.tc R arg6) (h7 : Readable c.tc R arg7) (h8 : Readable c.tc R arg8) (h9 : Readable c.tc R arg9)
    (h10 : Readable c.tc R arg10) (h11 : Writable c.tc R arg11) (h12 : Writable c.tc R arg12) (h13 : Writable c.tc R arg13)
    (h14 : Writable c.tc R arg14) (h15 : Writable c.tc R arg15) (h16 : Writable c.tc R arg16) :
    Keeps defs 𝒱 (c.tc) bd E R (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  obtain ⟨p341, p342, p343, p344, p345, p346⟩ := keeps_first_loop defs 𝒱 c bd E R i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16
  obtain ⟨p687, p688, p689, p690, p691, p692⟩ := keeps_second_loop defs 𝒱 c bd E R i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16
  obtain ⟨p863, p864, p865, p1036, p1037, p1038⟩ := keeps_middle_loops defs 𝒱 c bd E R i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16
  obtain ⟨p1124, p1210, p1253, p1296⟩ := keeps_last_loops defs 𝒱 c bd E R i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16
  repeat' (first
    | with_reducible assumption
    | with_reducible exact Keeps.load (Writable.readable (by assumption))
    | with_reducible exact Keeps.load (by assumption)
    | with_reducible exact Keeps.store (by assumption)
    | with_reducible refine Keeps.bind ?_ ?_
    | with_reducible refine Keeps.for ?_
    | with_reducible refine Keeps.ite ?_ ?_
    | with_reducible exact Keeps.ret _
    | with_reducible exact Keeps.pure _
    | with_reducible intro _
    | with_reducible apply p341
    | with_reducible apply p342
    | with_reducible apply p343
    | with_reducible apply p344
    | with_reducible apply p345
    | with_reducible apply p346
    | with_reducible apply p687
    | with_reducible apply p688
    | with_reducible apply p689
    | with_reducible apply p690
    | with_reducible apply p691
    | with_reducible apply p692
    | with_reducible apply p863
    | with_reducible apply p864
    | with_reducible apply p865
    | with_reducible apply p1036
    | with_reducible apply p1037
    | with_reducible apply p1038
    | with_reducible apply p1124
    | with_reducible apply p1210
    | with_reducible apply p1253
    | with_reducible apply p1296
    | refine Keeps.bind ?_ ?_
    | exact Keeps.ret _
    | exact Keeps.smemLoad (by assumption))

end Cert.Proof

end
-- ==== Proof.KeepsOwned.lean ====
/- Where an operand's buffer sits inside a separating conjunction: what a program may read and write of it there. -/
module

public import proofs.«01_k».proof.Proof.Keeps

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UR sig nD τ) ℕ

/-- `P` can be taken out of `R` and put back. -/
def Inside (P R : sProp 𝕄) : Prop := R ⊢ iprop(P ∗ (P -∗ R))

theorem Inside.last (P : sProp 𝕄) : Inside P P := by
  unfold Inside
  iintro H
  isplitl [H]
  · iexact H
  · iintro H
    iexact H

theorem Inside.first (P Q : sProp 𝕄) : Inside P iprop(P ∗ Q) := by
  unfold Inside
  iintro ⟨HP, HQ⟩
  isplitl [HP]
  · iexact HP
  · iintro HP
    isplitl [HP]
    · iexact HP
    · iexact HQ

theorem Inside.after {P Q : sProp 𝕄} (A : sProp 𝕄) (h : Inside P Q) : Inside P iprop(A ∗ Q) := by
  unfold Inside at h ⊢
  iintro ⟨HA, HQ⟩
  ihave HQ := h $$ HQ
  icases HQ with ⟨HP, Hk⟩
  isplitl [HP]
  · iexact HP
  · iintro HP
    isplitl [HA]
    · iexact HA
    · iapply Hk $$ HP

theorem Inside.within {P A : sProp 𝕄} (Q : sProp 𝕄) (h : Inside P A) : Inside P iprop(A ∗ Q) := by
  unfold Inside at h ⊢
  iintro ⟨HA, HQ⟩
  ihave HA := h $$ HA
  icases HA with ⟨HP, Hk⟩
  isplitl [HP]
  · iexact HP
  · iintro HP
    isplitl [Hk HP]
    · iapply Hk $$ HP
    · iexact HQ

/-- A staged operand held at given contents can be read. -/
theorem Readable.of_owns {c : Thread nD τ} {sp : Space} {s : Shape} {e : EltTy} {R : sProp 𝕄} {m : Memref sig c.2.kind sp s e}
    {q : PosShare TreeShare} {X : s.Idx → Val e} (h : Inside (owns c m q X) R) : Readable c R m := by
  refine ⟨m.view.set, q, subset_rfl, h.trans ?_⟩
  unfold owns
  iintro ⟨⟨%f, %hf, Hf⟩, Hk⟩
  iexists f
  isplitl [Hf]
  · iexact Hf
  · iintro Hf
    iapply Hk
    iexists f
    isplitr
    · ipureintro; exact hf
    · iexact Hf

/-- A staged operand held at whatever contents can be written. -/
theorem Writable.of_owns {c : Thread nD τ} {sp : Space} {s : Shape} {e : EltTy} {R : sProp 𝕄} {m : Memref sig c.2.kind sp s e}
    (h : Inside iprop(∃ X, owns c m fullShare X) R) : Writable c R m := by
  refine ⟨m.view.set, subset_rfl, h.trans ?_⟩
  unfold owns
  iintro ⟨⟨%X, %f, %hf, Hf⟩, Hk⟩
  iexists f
  isplitl [Hf]
  · iexact Hf
  · iintro %g Hg
    iapply Hk
    iexists (m.view.read Val g)
    iexists g
    isplitr
    · ipureintro; rfl
    · iexact Hg

/-- A scratch buffer held whole at whatever contents can be written. -/
theorem Writable.of_scratch {c : Dev nD} {b : Ref sig .tc} {R : sProp 𝕄}
    (h : Inside iprop(∃ f : Buf Val ((c.tc : Thread nD τ).loc b), ((c.tc : Thread nD τ).loc b) ↦{fullShare} f) R) :
    Writable (c.tc : Thread nD τ) R (Memref.whole b) := by
  refine ⟨Finset.univ, Finset.subset_univ _, h.trans ?_⟩
  iintro ⟨⟨%f, Hf⟩, Hk⟩
  iexists f
  isplitl [Hf]
  · iexact Hf
  · iintro %g Hg
    iapply Hk
    iexists g
    iexact Hg

end Cert.Proof

end
-- ==== Proof.DsaFrame.lean ====
/- The frame of the indexed sparse attention: its body at every grid point by `keeps_dsa`, the launch with the output block's
   contents left unsaid, and the claim's post from the launch. -/
module

public import proofs.«01_k».proof.Proof.DsaKeeps
public import proofs.«01_k».proof.Proof.KeepsOwned
public import proofs.«01_k».proof.Proof.Gen.Kernel.Frame

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The window whose contents the frame does not name: the output's. -/
def unsaid : Fin 10 → Bool := fun w => w.val == 9

/-- What the launch is told: each array as the region finds it, each input's buffer left at its block, the output's unnamed. -/
def dsaDat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed (cfg := cfg0) ⟨9, h⟩ t
  Φ _ := Pipeline.ΦA spec0 c
  q _ := fullShare
  owed _ := 0

def dsaDats (p : Fin 1) (c : Dev nD) : Dat τ (Elt F) Unit ℕ (UR sig nD τ) ℕ (cfgs p) c := match p with
  | ⟨0, _⟩ => dsaDat m c

theorem dsa_A (c : Dev nD) (w : Fin cfg0.W) : (dsaDats m 0 c).A w = V m c (Pipeline.arrRef spec0 w) := rfl

theorem dsa_after0 (c : Dev nD) (t : Fin cfg0.N) : (dsaDats m 0 c).after 0 t = iblk m c 0 t := rfl
theorem dsa_before0 (c : Dev nD) (t : Fin cfg0.N) (d) : (dsaDats m 0 c).before 0 t d = iblk m c 0 t :=
  before0_0_of m (dsaDats m 0 c) (dsa_A m c 0) (dsa_after0 m c) t d
theorem dsa_after1 (c : Dev nD) (t : Fin cfg0.N) : (dsaDats m 0 c).after 1 t = iblk m c 1 t := rfl
theorem dsa_before1 (c : Dev nD) (t : Fin cfg0.N) (d) : (dsaDats m 0 c).before 1 t d = iblk m c 1 t :=
  before0_1_of m (dsaDats m 0 c) (dsa_A m c 1) (dsa_after1 m c) t d
theorem dsa_after2 (c : Dev nD) (t : Fin cfg0.N) : (dsaDats m 0 c).after 2 t = iblk m c 2 t := rfl
theorem dsa_before2 (c : Dev nD) (t : Fin cfg0.N) (d) : (dsaDats m 0 c).before 2 t d = iblk m c 2 t :=
  before0_2_of m (dsaDats m 0 c) (dsa_A m c 2) (dsa_after2 m c) t d
theorem dsa_after3 (c : Dev nD) (t : Fin cfg0.N) : (dsaDats m 0 c).after 3 t = iblk m c 3 t := rfl
theorem dsa_before3 (c : Dev nD) (t : Fin cfg0.N) (d) : (dsaDats m 0 c).before 3 t d = iblk m c 3 t :=
  before0_3_of m (dsaDats m 0 c) (dsa_A m c 3) (dsa_after3 m c) t d
theorem dsa_after4 (c : Dev nD) (t : Fin cfg0.N) : (dsaDats m 0 c).after 4 t = iblk m c 4 t := rfl
theorem dsa_before4 (c : Dev nD) (t : Fin cfg0.N) (d) : (dsaDats m 0 c).before 4 t d = iblk m c 4 t :=
  before0_4_of m (dsaDats m 0 c) (dsa_A m c 4) (dsa_after4 m c) t d
theorem dsa_after5 (c : Dev nD) (t : Fin cfg0.N) : (dsaDats m 0 c).after 5 t = iblk m c 5 t := rfl
theorem dsa_before5 (c : Dev nD) (t : Fin cfg0.N) (d) : (dsaDats m 0 c).before 5 t d = iblk m c 5 t :=
  before0_5_of m (dsaDats m 0 c) (dsa_A m c 5) (dsa_after5 m c) t d
theorem dsa_after6 (c : Dev nD) (t : Fin cfg0.N) : (dsaDats m 0 c).after 6 t = iblk m c 6 t := rfl
theorem dsa_before6 (c : Dev nD) (t : Fin cfg0.N) (d) : (dsaDats m 0 c).before 6 t d = iblk m c 6 t :=
  before0_6_of m (dsaDats m 0 c) (dsa_A m c 6) (dsa_after6 m c) t d
theorem dsa_after7 (c : Dev nD) (t : Fin cfg0.N) : (dsaDats m 0 c).after 7 t = iblk m c 7 t := rfl
theorem dsa_before7 (c : Dev nD) (t : Fin cfg0.N) (d) : (dsaDats m 0 c).before 7 t d = iblk m c 7 t :=
  before0_7_of m (dsaDats m 0 c) (dsa_A m c 7) (dsa_after7 m c) t d
theorem dsa_after8 (c : Dev nD) (t : Fin cfg0.N) : (dsaDats m 0 c).after 8 t = iblk m c 8 t := rfl
theorem dsa_before8 (c : Dev nD) (t : Fin cfg0.N) (d) : (dsaDats m 0 c).before 8 t d = iblk m c 8 t :=
  before0_8_of m (dsaDats m 0 c) (dsa_A m c 8) (dsa_after8 m c) t d

/-- What the body holds at a point and hands back: the scratch, what the core owes, each input's block, some output block. -/
def dsaHeld (c : Dev nD) (t : Fin cfg0.N) (O : sProp 𝕄) : sProp 𝕄 :=
  iprop(Pipeline.ΦA spec0 c ∗ O
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (∃ X, owns (c : Thread nD τ) (st0_9 t) fullShare X))

theorem keeps_point (c : Dev nD) (t : Fin cfg0.N) (O : sProp 𝕄) :
    Keeps (defs₀ (F := F)) Variants.none (c.tc) none Set.univ (dsaHeld m c t O) (bodyAt0 t) := by
  unfold bodyAt0 dsaHeld Pipeline.ΦA
  rw [scopedRest0_eq]
  apply keeps_dsa
  · exact Readable.of_owns (Inside.after _ (Inside.after _ (Inside.first _ _)))
  · exact Readable.of_owns (Inside.after _ (Inside.after _ (Inside.after _ (Inside.first _ _))))
  · exact Readable.of_owns (Inside.after _ (Inside.after _ (Inside.after _ (Inside.after _ (Inside.first _ _)))))
  · exact Readable.of_owns (Inside.after _ (Inside.after _ (Inside.after _ (Inside.after _ (Inside.after _ (Inside.first _ _))))))
  · exact Readable.of_owns (Inside.after _ (Inside.after _ (Inside.after _ (Inside.after _ (Inside.after _ (Inside.after _ (Inside.first _ _)))))))
  · exact Readable.of_owns (Inside.after _ (Inside.after _ (Inside.after _ (Inside.after _ (Inside.after _ (Inside.after _ (Inside.after _ (Inside.first _ _))))))))
  · exact Readable.of_owns (Inside.after _ (Inside.after _ (Inside.after _ (Inside.after _ (Inside.after _ (Inside.after _ (Inside.after _ (Inside.after _ (Inside.first _ _)))))))))
  · exact Readable.of_owns (Inside.after _ (Inside.after _ (Inside.after _ (Inside.after _ (Inside.after _ (Inside.after _ (Inside.after _ (Inside.after _ (Inside.after _ (Inside.first _ _))))))))))
  · exact Readable.of_owns (Inside.after _ (Inside.after _ (Inside.after _ (Inside.after _ (Inside.after _ (Inside.after _ (Inside.after _ (Inside.after _ (Inside.after _ (Inside.after _ (Inside.first _ _)))))))))))
  · exact Writable.of_owns (Inside.after _ (Inside.after _ (Inside.after _ (Inside.after _ (Inside.after _ (Inside.after _ (Inside.after _ (Inside.after _ (Inside.after _ (Inside.after _ (Inside.after _ (Inside.last _))))))))))))
  · exact Writable.of_scratch (Inside.within _ (Inside.within _ (Inside.first _ _)))
  · exact Writable.of_scratch (Inside.within _ (Inside.within _ (Inside.after _ (Inside.first _ _))))
  · exact Writable.of_scratch (Inside.within _ (Inside.within _ (Inside.after _ (Inside.after _ (Inside.first _ _)))))
  · exact Writable.of_scratch (Inside.within _ (Inside.within _ (Inside.after _ (Inside.after _ (Inside.after _ (Inside.first _ _))))))
  · exact Writable.of_scratch (Inside.within _ (Inside.within _ (Inside.after _ (Inside.after _ (Inside.after _ (Inside.after _ (Inside.last _)))))))

theorem dsa_row (t : Fin cfg0.N) : (defs₀ (F := F)) .tc cfg0.body (cfg0.bodyArgs t (cfg0.slots t)) = bodyAt0 t := by
  unfold defs₀; rw [Defs.onTc_tc]

def dsaPre (c : Dev nD) (t : Fin cfg0.N) : sProp 𝕄 :=
  iprop((dsaDats m 0 c).Φ t.castSucc ∗ (dsaDats m 0 c).owesAt () t.castSucc
    ∗ (∃ d, owns (c : Thread nD τ) (st0_0 t) fullShare ((dsaDats m 0 c).before 0 t d))
    ∗ (∃ d, owns (c : Thread nD τ) (st0_1 t) fullShare ((dsaDats m 0 c).before 1 t d))
    ∗ (∃ d, owns (c : Thread nD τ) (st0_2 t) fullShare ((dsaDats m 0 c).before 2 t d))
    ∗ (∃ d, owns (c : Thread nD τ) (st0_3 t) fullShare ((dsaDats m 0 c).before 3 t d))
    ∗ (∃ d, owns (c : Thread nD τ) (st0_4 t) fullShare ((dsaDats m 0 c).before 4 t d))
    ∗ (∃ d, owns (c : Thread nD τ) (st0_5 t) fullShare ((dsaDats m 0 c).before 5 t d))
    ∗ (∃ d, owns (c : Thread nD τ) (st0_6 t) fullShare ((dsaDats m 0 c).before 6 t d))
    ∗ (∃ d, owns (c : Thread nD τ) (st0_7 t) fullShare ((dsaDats m 0 c).before 7 t d))
    ∗ (∃ d, owns (c : Thread nD τ) (st0_8 t) fullShare ((dsaDats m 0 c).before 8 t d))
    ∗ (∃ X, owns (c : Thread nD τ) (st0_9 t) fullShare X))

def dsaPost (c : Dev nD) (t : Fin cfg0.N) : sProp 𝕄 :=
  iprop((dsaDats m 0 c).Φ t.succ ∗ (dsaDats m 0 c).owesAt () t.succ
    ∗ owns (c : Thread nD τ) (st0_0 t) fullShare ((dsaDats m 0 c).after 0 t)
    ∗ owns (c : Thread nD τ) (st0_1 t) fullShare ((dsaDats m 0 c).after 1 t)
    ∗ owns (c : Thread nD τ) (st0_2 t) fullShare ((dsaDats m 0 c).after 2 t)
    ∗ owns (c : Thread nD τ) (st0_3 t) fullShare ((dsaDats m 0 c).after 3 t)
    ∗ owns (c : Thread nD τ) (st0_4 t) fullShare ((dsaDats m 0 c).after 4 t)
    ∗ owns (c : Thread nD τ) (st0_5 t) fullShare ((dsaDats m 0 c).after 5 t)
    ∗ owns (c : Thread nD τ) (st0_6 t) fullShare ((dsaDats m 0 c).after 6 t)
    ∗ owns (c : Thread nD τ) (st0_7 t) fullShare ((dsaDats m 0 c).after 7 t)
    ∗ owns (c : Thread nD τ) (st0_8 t) fullShare ((dsaDats m 0 c).after 8 t)
    ∗ (∃ X, owns (c : Thread nD τ) (st0_9 t) fullShare X))

theorem dsa_enter (c : Dev nD) (t : Fin cfg0.N) :
    dsaPre m c t ⊢ dsaHeld m c t ((dsaDats m 0 c).owesAt () t.castSucc) := by
  unfold dsaPre dsaHeld
  simp only [dsa_before0, dsa_before1, dsa_before2, dsa_before3, dsa_before4, dsa_before5, dsa_before6, dsa_before7, dsa_before8]
  rw [show (dsaDats m 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem dsa_body (c : Dev nD) (t : Fin cfg0.N) :
    dsaPre m c t ⊢ wp frame (wpE (defs₀ (F := F)) Variants.none c none) Set.univ (bodyAt0 t) (fun _ => dsaPost m c t) := by
  have hpost : dsaPost m c t = dsaHeld m c t ((dsaDats m 0 c).owesAt () t.castSucc) := rfl
  rw [hpost]
  exact (dsa_enter m c t).trans (keeps_point m c t ((dsaDats m 0 c).owesAt () t.castSucc))

theorem dsa_obligation (c : Dev nD) :
    BodyObligation (dsaDats (F := F) m 0 c) (defs₀ (F := F)) Variants.none () Set.univ unsaid := fun t => by
  rw [bigSep_W0, bigSep_W0, dsa_row]
  exact triple_restated (dsa_body m c t) rfl .rfl fun _ => .rfl

/-- The program runs, every array but the output's ends as the region found it, and every semaphore counter at zero. -/
theorem dsa_run : θ_run (defs (F := F)) (onTc (τ := τ) (main (F := F))) (s₀ m ρ)
    (fun r => Pipeline.RDat.FramePost (cfgs 0) (fun c => (dsaDats m 0 c).toRForget unsaid) (V m) r ∧ r.2.sem = fun _ => 0) :=
  Pipeline.θ_run_frame_forget (Q' := _) cfgs (dsaDats m) (0 : Fin 1) launch0 defs₀ Variants.none unsaid m ρ main
    (hbody := fun c => (dsa_obligation m c).loose) (hshare := fun c => (dsaDats m 0 c).share_full fun _ => rfl)
    (howed := fun _ _ => rfl) (V := V m) (hmain := hmain m Variants.none) (hA := dsa_A m) (hΦ := fun _ _ => rfl)

/-- The program runs, its arguments end as they were, and every semaphore counter at zero. -/
theorem dsa_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(Pipeline.RDat.FramePost.arr_in h.1 c 0 rfl).trans ((dsa_A m c 0).trans (V_main_arg0 m c)),
    (Pipeline.RDat.FramePost.arr_in h.1 c 1 rfl).trans ((dsa_A m c 1).trans (V_main_arg1 m c)),
    (Pipeline.RDat.FramePost.arr_in h.1 c 2 rfl).trans ((dsa_A m c 2).trans (V_main_arg2 m c)),
    (Pipeline.RDat.FramePost.arr_in h.1 c 3 rfl).trans ((dsa_A m c 3).trans (V_main_arg3 m c)),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (dsa_run m ρ)

end Cert.Proof

end
-- ==== Proof.HalfStep.lean ====
/- The mathematics of a half step, on one row: an RMS norm, a gated unit over 2816 channels and half of its result added
   back, the sum over the channels taken in eleven runs of 256; what may come before it, the two attentions' heads projected
   and added to the row; and what may come after it, an embedding of the token blended in by a gate. -/
module

public import Idealize.ShloMosaic.PureOps.Ideal.Laws
public import Idealize.ShloMosaic.Lib.Pointwise

@[expose] public section

noncomputable section

namespace Cert.Proof

open Idealize.ShloMosaic
open scoped BigOperators

/-- A row divided by its root mean square (over 1024 entries, with the norm's small constant) and scaled by `g`. -/
def rmsRow (x g : Fin 1024 → EReal) (k : Fin 1024) : EReal :=
  x k * Ideal.rsqrt (Ideal.div (∑ l, x l * x l) (Ideal.ofBits FTy.f32 1149239296#32) + Ideal.ofBits FTy.f32 897988541#32) * g k

/-- Channel `j` of the gated unit at the row `x`: the gate through `z · σ(z)`, times the up projection. -/
def gated (x : Fin 1024 → EReal) (wg wu : Fin 1024 → Fin 2816 → EReal) (j : Fin 2816) : EReal :=
  (∑ k, x k * wg k j) * Ideal.logistic (∑ k, x k * wg k j) * ∑ k, x k * wu k j

/-- The half step: the row plus one half of the gated unit of its norm, projected down. -/
def halfStep (x g : Fin 1024 → EReal) (wg wu : Fin 1024 → Fin 2816 → EReal) (wd : Fin 2816 → Fin 1024 → EReal) (c : Fin 1024) :
    EReal :=
  x c + Ideal.ofBits FTy.f32 1056964608#32 * ∑ j, gated (rmsRow x g) wg wu j * wd j c

/-- The row with the two attentions' heads added, each through its half of the output projection. -/
def joined (x : Fin 1024 → EReal) (a b : Fin 512 → EReal) (wa wb : Fin 512 → Fin 1024 → EReal) (c : Fin 1024) : EReal :=
  x c + (∑ k, a k * wa k c) + ∑ k, b k * wb k c

/-- The row plus the projected embedding `p`, scaled by a gate that the row's norm opens. -/
def blended (x g : Fin 1024 → EReal) (wgate : Fin 1024 → Fin 1024 → EReal) (p : Fin 256 → EReal) (wproj : Fin 256 → Fin 1024 → EReal)
    (c : Fin 1024) : EReal :=
  x c + Ideal.logistic (∑ k, rmsRow x g k * wgate k c) * ∑ k, p k * wproj k c

/-- A sum over the 2816 channels, run by run: eleven runs of 256 channels, added from the first to the last. -/
theorem sum_runs (f : Fin 2816 → EReal) :
    ∑ j, f j
      = (∑ j : Fin 256, f ⟨j.val, by omega⟩) + (∑ j : Fin 256, f ⟨256 + j.val, by omega⟩) + (∑ j : Fin 256, f ⟨512 + j.val, by omega⟩)
        + (∑ j : Fin 256, f ⟨768 + j.val, by omega⟩) + (∑ j : Fin 256, f ⟨1024 + j.val, by omega⟩)
        + (∑ j : Fin 256, f ⟨1280 + j.val, by omega⟩) + (∑ j : Fin 256, f ⟨1536 + j.val, by omega⟩)
        + (∑ j : Fin 256, f ⟨1792 + j.val, by omega⟩) + (∑ j : Fin 256, f ⟨2048 + j.val, by omega⟩)
        + (∑ j : Fin 256, f ⟨2304 + j.val, by omega⟩) + (∑ j : Fin 256, f ⟨2560 + j.val, by omega⟩) := by
  have h : ∀ G : Fin 11 → EReal, ∑ s, G s = G 0 + G 1 + G 2 + G 3 + G 4 + G 5 + G 6 + G 7 + G 8 + G 9 + G 10 := by
    intro G
    rw [Fin.sum_univ_castSucc, Fin.sum_univ_castSucc, Fin.sum_univ_castSucc, Fin.sum_univ_eight]
    rfl
  have e : ∀ (s : Fin 11) (o : ℕ) (ho : s.val * 256 = o),
      (∑ t : Fin 256, f ⟨s.val * 256 + t.val, by omega⟩) = ∑ t : Fin 256, f ⟨o + t.val, by omega⟩ := by
    intro s o ho; subst ho; rfl
  have z : (∑ t : Fin 256, f ⟨0 + t.val, by omega⟩) = ∑ t : Fin 256, f ⟨t.val, by omega⟩ :=
    Finset.sum_congr rfl fun t _ => congrArg f (Fin.ext (Nat.zero_add _))
  rw [Fin.sum_univ_tiles 11 256 (by norm_num) f, h, e 0 0 rfl, e 1 256 rfl, e 2 512 rfl, e 3 768 rfl, e 4 1024 rfl,
    e 5 1280 rfl, e 6 1536 rfl, e 7 1792 rfl, e 8 2048 rfl, e 9 2304 rfl, e 10 2560 rfl, z]

end Cert.Proof

end
-- ==== Proof.FfnValue.lean ====
/- The feed-forward half step computes what its reference says: every row of a block is the half step of its own row, the
   blocks tile the result, and the reference's result is the same half step of every row. -/
module

public import proofs.«01_k».proof.Defs
public import proofs.«01_k».proof.Proof.HalfStep
public import proofs.«01_k».proof.Proof.Gen.FfnKernelIdeal.Value
public import proofs.«01_k».proof.Proof.Gen.FfnReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Ffn

open Cert.FfnKernelIdeal Cert.FfnKernelIdeal.Gen Cert.FfnKernelIdeal.Value

/-- The kernel's norm of a block, at a row. -/
theorem norm_apply (x : Vec Ideal S512x1024 .f32) (g : Vec Ideal S1x1024 .f32) (r : Fin 512) (k : Fin 1024) :
    k0_pay2 (F := Ideal) (View.ld x r0_0) (View.ld g r0_1) (ix2 r k) = rmsRow (fun l => x (ix2 r l)) (fun l => g (ix2 0 l)) k := by
  pointwise [k0_pay2, rmsRow]

/-- A block's result, at a row: the half step of that row of the block. -/
theorem out_apply (x : Vec Ideal S512x1024 .f32) (g : Vec Ideal S1x1024 .f32) (wg wu : Vec Ideal S1024x2816 .bf16)
    (wd : Vec Ideal S2816x1024 .bf16) (r : Fin 512) (k : Fin 1024) :
    out0_5 (F := Ideal) x g wg wu wd (ix2 r k)
      = halfStep (fun l => x (ix2 r l)) (fun l => g (ix2 0 l)) (fun l j => wg (ix2 l j)) (fun l j => wu (ix2 l j))
          (fun j l => wd (ix2 j l)) k := by
  unfold out0_5 halfStep
  rw [View.canon_unit_zero (by funext a; fin_cases a <;> rfl), sum_runs]
  pointwise [k0_pay1, k0_pay3, k0_pay4, k0_pay5, k0_pay6, k0_pay7, k0_pay8, k0_pay9, k0_pay10, k0_pay11]
  simp only [norm_apply, gated]

variable (m : (ℓ : Loc nD τ sig) → Buf (Elt Ideal) ℓ) (ρ : Dev nD → PrngReg)

/-- The block index of each window at each point: the row block for the input and the result, the whole array for the rest. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The half step of every row of an array. -/
def G (h : Vec Ideal S65536x1024 .f32) (g : Vec Ideal S1024 .f32) (wg wu : Vec Ideal S1024x2816 .f32)
    (wd : Vec Ideal S2816x1024 .f32) : Vec Ideal S65536x1024 .f32 :=
  fun j => halfStep (fun l => h (ix2 (j 0) l)) (fun l => g (ix1 l)) (fun l j => wg (ix2 l j)) (fun l j => wu (ix2 l j))
    (fun j l => wd (ix2 j l)) (j 1)

/-- The result array is the half step of the arguments. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out_apply]
  unfold G
  blk_point [iblk, V, idx t]

end Cert.Proof.Ffn

namespace Cert.Proof.Ffn

/-- At the reals the half step's array and the reference's agree. -/
theorem algebraic : Cert.algebraic_FfnKernelIdeal_FfnReferenceIdeal := by
  pair_intro
  · run_from Cert.FfnKernelIdeal.Value.run_blocks m g
  · run_from Cert.FfnReferenceIdeal.Value.run m' g'
    rw [show (Cert.FfnKernelIdeal.Gen.dats m 0 c).arrAt 5 Cert.FfnKernelIdeal.cfg0.N = G _ _ _ _ _ from final m c]
    funext j
    idx_vars j
    pointwise [G, halfStep, gated, rmsRow, Ideal.logistic, Ideal.ofBits_one_f32]

end Cert.Proof.Ffn

end
-- ==== Proof.HostParts.lean ====
/- The references' layers, as a host writes them over all 65536 rows, and each read at one row: the norm, the half step and
   the embedding blended in. -/
module

public import proofs.«01_k».proof.Proof.HalfStep
public import proofs.«01_k».proof.Proof.Gen.PleReferenceIdeal.Run
public import Idealize.ShloMosaic.Lib.Pointwise

@[expose] public section

set_option maxRecDepth 16384

noncomputable section

open Idealize.ShloMosaic
open Cert.PleReferenceIdeal Cert.PleReferenceIdeal.Gen

namespace Cert.Proof.Host

/-- All rows normed. -/
def norm (x : FVec Ideal S65536x1024 .f32) (g : FVec Ideal S1024 .f32) : FVec Ideal S65536x1024 .f32 :=
  mulf (mulf x (broadcastInDim S65536x1024 ![0, 1] bcast_S65536x1_S65536x1024_0_1
      (Host.rsqrt (addf (Host.divf (broadcastInDim S65536x1 ![0] bcast_S65536_S65536x1_0
          (Host.reduceAdd (mulf x x) (constant S_ .f32 0x00000000#32) reducesTo_S65536x1024_S65536_d1 h_S_))
        (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- All rows after the half step. -/
def half (x : FVec Ideal S65536x1024 .f32) (g : FVec Ideal S1024 .f32) (wg wu : FVec Ideal S1024x2816 .f32)
    (wd : FVec Ideal S2816x1024 .f32) : FVec Ideal S65536x1024 .f32 :=
  addf x (mulf (broadcastInDim S65536x1024 ![] bcast_S_S65536x1024 (constant S_ .f32 0x3F000000#32))
    (Host.dotGeneral dot_S65536x2816_S2816x1024_S65536x1024_1_0_0_1_n_n none
      (mulf (mulf (Host.dotGeneral dot_S65536x1024_S1024x2816_S65536x2816_1_0_0_1_n_n none (norm x g) wg)
          (Host.divf (broadcastInDim S65536x2816 ![] bcast_S_S65536x2816 (constant S_ .f32 0x3F800000#32))
            (addf (broadcastInDim S65536x2816 ![] bcast_S_S65536x2816 (constant S_ .f32 0x3F800000#32))
              (Host.exp (Host.negf
                (Host.dotGeneral dot_S65536x1024_S1024x2816_S65536x2816_1_0_0_1_n_n none (norm x g) wg))))))
        (Host.dotGeneral dot_S65536x1024_S1024x2816_S65536x2816_1_0_0_1_n_n none (norm x g) wu)) wd))

/-- All rows with their embeddings `p` blended in. -/
def blend (x : FVec Ideal S65536x1024 .f32) (g : FVec Ideal S1024 .f32) (wgate : FVec Ideal S1024x1024 .f32)
    (p : FVec Ideal S65536x256 .f32) (wproj : FVec Ideal S256x1024 .f32) : FVec Ideal S65536x1024 .f32 :=
  addf x (mulf (Host.divf (broadcastInDim S65536x1024 ![] bcast_S_S65536x1024 (constant S_ .f32 0x3F800000#32))
      (addf (broadcastInDim S65536x1024 ![] bcast_S_S65536x1024 (constant S_ .f32 0x3F800000#32))
        (Host.exp (Host.negf (Host.dotGeneral dot_S65536x1024_S1024x1024_S65536x1024_1_0_0_1_n_n none (norm x g) wgate)))))
    (Host.dotGeneral dot_S65536x256_S256x1024_S65536x1024_1_0_0_1_n_n none p wproj))

theorem norm_apply (x : FVec Ideal S65536x1024 .f32) (g : FVec Ideal S1024 .f32) (r : Fin 65536) (k : Fin 1024) :
    norm x g (ix2 r k) = rmsRow (fun l => x (ix2 r l)) (fun l => g (ix1 l)) k := by
  pointwise [norm, rmsRow]

theorem half_apply (x : FVec Ideal S65536x1024 .f32) (g : FVec Ideal S1024 .f32) (wg wu : FVec Ideal S1024x2816 .f32)
    (wd : FVec Ideal S2816x1024 .f32) (r : Fin 65536) (k : Fin 1024) :
    half x g wg wu wd (ix2 r k)
      = halfStep (fun l => x (ix2 r l)) (fun l => g (ix1 l)) (fun l j => wg (ix2 l j)) (fun l j => wu (ix2 l j))
          (fun j l => wd (ix2 j l)) k := by
  pointwise [half, halfStep, gated, Ideal.logistic, Ideal.ofBits_one_f32]
  simp only [norm_apply]

theorem blend_apply (x : FVec Ideal S65536x1024 .f32) (g : FVec Ideal S1024 .f32) (wgate : FVec Ideal S1024x1024 .f32)
    (p : FVec Ideal S65536x256 .f32) (wproj : FVec Ideal S256x1024 .f32) (r : Fin 65536) (k : Fin 1024) :
    blend x g wgate p wproj (ix2 r k)
      = blended (fun l => x (ix2 r l)) (fun l => g (ix1 l)) (fun l j => wgate (ix2 l j)) (fun l => p (ix2 r l))
          (fun j l => wproj (ix2 j l)) k := by
  pointwise [blend, blended, Ideal.logistic, Ideal.ofBits_one_f32]
  simp only [norm_apply]

end Cert.Proof.Host

end
-- ==== Proof.MixValue.lean ====
/- The two attentions' heads projected and added, a feed-forward half step and an embedding blended in, all in one call, compute
   what their reference says: every row of a block is that of its own row, the blocks tile the result, and so is the
   reference's result, whose heads stand side by side before one projection. -/
module

public import proofs.«01_k».proof.Defs
public import proofs.«01_k».proof.Proof.HostParts
public import proofs.«01_k».proof.Proof.Gen.MixKernelIdeal.Value
public import proofs.«01_k».proof.Proof.Gen.MixReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Mix

open Cert.MixKernelIdeal Cert.MixKernelIdeal.Gen Cert.MixKernelIdeal.Value

variable (x : Vec Ideal S512x1024 .f32) (a b : Vec Ideal S512x512 .bf16) (wa wb : Vec Ideal S512x1024 .bf16)
  (g : Vec Ideal S1x1024 .f32) (wg wu : Vec Ideal S1024x2816 .bf16)
  (wd : Vec Ideal S2816x1024 .bf16) (p : Vec Ideal S1x512x256 .f32) (g' : Vec Ideal S1x1024 .f32)
  (wgate : Vec Ideal S1024x1024 .bf16) (wproj : Vec Ideal S256x1024 .bf16) (r : Fin 512) (k : Fin 1024)

/-- A block with the heads added, at a row. -/
theorem joined_apply :
    k0_pay2 (F := Ideal) (View.ld x r0_0) (View.ld a r0_1) (View.ld wa r0_0) (View.ld b r0_1) (View.ld wb r0_0) (ix2 r k)
      = joined (fun l => x (ix2 r l)) (fun l => a (ix2 r l)) (fun l => b (ix2 r l)) (fun l j => wa (ix2 l j))
          (fun l j => wb (ix2 l j)) k := by
  pointwise [k0_pay2, joined]

/-- The norm of that block, at a row. -/
theorem norm_apply :
    k0_pay3 (F := Ideal) (View.ld x r0_0) (View.ld a r0_1) (View.ld wa r0_0) (View.ld b r0_1) (View.ld wb r0_0) (View.ld g r0_2)
        (ix2 r k)
      = rmsRow (joined (fun l => x (ix2 r l)) (fun l => a (ix2 r l)) (fun l => b (ix2 r l)) (fun l j => wa (ix2 l j))
          (fun l j => wb (ix2 l j))) (fun l => g (ix2 0 l)) k := by
  pointwise [k0_pay3]
  simp only [joined_apply, rmsRow]

/-- A block after the half step, at a row. -/
theorem half_apply :
    (k0_pay2 (F := Ideal) (View.ld x r0_0) (View.ld a r0_1) (View.ld wa r0_0) (View.ld b r0_1) (View.ld wb r0_0) (ix2 r k) : EReal)
        + Ideal.ofBits FTy.f32 1056964608#32 * ((k0_pay12 (k0_pay14 x a b wa wb g wg wu wd p g' wgate wproj) (k0_pay10 (k0_pay14 x a b wa wb g wg wu wd p g'
              wgate wproj) (k0_pay8 (k0_pay14 x a b wa wb g wg wu wd p g' wgate wproj) (k0_pay7 (k0_pay14 x a b wa wb g wg wu
              wd p g' wgate wproj) (k0_pay4 (F := Ideal)) (k0_pay5 (View.ld x r0_0) (View.ld a r0_1) (View.ld wa r0_0) (View.ld b
              r0_1) (View.ld wb r0_0) (View.ld g r0_2) (View.ld wg r0_3)) (k0_pay6 (View.ld x r0_0) (View.ld a r0_1) (View.ld
              wa r0_0) (View.ld b r0_1) (View.ld wb r0_0) (View.ld g r0_2) (View.ld wu r0_3)) (View.ld wd r0_4) (View.ld wg
              r0_5) (View.ld wu r0_5) (View.ld wd r0_6) (View.ld wg r0_7) (View.ld wu r0_7) (View.ld wd r0_8)) (View.ld wg
              r0_9) (View.ld wu r0_9) (View.ld wd r0_10) (View.ld wg r0_11) (View.ld wu r0_11) (View.ld wd r0_12)) (k0_pay9
              (k0_pay14 x a b wa wb g wg wu wd p g' wgate wproj) (View.ld wg r0_13) (View.ld wu r0_13)) (View.ld wd r0_14)
              (View.ld wg r0_15) (View.ld wu r0_15) (View.ld wd r0_16) (View.ld wg r0_17) (View.ld wu r0_17) (View.ld wd
              r0_18)) (k0_pay11 (k0_pay14 x a b wa wb g wg wu wd p g' wgate wproj) (View.ld wg r0_19)) (View.ld wu r0_19)
              (View.ld wd r0_20) (View.ld wg r0_21) (View.ld wu r0_21) (View.ld wd r0_22) (ix2 r k) : EReal) + (k0_pay13 (k0_pay14 x a b wa wb g wg wu wd p g' wgate wproj) (View.ld wg r0_23) (View.ld wu r0_23) (View.ld wd
              r0_24) (ix2 r k) : EReal))
      = halfStep (joined (fun l => x (ix2 r l)) (fun l => a (ix2 r l)) (fun l => b (ix2 r l)) (fun l j => wa (ix2 l j))
          (fun l j => wb (ix2 l j))) (fun l => g (ix2 0 l)) (fun l j => wg (ix2 l j)) (fun l j => wu (ix2 l j))
          (fun j l => wd (ix2 j l)) k := by
  unfold halfStep
  rw [sum_runs]
  pointwise [k0_pay4, k0_pay5, k0_pay6, k0_pay7, k0_pay8, k0_pay9, k0_pay10, k0_pay11, k0_pay12, k0_pay13, k0_pay14]
  simp only [joined_apply, norm_apply, gated]

/-- The last payload, at a row, from the three blocks it adds up first. -/
theorem pay1_apply (u v w : FVec Ideal S512x1024 .f32) :
    k0_pay1 (F := Ideal) u v w (View.ld g' r0_2) (View.ld wgate r0_25) (View.ld p r0_26) (View.ld wproj r0_27) (ix2 r k)
      = blended (fun l => (u (ix2 r l) : EReal) + Ideal.ofBits FTy.f32 1056964608#32 * ((v (ix2 r l) : EReal) + (w (ix2 r l) : EReal)))
          (fun l => g' (ix2 0 l)) (fun l j => wgate (ix2 l j)) (fun l => p (ix3 0 r l)) (fun l j => wproj (ix2 l j)) k := by
  pointwise [k0_pay1, blended, rmsRow]

/-- A block's result, at a row: the embedding of that row's token blended into the half step of that row. -/
theorem out_apply :
    out0_13 (F := Ideal) x a b wa wb g wg wu wd p g' wgate wproj (ix2 r k)
      = blended (halfStep (joined (fun l => x (ix2 r l)) (fun l => a (ix2 r l)) (fun l => b (ix2 r l)) (fun l j => wa (ix2 l j))
            (fun l j => wb (ix2 l j))) (fun l => g (ix2 0 l)) (fun l j => wg (ix2 l j)) (fun l j => wu (ix2 l j))
            (fun j l => wd (ix2 j l)))
          (fun l => g' (ix2 0 l)) (fun l j => wgate (ix2 l j)) (fun l => p (ix3 0 r l)) (fun l j => wproj (ix2 l j)) k := by
  unfold out0_13
  rw [View.canon_unit_zero (by funext a; fin_cases a <;> rfl)]
  rw [pay1_apply]
  exact congrArg (fun z => blended z _ _ _ _ k) (funext fun l => half_apply x a b wa wb g wg wu wd p g' wgate wproj r l)

variable (m : (ℓ : Loc nD τ sig) → Buf (Elt Ideal) ℓ) (ρ : Dev nD → PrngReg)

/-- The block index of each window at each point: the row block for the input, the heads, the embeddings (of layer 0) and the
    result, the whole array for the rest. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, t.val, 0] ∧ win0_10.index t = ![0, 0]
    ∧ win0_11.index t = ![0, 0] ∧ win0_12.index t = ![0, 0] ∧ win0_13.index t = ![t.val, 0] :=
  (by decide +kernel : ∀ t : Fin grid0.N, _)

/-- Every row with its heads added, its half step and its token's embedding; row `r` is token `r % 8192` of sequence
    `r / 8192`, and the projection's first 512 rows are those of the first attention. -/
def G (h : Vec Ideal S65536x1024 .f32) (a b : Vec Ideal S8x8192x512 .bf16) (w : Vec Ideal S1024x1024 .f32) (g : Vec Ideal S1024 .f32)
    (wg wu : Vec Ideal S1024x2816 .f32) (wd : Vec Ideal S2816x1024 .f32) (p : Vec Ideal S2x8x8192x256 .f32) (g' : Vec Ideal S1024 .f32)
    (wgate : Vec Ideal S1024x1024 .f32) (wproj : Vec Ideal S256x1024 .f32) : Vec Ideal S65536x1024 .f32 :=
  fun j => blended (halfStep (joined (fun l => h (ix2 (j 0) l))
        (fun l => a (ix3 (⟨(j 0).val / 8192, Nat.div_lt_of_lt_mul (j 0).isLt⟩ : Fin 8)
          (⟨(j 0).val % 8192, Nat.mod_lt _ (by norm_num)⟩ : Fin 8192) l))
        (fun l => b (ix3 (⟨(j 0).val / 8192, Nat.div_lt_of_lt_mul (j 0).isLt⟩ : Fin 8)
          (⟨(j 0).val % 8192, Nat.mod_lt _ (by norm_num)⟩ : Fin 8192) l))
        (fun l k => w (ix2 (⟨l.val, by omega⟩ : Fin 1024) k)) (fun l k => w (ix2 (⟨512 + l.val, by omega⟩ : Fin 1024) k)))
        (fun l => g (ix1 l)) (fun l j => wg (ix2 l j)) (fun l j => wu (ix2 l j)) (fun j l => wd (ix2 j l)))
      (fun l => g' (ix1 l)) (fun l j => wgate (ix2 l j))
      (fun l => p (ix4 (0 : Fin 2) (⟨(j 0).val / 8192, Nat.div_lt_of_lt_mul (j 0).isLt⟩ : Fin 8)
        (⟨(j 0).val % 8192, Nat.mod_lt _ (by norm_num)⟩ : Fin 8192) l))
      (fun l j => wproj (ix2 l j)) (j 1)

/-- Row `r` of block `t` among all the rows, and that row's sequence and place in it. -/
abbrev row (t : Fin cfg0.N) (r : Fin 512) : Fin 65536 :=
  ⟨512 * t.val + r.val, by have := (show t.val < 128 from t.isLt); omega⟩
abbrev seq (R : Fin 65536) : Fin 8 := ⟨R.val / 8192, by omega⟩
abbrev place (R : Fin 65536) : Fin 8192 := ⟨R.val % 8192, by omega⟩

section Reads

variable (c : Dev nD) (t : Fin cfg0.N)

theorem read0 (r : Fin 512) (l : Fin 1024) : iblk m c 0 t (ix2 r l) = m ((c : Thread nD τ).loc main_arg0) (ix2 (row t r) l) := by
  blk_point [iblk, V, idx t]
theorem read1 (r : Fin 512) (l : Fin 512) :
    iblk m c 1 t (ix2 r l) = m ((c : Thread nD τ).loc main_arg1) (ix3 (seq (row t r)) (place (row t r)) l) := by
  blk_point [iblk, V, idx t]
theorem read2 (r : Fin 512) (l : Fin 512) :
    iblk m c 2 t (ix2 r l) = m ((c : Thread nD τ).loc main_arg2) (ix3 (seq (row t r)) (place (row t r)) l) := by
  blk_point [iblk, V, idx t]
theorem read3 (r : Fin 512) (l : Fin 1024) :
    iblk m c 3 t (ix2 r l) = m ((c : Thread nD τ).loc main_arg3) (ix2 (⟨r.val, by omega⟩ : Fin 1024) l) := by
  blk_point [iblk, V, idx t]
theorem read4 (r : Fin 512) (l : Fin 1024) :
    iblk m c 4 t (ix2 r l) = m ((c : Thread nD τ).loc main_arg3) (ix2 (⟨512 + r.val, by omega⟩ : Fin 1024) l) := by
  blk_point [iblk, V, idx t]
theorem read5 (l : Fin 1024) : iblk m c 5 t (ix2 0 l) = m ((c : Thread nD τ).loc main_arg4) (ix1 l) := by
  blk_point [iblk, V, idx t]
theorem read6 (r : Fin 1024) (l : Fin 2816) : iblk m c 6 t (ix2 r l) = m ((c : Thread nD τ).loc main_arg5) (ix2 r l) := by
  blk_point [iblk, V, idx t]
theorem read7 (r : Fin 1024) (l : Fin 2816) : iblk m c 7 t (ix2 r l) = m ((c : Thread nD τ).loc main_arg6) (ix2 r l) := by
  blk_point [iblk, V, idx t]
theorem read8 (r : Fin 2816) (l : Fin 1024) : iblk m c 8 t (ix2 r l) = m ((c : Thread nD τ).loc main_arg7) (ix2 r l) := by
  blk_point [iblk, V, idx t]
theorem read9 (r : Fin 512) (l : Fin 256) :
    iblk m c 9 t (ix3 0 r l) = m ((c : Thread nD τ).loc main_arg8) (ix4 0 (seq (row t r)) (place (row t r)) l) := by
  blk_point [iblk, V, idx t]
theorem read10 (l : Fin 1024) : iblk m c 10 t (ix2 0 l) = m ((c : Thread nD τ).loc main_arg9) (ix1 l) := by
  blk_point [iblk, V, idx t]
theorem read11 (r : Fin 1024) (l : Fin 1024) : iblk m c 11 t (ix2 r l) = m ((c : Thread nD τ).loc main_arg10) (ix2 r l) := by
  blk_point [iblk, V, idx t]
theorem read12 (r : Fin 256) (l : Fin 1024) : iblk m c 12 t (ix2 r l) = m ((c : Thread nD τ).loc main_arg11) (ix2 r l) := by
  blk_point [iblk, V, idx t]

/-- A block's result, at a row, from the arguments. -/
theorem point (r : Fin 512) (k : Fin 1024) :
    out0_13 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r k)
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (ix2 (row t r) k) := by
  rw [out_apply]
  simp only [read0, read1, read2, read3, read4, read5, read6, read7, read8, read9, read10, read11, read12]
  rfl

end Reads

/-- The result array is that of the arguments. -/
theorem final (c : Dev nD) : (dats m 0 c).arrAt 13 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 13 _ (by decide +kernel) fun t hf y => ?_
  blk_simp
  rw [after0_13]
  idx_vars y
  refine (point m c t _ _).trans ?_
  blk_ext [idx t]

end Cert.Proof.Mix

namespace Cert.Proof.Mix

open Cert.MixReferenceIdeal Cert.MixReferenceIdeal.Gen in
/-- The reference's input with the heads added, at a row: the 1024 columns of the two heads side by side, cut between them. -/
theorem host_joined_apply (h : FVec Ideal S65536x1024 .f32) (a b : FVec Ideal S8x8192x512 .bf16) (w : FVec Ideal S1024x1024 .f32)
    (r : Fin 65536) (k : Fin 1024) :
    addf h (Host.dotGeneral dot_S65536x1024_S1024x1024_S65536x1024_1_0_0_1_n_n none
        (shapeCast _ (concatenate S8x8192x1024 2 [⟨S8x8192x512, (extf .f32 a bitsLt_bf16_f32)⟩,
          ⟨S8x8192x512, (extf .f32 b bitsLt_bf16_f32)⟩] concatenates_S8x8192x512_S8x8192x512_S8x8192x1024_d2)
          shapeCasts_S8x8192x1024_S65536x1024) w) (ix2 r k)
      = joined (fun l => h (ix2 r l))
        (fun l => a (ix3 (⟨r.val / 8192, by omega⟩ : Fin 8) (⟨r.val % 8192, Nat.mod_lt _ (by norm_num)⟩ : Fin 8192) l))
        (fun l => b (ix3 (⟨r.val / 8192, by omega⟩ : Fin 8) (⟨r.val % 8192, Nat.mod_lt _ (by norm_num)⟩ : Fin 8192) l))
        (fun l k => w (ix2 (⟨l.val, by omega⟩ : Fin 1024) k)) (fun l k => w (ix2 (⟨512 + l.val, by omega⟩ : Fin 1024) k)) k := by
  unfold joined
  rw [add_assoc]
  pointwise []

open Cert.MixReferenceIdeal Cert.MixReferenceIdeal.Gen in
/-- The reference's result, layer by layer: it is that of the arguments. -/
theorem reference (h : FVec Ideal S65536x1024 .f32) (a b : FVec Ideal S8x8192x512 .bf16) (w : FVec Ideal S1024x1024 .f32)
    (g : FVec Ideal S1024 .f32) (wg wu : FVec Ideal S1024x2816 .f32)
    (wd : FVec Ideal S2816x1024 .f32) (p : FVec Ideal S2x8x8192x256 .f32) (g' : FVec Ideal S1024 .f32)
    (wgate : FVec Ideal S1024x1024 .f32) (wproj : FVec Ideal S256x1024 .f32) :
    Host.blend (Host.half (addf h (Host.dotGeneral dot_S65536x1024_S1024x1024_S65536x1024_1_0_0_1_n_n none
          (shapeCast _ (concatenate S8x8192x1024 2 [⟨S8x8192x512, (extf .f32 a bitsLt_bf16_f32)⟩,
            ⟨S8x8192x512, (extf .f32 b bitsLt_bf16_f32)⟩] concatenates_S8x8192x512_S8x8192x512_S8x8192x1024_d2)
            shapeCasts_S8x8192x1024_S65536x1024) w)) g wg wu wd) g' wgate
        (shapeCast _ (shapeCast _ (extractStridedSlice S1x8x8192x256 ![0, 0, 0, 0] p slices_S2x8x8192x256_S1x8x8192x256_0_0_0_0)
          shapeCasts_S1x8x8192x256_S8x8192x256) shapeCasts_S8x8192x256_S65536x256) wproj
      = G h a b w g wg wu wd p g' wgate wproj := by
  funext j
  idx_vars j
  rw [Host.blend_apply]
  simp only [Host.half_apply, host_joined_apply]
  pointwise [G]

open Cert.MixReferenceIdeal in
/-- The reference's run leaves that result. -/
theorem reference_run (m' : (ℓ : Loc nD τ sig) → Buf (Elt Ideal) ℓ) (c : Dev nD) :
    Cert.MixReferenceIdeal.Value.res_main_v52 m' c
      = G (m' (c.tc.loc main_arg0)) (m' (c.tc.loc main_arg1)) (m' (c.tc.loc main_arg2)) (m' (c.tc.loc main_arg3))
          (m' (c.tc.loc main_arg4)) (m' (c.tc.loc main_arg5)) (m' (c.tc.loc main_arg6)) (m' (c.tc.loc main_arg7))
          (m' (c.tc.loc main_arg8)) (m' (c.tc.loc main_arg9)) (m' (c.tc.loc main_arg10)) (m' (c.tc.loc main_arg11)) := by
  unfold Cert.MixReferenceIdeal.Value.res_main_v52
  exact reference _ _ _ _ _ _ _ _ _ _ _ _

/-- At the reals the kernel's array and the reference's agree. -/
theorem algebraic : Cert.algebraic_MixKernelIdeal_MixReferenceIdeal := by
  pair_intro
  · run_from Cert.MixKernelIdeal.Value.run_blocks m g
  · run_from Cert.MixReferenceIdeal.Value.run m' g'
    obtain ⟨h0, h1, h2, h3, h4, h5, h6, h7, h8, h9, h10, h11⟩ := hagree c
    rw [reference_run, h0, h1, h2, h3, h4, h5, h6, h7, h8, h9, h10, h11]
    exact (final m c).symm

end Cert.Proof.Mix

end
-- ==== Proof.PleValue.lean ====
/- The feed-forward half step with an embedding blended in after it computes what its reference says: every row of a block
   is that of its own row and its own token's embedding, the blocks tile the result, and so is the reference's result. -/
module

public import proofs.«01_k».proof.Defs
public import proofs.«01_k».proof.Proof.HostParts
public import proofs.«01_k».proof.Proof.Gen.PleKernelIdeal.Value
public import proofs.«01_k».proof.Proof.Gen.PleReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Ple

open Cert.PleKernelIdeal Cert.PleKernelIdeal.Gen Cert.PleKernelIdeal.Value

/-- The kernel's norm of a block, at a row. -/
theorem norm_apply (x : Vec Ideal S512x1024 .f32) (g : Vec Ideal S1x1024 .f32) (r : Fin 512) (k : Fin 1024) :
    k0_pay2 (F := Ideal) (View.ld x r0_0) (View.ld g r0_1) (ix2 r k) = rmsRow (fun l => x (ix2 r l)) (fun l => g (ix2 0 l)) k := by
  pointwise [k0_pay2, rmsRow]

variable (x : Vec Ideal S512x1024 .f32) (g : Vec Ideal S1x1024 .f32) (wg wu : Vec Ideal S1024x2816 .bf16)
  (wd : Vec Ideal S2816x1024 .bf16) (p : Vec Ideal S1x512x256 .f32) (g' : Vec Ideal S1x1024 .f32)
  (wgate : Vec Ideal S1024x1024 .bf16) (wproj : Vec Ideal S256x1024 .bf16) (r : Fin 512) (k : Fin 1024)

/-- A block after the half step, at a row. -/
theorem half_apply :
    k0_pay11 (F := Ideal) (View.ld x r0_0) (k0_pay14 x g wg wu wd p g' wgate wproj) (k0_pay15 x g wg wu wd p g' wgate wproj)
        (k0_pay16 x g wg wu wd p g' wgate wproj) (View.ld wu r0_20) (View.ld wd r0_21) (View.ld wg r0_22) (View.ld wu r0_22)
        (View.ld wd r0_23) (ix2 r k)
      = halfStep (fun l => x (ix2 r l)) (fun l => g (ix2 0 l)) (fun l j => wg (ix2 l j)) (fun l j => wu (ix2 l j))
          (fun j l => wd (ix2 j l)) k := by
  unfold halfStep
  rw [sum_runs]
  pointwise [k0_pay3, k0_pay4, k0_pay5, k0_pay6, k0_pay7, k0_pay8, k0_pay9, k0_pay10, k0_pay11, k0_pay14, k0_pay15, k0_pay16]
  simp only [norm_apply, gated]

/-- A block's result, at a row: the embedding of that row's token blended into the half step of that row. -/
theorem out_apply :
    out0_9 (F := Ideal) x g wg wu wd p g' wgate wproj (ix2 r k)
      = blended (halfStep (fun l => x (ix2 r l)) (fun l => g (ix2 0 l)) (fun l j => wg (ix2 l j)) (fun l j => wu (ix2 l j))
            (fun j l => wd (ix2 j l)))
          (fun l => g' (ix2 0 l)) (fun l j => wgate (ix2 l j)) (fun l => p (ix3 0 r l)) (fun l j => wproj (ix2 l j)) k := by
  unfold out0_9
  rw [View.canon_unit_zero (by funext a; fin_cases a <;> rfl)]
  pointwise [k0_pay1, k0_pay12, k0_pay13]
  simp only [half_apply, blended, rmsRow]

variable (m : (ℓ : Loc nD τ sig) → Buf (Elt Ideal) ℓ) (ρ : Dev nD → PrngReg)

/-- The block index of each window at each point: the row block for the input, the embeddings (of layer 1) and the result, the
    whole array for the rest. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![1, t.val, 0] ∧ win0_6.index t = ![0, 0]
    ∧ win0_7.index t = ![0, 0] ∧ win0_8.index t = ![0, 0] ∧ win0_9.index t = ![t.val, 0] :=
  (by decide +kernel : ∀ t : Fin grid0.N, _)

/-- Every row's half step with its token's embedding blended in; row `r` is token `r % 8192` of sequence `r / 8192`. -/
def G (h : Vec Ideal S65536x1024 .f32) (g : Vec Ideal S1024 .f32) (wg wu : Vec Ideal S1024x2816 .f32)
    (wd : Vec Ideal S2816x1024 .f32) (p : Vec Ideal S2x8x8192x256 .f32) (g' : Vec Ideal S1024 .f32)
    (wgate : Vec Ideal S1024x1024 .f32) (wproj : Vec Ideal S256x1024 .f32) : Vec Ideal S65536x1024 .f32 :=
  fun j => blended (halfStep (fun l => h (ix2 (j 0) l)) (fun l => g (ix1 l)) (fun l j => wg (ix2 l j)) (fun l j => wu (ix2 l j))
        (fun j l => wd (ix2 j l)))
      (fun l => g' (ix1 l)) (fun l j => wgate (ix2 l j))
      (fun l => p (ix4 (1 : Fin 2) (⟨(j 0).val / 8192, Nat.div_lt_of_lt_mul (j 0).isLt⟩ : Fin 8)
        (⟨(j 0).val % 8192, Nat.mod_lt _ (by norm_num)⟩ : Fin 8192) l))
      (fun l j => wproj (ix2 l j)) (j 1)

/-- The result array is that of the arguments. -/
theorem final (c : Dev nD) : (dats m 0 c).arrAt 9 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  idx_vars y
  rw [out_apply]
  unfold G
  blk_point [iblk, V, idx t]

end Cert.Proof.Ple

namespace Cert.Proof.Ple

open Cert.PleReferenceIdeal Cert.PleReferenceIdeal.Gen in
/-- The reference's result, layer by layer: it is that of the arguments. -/
theorem reference (h : FVec Ideal S65536x1024 .f32) (g : FVec Ideal S1024 .f32) (wg wu : FVec Ideal S1024x2816 .f32)
    (wd : FVec Ideal S2816x1024 .f32) (p : FVec Ideal S2x8x8192x256 .f32) (g' : FVec Ideal S1024 .f32)
    (wgate : FVec Ideal S1024x1024 .f32) (wproj : FVec Ideal S256x1024 .f32) :
    Host.blend (Host.half h g wg wu wd) g' wgate
        (shapeCast _ (shapeCast _ (extractStridedSlice S1x8x8192x256 ![1, 0, 0, 0] p slices_S2x8x8192x256_S1x8x8192x256_1_0_0_0)
          shapeCasts_S1x8x8192x256_S8x8192x256) shapeCasts_S8x8192x256_S65536x256) wproj
      = G h g wg wu wd p g' wgate wproj := by
  funext j
  idx_vars j
  rw [Host.blend_apply]
  simp only [Host.half_apply]
  pointwise [G]

open Cert.PleReferenceIdeal in
/-- The reference's run leaves that result. -/
theorem reference_run (m' : (ℓ : Loc nD τ sig) → Buf (Elt Ideal) ℓ) (c : Dev nD) :
    Cert.PleReferenceIdeal.Value.res_main_v46 m' c
      = G (m' (c.tc.loc main_arg0)) (m' (c.tc.loc main_arg1)) (m' (c.tc.loc main_arg2)) (m' (c.tc.loc main_arg3))
          (m' (c.tc.loc main_arg4)) (m' (c.tc.loc main_arg5)) (m' (c.tc.loc main_arg6)) (m' (c.tc.loc main_arg7))
          (m' (c.tc.loc main_arg8)) := by
  unfold Cert.PleReferenceIdeal.Value.res_main_v46
  exact reference _ _ _ _ _ _ _ _ _

/-- At the reals the kernel's array and the reference's agree. -/
theorem algebraic : Cert.algebraic_PleKernelIdeal_PleReferenceIdeal := by
  pair_intro
  · run_from Cert.PleKernelIdeal.Value.run_blocks m g
  · run_from Cert.PleReferenceIdeal.Value.run m' g'
    obtain ⟨h0, h1, h2, h3, h4, h5, h6, h7, h8⟩ := hagree c
    rw [reference_run, h0, h1, h2, h3, h4, h5, h6, h7, h8]
    exact (final m c).symm

end Cert.Proof.Ple

end
-- ==== Proof.OddRow.lean ====
/- The mathematics of the odd layer's mixer, on one row: the in-projection of the row's norm, a gate over blocks of 128 rows
   in one half of it, a causal convolution of 31 taps in the other, and the two halves projected and added back. -/
module

public import proofs.«01_k».proof.Proof.HalfStep

@[expose] public section

noncomputable section

namespace Cert.Proof.Odd

open Idealize.ShloMosaic
open scoped BigOperators

/-- Column `j` of the projection of the row's norm. -/
def projected (x g : Fin 1024 → EReal) (w : Fin 1024 → Fin 1024 → EReal) (j : Fin 1024) : EReal :=
  ∑ l, rmsRow x g l * w l j

/-- The smooth unit `z ↦ z · ½ (1 + tanh (c (z + a z³)))`. -/
def smooth (z : EReal) : EReal :=
  z * (Ideal.ofBits FTy.f32 0x3F000000#32 * (Ideal.ofBits FTy.f32 0x3F800000#32
    + Ideal.tanh (Ideal.ofBits FTy.f32 0x3F4C422A#32 * (z + Ideal.ofBits FTy.f32 0x3D372713#32 * (z * (z * z))))))

/-- The mean of 512 entries. -/
def mean (x : Fin 512 → EReal) : EReal := Ideal.div (∑ l, x l) (Ideal.ofBits FTy.f32 0x44000000#32)

/-- A row of 512 entries with its mean taken off, divided by its deviation, scaled and shifted. -/
def layerRow (x g b : Fin 512 → EReal) (k : Fin 512) : EReal :=
  (x k - mean x) * Ideal.rsqrt (mean (fun l => (x l - mean x) * (x l - mean x)) + Ideal.ofBits FTy.f32 0x358637BD#32) * g k + b k

/-- The row's first half of the first projection. -/
def carrier (x g : Fin 1024 → EReal) (w : Fin 1024 → Fin 1024 → EReal) (k : Fin 512) : EReal :=
  smooth (projected x g w ⟨k.val, by omega⟩)

/-- The row's second half of the first projection, normed. -/
def gateRow (x g : Fin 1024 → EReal) (w : Fin 1024 → Fin 1024 → EReal) (lg lb : Fin 512 → EReal) (k : Fin 512) : EReal :=
  layerRow (fun l => smooth (projected x g w ⟨512 + l.val, by omega⟩)) lg lb k

/-- The row's second projection: its first half through the logistic of its second. -/
def stream (x g : Fin 1024 → EReal) (w : Fin 1024 → Fin 1024 → EReal) (k : Fin 512) : EReal :=
  projected x g w ⟨k.val, by omega⟩ * Ideal.logistic (projected x g w ⟨512 + k.val, by omega⟩)

/-- The gate at row `i` of a block of 128: the block's rows up to the end of row `i`'s 64, weighted, and a bias. -/
def gate (w : Fin 128 → EReal) (v : Fin 128 → EReal) (b : EReal) (i : Fin 128) : EReal :=
  (∑ j, (if j.val / 64 ≤ i.val / 64 then w j else 0) * v j) + b

/-- The convolution's 31 taps, weighted, and a bias. -/
def taps (past w : Fin 31 → EReal) (b : EReal) : EReal := (∑ k, past k * w k) + b

/-- The convolution's row, normed, through `z · σ(z)`. -/
def settled (y g b : Fin 512 → EReal) (k : Fin 512) : EReal := layerRow y g b k * Ideal.logistic (layerRow y g b k)

/-- The taps added from the first to the last, to zero. -/
theorem sum_taps (f : Fin 31 → EReal) :
    0 + f 0 + f 1 + f 2 + f 3 + f 4 + f 5 + f 6 + f 7 + f 8 + f 9 + f 10 + f 11 + f 12 + f 13 + f 14 + f 15 + f 16 + f 17 + f 18
        + f 19 + f 20 + f 21 + f 22 + f 23 + f 24 + f 25 + f 26 + f 27 + f 28 + f 29 + f 30 = ∑ k, f k := by
  rw [zero_add]
  iterate 23 rw [Fin.sum_univ_castSucc]
  rw [Fin.sum_univ_eight]
  rfl

/-- A sum over the 31 taps in the order of the taps' places modulo 8: those at 2 + k = 0, then 1, …, then 7. -/
theorem sum_groups (f : Fin 31 → EReal) (b : EReal) :
    (0 + b) + (f 6 + f 14 + f 22 + f 30) + (f 7 + f 15 + f 23) + (f 0 + f 8 + f 16 + f 24) + (f 1 + f 9 + f 17 + f 25)
        + (f 2 + f 10 + f 18 + f 26) + (f 3 + f 11 + f 19 + f 27) + (f 4 + f 12 + f 20 + f 28) + (f 5 + f 13 + f 21 + f 29)
      = (∑ k, f k) + b := by
  rw [← sum_taps]
  abel

end Cert.Proof.Odd

end
-- ==== Proof.OddTile.lean ====
/- What the mixer's kernel computes on one tile of 512 rows, payload by payload, read at a row. -/
module

public import proofs.«01_k».proof.Proof.OddRow
public import proofs.«01_k».proof.Proof.Gen.OddKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Proof.Odd

open Cert.OddKernelIdeal Cert.OddKernelIdeal.Gen

variable (x : Vec Ideal S512x1024 .f32) (g : Vec Ideal S1x1024 .f32) (wc wd : Vec Ideal S1024x1024 .bf16)
  (lg lb : Vec Ideal S1x512 .f32) (r : Fin 512)

/-- The tile's norm, at a row. -/
theorem norm_apply (k : Fin 1024) :
    k0_pay1 (F := Ideal) x g (ix2 r k) = rmsRow (fun l => x (ix2 r l)) (fun l => g (ix2 0 l)) k := by
  pointwise [k0_pay1, rmsRow]

/-- The first projection through the smooth unit, at a row. -/
theorem smooth_apply (k : Fin 1024) :
    k0_pay2 (F := Ideal) x g wc (ix2 r k)
      = smooth (projected (fun l => x (ix2 r l)) (fun l => g (ix2 0 l)) (fun l j => wc (ix2 l j)) k) := by
  pointwise [k0_pay2, norm_apply, smooth, projected]

/-- Its first half. -/
theorem carrier_apply (k : Fin 512) :
    k0_pay3 (F := Ideal) x g wc (ix2 r k)
      = carrier (fun l => x (ix2 r l)) (fun l => g (ix2 0 l)) (fun l j => wc (ix2 l j)) k := by
  pointwise [k0_pay3, smooth_apply, carrier]

/-- Its second half, normed. -/
theorem gateRow_apply (k : Fin 512) :
    k0_pay8 (F := Ideal) (k0_pay4 x g wc) (k0_pay5 lg) (k0_pay6 lb) (k0_pay7 x g wc) (ix2 r k)
      = gateRow (fun l => x (ix2 r l)) (fun l => g (ix2 0 l)) (fun l j => wc (ix2 l j)) (fun l => lg (ix2 0 l))
          (fun l => lb (ix2 0 l)) k := by
  pointwise [k0_pay8, k0_pay4, k0_pay5, k0_pay6, k0_pay7, smooth_apply, gateRow, layerRow, mean]

/-- The second projection, gated. -/
theorem stream_apply (k : Fin 512) :
    k0_pay35 (F := Ideal) (k0_pay1 x g) wd (ix2 r k)
      = stream (fun l => x (ix2 r l)) (fun l => g (ix2 0 l)) (fun l j => wd (ix2 l j)) k := by
  pointwise [k0_pay35, norm_apply, stream, projected]

/-- Where the mask lets row `i` see row `j`. -/
theorem mask_apply (i j : Fin 128) : k0_pay9 (ix2 i j) = if j.val / 64 ≤ i.val / 64 then 1#1 else 0#1 := by
  revert i j
  decide +kernel

theorem masked_apply (w : Vec Ideal S1x128x128 .bf16) (i j : Fin 128) :
    k0_pay13 (F := Ideal) k0_pay9 w (ix2 i j) = if j.val / 64 ≤ i.val / 64 then (w (ix3 0 i j) : EReal) else 0 := by
  pointwise [k0_pay13, mask_apply]
  split_ifs <;> rfl

variable (c0 : FVec Ideal S512x512 .bf16) (y : FVec Ideal S512x512 .f32) (wo wo' : Vec Ideal S512x1024 .bf16)

/-- The tile's result, at a row, from the gated half and the convolution. -/
theorem result_apply (k : Fin 1024) :
    k0_pay48 (F := Ideal) x c0 y lg lb wo wo' (ix2 r k)
      = joined (fun l => x (ix2 r l)) (fun l => c0 (ix2 r l))
          (settled (fun l => y (ix2 r l)) (fun l => lg (ix2 0 l)) (fun l => lb (ix2 0 l)))
          (fun l j => wo (ix2 l j)) (fun l j => wo' (ix2 l j)) k := by
  pointwise [k0_pay48, joined, settled, layerRow, mean]

end Cert.Proof.Odd

end
-- ==== Proof.OddGate.lean ====
/- The mixer's gate on one tile: 4 blocks of 128 rows by 4 slabs of 128 columns, each slab from two of the eight weights, read at a
   row and a column as the one sum it is. -/
module

public import proofs.«01_k».proof.Proof.OddTile

@[expose] public section

set_option maxRecDepth 16384

noncomputable section

open Idealize.ShloMosaic Idealize.ShloMosaic.TcCoe

namespace Cert.Proof.Odd

open Cert.OddKernelIdeal Cert.OddKernelIdeal.Gen

variable (u : FVec Ideal S512x512 .f32) (v : FVec Ideal S512x512 .bf16) (w : Fin 8 → Vec Ideal S1x128x128 .bf16)
  (b : Vec Ideal S128x512 .f32)

/-- A weight with what its mask hides set to zero. -/
abbrev masked (n : Fin 8) : FVec Ideal S128x128 .bf16 := k0_pay13 k0_pay9 (w n)

/-- The column within a slab. -/
abbrev lane : IVec S128x128 32 := iota .tc S128x128 32 [1] iota_S128x128_d1_w32

/-- The tile's gated half: the carrier times the gate. -/
def gatedHalf : FVec Ideal S512x512 .bf16 :=
  k0_pay33 u v (masked w 6) (masked w 7) lane b
    (k0_pay22 v (masked w 4) (masked w 5) (masked w 6) (masked w 7) lane b (k0_pay19 v (masked w 0) (masked w 1))
      (k0_pay20 v k0_pay9 (masked w 2) (w 3)) (k0_pay21 v))
    (k0_pay23 v (masked w 0) (masked w 1) (masked w 2) (masked w 3) (masked w 4) (masked w 5) (masked w 6) (masked w 7) lane
      b)
    (k0_pay26 v (masked w 1) (masked w 2) (masked w 3) (masked w 4) (masked w 5) (masked w 6) (masked w 7) lane b
      (k0_pay24 v) (k0_pay25 v (masked w 0)))
    (k0_pay27 v (masked w 0) (masked w 1) lane) (k0_pay28 v (masked w 2) (masked w 3) lane) (k0_pay30 v (masked w 4))
    (k0_pay31 v (masked w 5)) k0_pay32

theorem lane_apply (x y : FVec Ideal S128x128 .f32) (i e : Fin 128) :
    select (cmpi .slt lane (broadcast S128x128 64#32)) x y (ix2 i e) = if e.val < 64 then x (ix2 i e) else y (ix2 i e) := by
  have h : cmpi .slt lane (broadcast S128x128 64#32) (ix2 i e) = if e.val < 64 then 1#1 else 0#1 := by
    revert i e
    decide +kernel
  show Scalar.select (cmpi .slt lane (broadcast S128x128 64#32) (ix2 i e)) (x (ix2 i e)) (y (ix2 i e)) = _
  rw [h]
  split_ifs <;> rfl

/-- A row of four slabs, each from two weights, is the gate with the weight of the column's 64. -/
theorem slabs (W : Fin 8 → Fin 128 → EReal) (V : Fin 128 → Fin 512 → EReal) (B : EReal) (i : Fin 128) (k : Fin 512) :
    (if h : k.val < 128 then
        if k.val < 64 then ∑ x : Fin 128, (if x.val / 64 ≤ i.val / 64 then W 0 x else 0) * V x k
        else ∑ x : Fin 128, (if x.val / 64 ≤ i.val / 64 then W 1 x else 0) * V x k
      else if h : k.val - 128 < 128 then
        if k.val - 128 < 64 then ∑ x : Fin 128, (if x.val / 64 ≤ i.val / 64 then W 2 x else 0) * V x ⟨128 + (k.val - 128), by omega⟩
        else ∑ x : Fin 128, (if x.val / 64 ≤ i.val / 64 then W 3 x else 0) * V x ⟨128 + (k.val - 128), by omega⟩
      else if h : k.val - 128 - 128 < 128 then
        if k.val - 128 - 128 < 64 then
          ∑ x : Fin 128, (if x.val / 64 ≤ i.val / 64 then W 4 x else 0) * V x ⟨256 + (k.val - 128 - 128), by omega⟩
        else ∑ x : Fin 128, (if x.val / 64 ≤ i.val / 64 then W 5 x else 0) * V x ⟨256 + (k.val - 128 - 128), by omega⟩
      else
        if k.val - 128 - 128 - 128 < 64 then
          ∑ x : Fin 128, (if x.val / 64 ≤ i.val / 64 then W 6 x else 0) * V x ⟨384 + (k.val - 128 - 128 - 128), by omega⟩
        else ∑ x : Fin 128, (if x.val / 64 ≤ i.val / 64 then W 7 x else 0) * V x ⟨384 + (k.val - 128 - 128 - 128), by omega⟩) + B
      = gate (W ⟨k.val / 64, by omega⟩) (fun x => V x k) B i := by
  have e : ∀ (n : Fin 8) (k' : Fin 512), k.val / 64 = n.val → k'.val = k.val →
      (∑ x : Fin 128, (if x.val / 64 ≤ i.val / 64 then W n x else 0) * V x k') + B
        = gate (W ⟨k.val / 64, by omega⟩) (fun x => V x k) B i := by
    intro n k' hn hk
    obtain rfl : k' = k := Fin.ext hk
    have hn' : n = ⟨k'.val / 64, by omega⟩ := Fin.ext hn.symm
    rw [← hn']
    rfl
  have hk := k.isLt
  split_ifs
  · exact e 0 k (by show k.val / 64 = 0; omega) rfl
  · exact e 1 k (by show k.val / 64 = 1; omega) rfl
  · exact e 2 ⟨_, _⟩ (by show k.val / 64 = 2; omega) (by show 128 + (k.val - 128) = k.val; omega)
  · exact e 3 ⟨_, _⟩ (by show k.val / 64 = 3; omega) (by show 128 + (k.val - 128) = k.val; omega)
  · exact e 4 ⟨_, _⟩ (by show k.val / 64 = 4; omega) (by show 256 + (k.val - 128 - 128) = k.val; omega)
  · exact e 5 ⟨_, _⟩ (by show k.val / 64 = 5; omega) (by show 256 + (k.val - 128 - 128) = k.val; omega)
  · exact e 6 ⟨_, _⟩ (by show k.val / 64 = 6; omega) (by show 384 + (k.val - 128 - 128 - 128) = k.val; omega)
  · exact e 7 ⟨_, _⟩ (by show k.val / 64 = 7; omega) (by show 384 + (k.val - 128 - 128 - 128) = k.val; omega)

variable (i : Fin 128) (k : Fin 512)

/-- The gate at row `i` of block `q` and column `k`. -/
def gateAt (q : Fin 4) : EReal :=
  gate (fun j => w ⟨k.val / 64, by omega⟩ (ix3 0 i j)) (fun j => v (ix2 (⟨128 * q.val + j.val, by omega⟩ : Fin 512) k)) (b (ix2 i k)) i

/-- The first 64 columns of a slab, as a word comparison on the column. -/
theorem lane_word (e : Fin 128) (x y : EReal) :
    Scalar.select (IntOp.cmpi .slt (BitVec.ofNat 32 e.val) 64#32) x y = if e.val < 64 then x else y := by
  have h : ∀ e : Fin 128, IntOp.cmpi .slt (BitVec.ofNat 32 e.val) 64#32 = if e.val < 64 then 1#1 else 0#1 := by decide +kernel
  rw [h]
  split_ifs <;> rfl

theorem slab0_apply (e : Fin 128) :
    k0_pay19 v (masked w 0) (masked w 1) (ix2 i e)
      = if e.val < 64 then ∑ x : Fin 128, (if x.val / 64 ≤ i.val / 64 then w 0 (ix3 0 i x) else 0) * v (ix2 (⟨x.val, by omega⟩ : Fin 512) (⟨e.val, by omega⟩ : Fin 512))
        else ∑ x : Fin 128, (if x.val / 64 ≤ i.val / 64 then w 1 (ix3 0 i x) else 0) * v (ix2 (⟨x.val, by omega⟩ : Fin 512) (⟨e.val, by omega⟩ : Fin 512)) := by
  refine Eq.trans ?_ (lane_word e _ _)
  pointwise [k0_pay19, masked_apply]

theorem slab1_apply (e : Fin 128) :
    k0_pay20 v k0_pay9 (masked w 2) (w 3) (ix2 i e)
      = if e.val < 64 then ∑ x : Fin 128, (if x.val / 64 ≤ i.val / 64 then w 2 (ix3 0 i x) else 0) * v (ix2 (⟨x.val, by omega⟩ : Fin 512) (⟨128 + e.val, by omega⟩ : Fin 512))
        else ∑ x : Fin 128, (if x.val / 64 ≤ i.val / 64 then w 3 (ix3 0 i x) else 0) * v (ix2 (⟨x.val, by omega⟩ : Fin 512) (⟨128 + e.val, by omega⟩ : Fin 512)) := by
  refine Eq.trans ?_ (lane_word e _ _)
  pointwise [k0_pay20, masked_apply]

theorem block0_apply :
    k0_pay22 v (masked w 4) (masked w 5) (masked w 6) (masked w 7) lane b (k0_pay19 v (masked w 0) (masked w 1))
      (k0_pay20 v k0_pay9 (masked w 2) (w 3)) (k0_pay21 v) (ix2 i k) = gateAt v w b i k 0 := by
  refine Eq.trans ?_ (slabs (fun n x => w n (ix3 0 i x)) (fun x k => v (ix2 (⟨128 * 0 + x.val, by omega⟩ : Fin 512) k)) _ i k)
  pointwise [k0_pay22, slab0_apply, slab1_apply, k0_pay21, lane_apply, masked_apply]

theorem block1_apply :
    k0_pay23 v (masked w 0) (masked w 1) (masked w 2) (masked w 3) (masked w 4) (masked w 5) (masked w 6) (masked w 7) lane
      b (ix2 i k) = gateAt v w b i k 1 := by
  refine Eq.trans ?_ (slabs (fun n x => w n (ix3 0 i x)) (fun x k => v (ix2 (⟨128 * 1 + x.val, by omega⟩ : Fin 512) k)) _ i k)
  pointwise [k0_pay23, lane_apply, masked_apply]

theorem block2_apply :
    k0_pay26 v (masked w 1) (masked w 2) (masked w 3) (masked w 4) (masked w 5) (masked w 6) (masked w 7) lane b
      (k0_pay24 v) (k0_pay25 v (masked w 0)) (ix2 i k) = gateAt v w b i k 2 := by
  refine Eq.trans ?_ (slabs (fun n x => w n (ix3 0 i x)) (fun x k => v (ix2 (⟨128 * 2 + x.val, by omega⟩ : Fin 512) k)) _ i k)
  pointwise [k0_pay26, k0_pay24, k0_pay25, lane_apply, masked_apply]

theorem block3 :
    (if h : k.val < 128 then
        if k.val < 64 then ∑ x : Fin 128, (if x.val / 64 ≤ i.val / 64 then w 0 (ix3 0 i x) else 0) * v (ix2 (⟨384 + x.val, by omega⟩ : Fin 512) k)
        else ∑ x : Fin 128, (if x.val / 64 ≤ i.val / 64 then w 1 (ix3 0 i x) else 0) * v (ix2 (⟨384 + x.val, by omega⟩ : Fin 512) k)
      else if h : k.val - 128 < 128 then
        if k.val - 128 < 64 then ∑ x : Fin 128, (if x.val / 64 ≤ i.val / 64 then w 2 (ix3 0 i x) else 0) * v (ix2 (⟨384 + x.val, by omega⟩ : Fin 512) ⟨128 + (k.val - 128), by omega⟩)
        else ∑ x : Fin 128, (if x.val / 64 ≤ i.val / 64 then w 3 (ix3 0 i x) else 0) * v (ix2 (⟨384 + x.val, by omega⟩ : Fin 512) ⟨128 + (k.val - 128), by omega⟩)
      else if h : k.val - 128 - 128 < 128 then
        if k.val - 128 - 128 < 64 then
          ∑ x : Fin 128, (if x.val / 64 ≤ i.val / 64 then w 4 (ix3 0 i x) else 0) * v (ix2 (⟨384 + x.val, by omega⟩ : Fin 512) ⟨256 + (k.val - 128 - 128), by omega⟩)
        else ∑ x : Fin 128, (if x.val / 64 ≤ i.val / 64 then w 5 (ix3 0 i x) else 0) * v (ix2 (⟨384 + x.val, by omega⟩ : Fin 512) ⟨256 + (k.val - 128 - 128), by omega⟩)
      else
        if k.val - 128 - 128 - 128 < 64 then
          ∑ x : Fin 128, (if x.val / 64 ≤ i.val / 64 then w 6 (ix3 0 i x) else 0) * v (ix2 (⟨384 + x.val, by omega⟩ : Fin 512) ⟨384 + (k.val - 128 - 128 - 128), by omega⟩)
        else ∑ x : Fin 128, (if x.val / 64 ≤ i.val / 64 then w 7 (ix3 0 i x) else 0) * v (ix2 (⟨384 + x.val, by omega⟩ : Fin 512) ⟨384 + (k.val - 128 - 128 - 128), by omega⟩)) + b (ix2 i k)
      = gateAt v w b i k 3 :=
  slabs (fun n x => w n (ix3 0 i x)) (fun x k => v (ix2 (⟨384 + x.val, by omega⟩ : Fin 512) k)) _ i k

/-- Four blocks of 128 rows, one under the other. -/
theorem rows (T : Fin 128 → Fin 4 → EReal) (r : Fin 512) :
    (if h : r.val < 128 then T ⟨r.val, h⟩ 0
      else if h : r.val - 128 < 128 then T ⟨r.val - 128, h⟩ 1
      else if h : r.val - 128 - 128 < 128 then T ⟨r.val - 128 - 128, h⟩ 2
      else T ⟨r.val - 128 - 128 - 128, by omega⟩ 3) = T ⟨r.val % 128, by omega⟩ ⟨r.val / 128, by omega⟩ := by
  have e : ∀ (i : Fin 128) (q : Fin 4), r.val = 128 * q.val + i.val → T i q = T ⟨r.val % 128, by omega⟩ ⟨r.val / 128, by omega⟩ := by
    intro i q h
    congr 1 <;> apply Fin.ext
    · show i.val = r.val % 128
      omega
    · show q.val = r.val / 128
      omega
  have hr := r.isLt
  split_ifs
  · exact e _ 0 (by show r.val = 128 * 0 + r.val; omega)
  · exact e _ 1 (by show r.val = 128 * 1 + (r.val - 128); omega)
  · exact e _ 2 (by show r.val = 128 * 2 + (r.val - 128 - 128); omega)
  · exact e _ 3 (by show r.val = 128 * 3 + (r.val - 128 - 128 - 128); omega)

theorem blocks_apply (r : Fin 512) :
    gatedHalf u v w b (ix2 r k)
      = (u (ix2 r k) : EReal) * (if h : r.val < 128 then gateAt v w b ⟨r.val, h⟩ k 0
      else if h : r.val - 128 < 128 then gateAt v w b ⟨r.val - 128, h⟩ k 1
      else if h : r.val - 128 - 128 < 128 then gateAt v w b ⟨r.val - 128 - 128, h⟩ k 2
      else gateAt v w b ⟨r.val - 128 - 128 - 128, by omega⟩ k 3) := by
  simp only [← block3]
  pointwise [gatedHalf, k0_pay33, k0_pay27, k0_pay28, k0_pay29, k0_pay30, k0_pay31, k0_pay32, block0_apply, block1_apply, block2_apply, k0_pay18, lane_apply, masked_apply]

/-- The gated half, at a row and a column. -/
theorem gatedHalf_apply (r : Fin 512) :
    gatedHalf u v w b (ix2 r k)
      = (u (ix2 r k) : EReal) * gateAt v w b (⟨r.val % 128, by omega⟩ : Fin 128) k (⟨r.val / 128, by omega⟩ : Fin 4) :=
  (blocks_apply u v w b k r).trans (congrArg _ (rows (fun i q => gateAt v w b i k q) r))

end Cert.Proof.Odd

end
-- ==== Proof.OddConv.lean ====
/- The mixer's convolution on one tile: the buffer's rows read from five places, a tap's 512 rows a slice of one of them,
   and the 31 taps grouped by their places modulo 8, read at a row and a column as the one sum they are. -/
module

public import proofs.«01_k».proof.Proof.OddTile

@[expose] public section

set_option maxRecDepth 16384

noncomputable section

open Idealize.ShloMosaic Idealize.ShloMosaic.TcCoe

namespace Cert.Proof.Odd

open Cert.OddKernelIdeal Cert.OddKernelIdeal.Gen

variable (b : Fin 5 → Vec Ideal S520x512 .f32) (c : Fin 31 → Vec Ideal S1x512 .f32) (cb : Vec Ideal S1x512 .f32)

/-- The tile's convolution, from the buffer's rows read at 0, 8, 16, 24 and 32. -/
def convTile : FVec Ideal S512x512 .f32 :=
  k0_pay46
    (k0_pay44
      (k0_pay42
        (k0_pay40 (k0_pay38 cb (b 1) (c 6) (b 2) (c 14) (b 3) (c 22) (b 4) (c 30)) (k0_pay39 (b 1) (c 7)) (b 2) (c 15) (b 3) (c 23)
          (b 0) (c 0) (b 1) (c 8) (b 2) (c 16) (b 3) (c 24))
        (k0_pay41 (b 0) (c 1)) (b 1) (c 9) (b 2) (c 17) (b 3) (c 25))
      (k0_pay43 (b 0) (c 2) (b 1) (c 10) (b 2) (c 18)) (b 3) (c 26) (b 0) (c 3) (b 1) (c 11) (b 2) (c 19) (b 3) (c 27))
    (k0_pay45 (b 0) (c 4) (b 1) (c 12)) (b 2) (c 20) (b 3) (c 28) (b 0) (c 5) (b 1) (c 13) (b 2) (c 21) (b 3) (c 29)

/-- Tap `t` of the tile's row `r`: the buffer's row `2 + t + r`, read from the multiple of 8 below `2 + t`. -/
def tap (r k : Fin 512) (t : Fin 31) : EReal :=
  b ⟨(2 + t.val) / 8, by omega⟩ (ix2 (⟨(2 + t.val) % 8 + r.val, by omega⟩ : Fin 520) k)

/-- The tile's convolution at a row and a column. -/
theorem convTile_apply (r k : Fin 512) :
    convTile b c cb (ix2 r k) = taps (tap b r k) (fun t => c t (ix2 0 k)) (cb (ix2 0 k)) := by
  refine Eq.trans ?_ (sum_groups (fun t => tap b r k t * c t (ix2 0 k)) (cb (ix2 0 k)))
  pointwise [convTile, k0_pay46, k0_pay45, k0_pay44, k0_pay43, k0_pay42, k0_pay41, k0_pay40, k0_pay39, k0_pay38]
  have z : ∀ n : Fin 5, b n (ix2 (⟨r.val, by omega⟩ : Fin 520) k) = b n (ix2 (⟨0 + r.val, by omega⟩ : Fin 520) k) := by
    simp only [Nat.zero_add, implies_true]
  simp only [z]
  rfl

end Cert.Proof.Odd

end
-- ==== Proof.OddBuffer.lean ====
/- The mixer's buffer: 32 rows kept from before (or zero, at a sequence's first tile), the tile's own 512 rows, and zero below;
   and a convolution's tap read from it. -/
module

public import proofs.«01_k».proof.Proof.OddConv
public import Idealize.ShloMosaic.Lib.Pipeline.ValueKit
public import Idealize.ShloMosaic.Lib.WritesUnit

@[expose] public section

set_option maxRecDepth 65536
set_option maxHeartbeats 1000000

noncomputable section

open Idealize.ShloMosaic Idealize.ShloMosaic.TcCoe

namespace Cert.Proof.Odd

open Cert.OddKernelIdeal Cert.OddKernelIdeal.Gen

/-- The buffer's two pieces every point writes: the tile's rows at 32, and zero at 544. -/
abbrev pieces (hd : FVec Ideal S512x512 .f32) (L : List (View.Piece (Elt Ideal) S552x512 .f32)) :
    List (View.Piece (Elt Ideal) S552x512 .f32) :=
  ⟨Rect.unit ![544, 0] S8x512.size inb_S552x512_S8x512_544_0, k0_pay37 (F := Ideal) (k0_pay36 (F := Ideal))⟩ ::
    ⟨Rect.unit ![32, 0] S512x512.size inb_S552x512_S512x512_32_0, hd⟩ :: L

/-- The piece a sequence's first point writes before: zero in the first 32 rows. -/
abbrev blank : List (View.Piece (Elt Ideal) S552x512 .f32) := [⟨Rect.unit ![0, 0] S32x512.size inb_S552x512_S32x512_0_0, k0_pay34 (F := Ideal)⟩]

/-- A load of the whole of a rank-2 block is the block. -/
theorem ld_all {a b : ℕ} {e : EltTy} (X : Vec Ideal (⟨2, ![a, b]⟩ : Shape) e)
    (inb : ∀ i, (![0, 0] : Fin 2 → ℕ) i + (![a, b] : Fin 2 → ℕ) i ≤ (![a, b] : Fin 2 → ℕ) i) :
    View.ld (S := (⟨2, ![a, b]⟩ : Shape)) X (Rect.unit (s := (⟨2, ![a, b]⟩ : Shape)) ![0, 0] ![a, b] inb) = X :=
  View.ld_unit_zero (S := (⟨2, ![a, b]⟩ : Shape)) (by funext i; fin_cases i <;> rfl) inb X

section Buffer

variable {κ : Kind} {sp : Space} (v : View sig κ sp S552x512 .f32) (f : v.ty.Contents (Elt Ideal))
  (hd : FVec Ideal S512x512 .f32) (L : List (View.Piece (Elt Ideal) S552x512 .f32)) (k : Fin 512)

theorem buffer_own (r : Fin 512) :
    v.read (Elt Ideal) (v.writes (Elt Ideal) f (pieces hd L)) (ix2 (⟨32 + r.val, by omega⟩ : Fin 552) k) = hd (ix2 r k) := by
  refine (View.read_writes_cons_rows_of_not_mem v f _ _ _ _ rfl rfl (Or.inl (by show 32 + r.val < 544; omega))).trans ?_
  exact View.read_writes_cons_rows_of_mem v f _ _ _ _ (ix2 r k) rfl rfl rfl

theorem buffer_before (r : Fin 32) :
    v.read (Elt Ideal) (v.writes (Elt Ideal) f (pieces hd L)) (ix2 (⟨r.val, by omega⟩ : Fin 552) k)
      = v.read (Elt Ideal) (v.writes (Elt Ideal) f L) (ix2 (⟨r.val, by omega⟩ : Fin 552) k) := by
  refine (View.read_writes_cons_rows_of_not_mem v f _ _ _ _ rfl rfl (Or.inl (by show r.val < 544; omega))).trans ?_
  exact View.read_writes_cons_rows_of_not_mem v f _ _ _ _ rfl rfl (Or.inl (by show r.val < 32; omega))

theorem blank_before (r : Fin 32) :
    v.read (Elt Ideal) (v.writes (Elt Ideal) f blank) (ix2 (⟨r.val, by omega⟩ : Fin 552) k) = (0 : EReal) := by
  refine (View.read_writes_cons_rows_of_mem v f _ _ _ _ (ix2 r k) rfl (Nat.zero_add _).symm rfl).trans ?_
  pointwise [k0_pay34]

/-- The buffer's rows, read at a multiple of 8. -/
def loads (fs : Fin 5 → v.ty.Contents (Elt Ideal)) (n : Fin 5) : Vec Ideal S520x512 .f32 :=
  View.ld (v.read (Elt Ideal) (v.writes (Elt Ideal) (fs n) L)) (Rect.unit ![8 * n.val, 0] S520x512.size
    (by intro a; fin_cases a; · show 8 * n.val + 520 ≤ 552; omega
        · show 0 + 512 ≤ 512; omega))

/-- A tap reads the row 30 before it, counted from the tap: one of the tile's own, or one of the 32 kept from before. -/
theorem tap_own (fs : Fin 5 → v.ty.Contents (Elt Ideal)) (r : Fin 512) (t : Fin 31) (h : 30 ≤ t.val + r.val) :
    tap (loads v (pieces hd L) fs) r k t = hd (ix2 (⟨t.val + r.val - 30, by omega⟩ : Fin 512) k) := by
  unfold tap loads
  rw [View.ld_unit_apply_of _ _ _ _ _ (ix2 (⟨32 + (t.val + r.val - 30), by omega⟩ : Fin 552) k)]
  · exact buffer_own v _ hd L k ⟨t.val + r.val - 30, by omega⟩
  · intro a
    fin_cases a
    · show 32 + (t.val + r.val - 30) = 8 * ((2 + t.val) / 8) + ((2 + t.val) % 8 + r.val)
      omega
    · show k.val = 0 + k.val
      omega

theorem tap_before (fs : Fin 5 → v.ty.Contents (Elt Ideal)) (r : Fin 512) (t : Fin 31) (h : t.val + r.val < 30) :
    tap (loads v (pieces hd L) fs) r k t
      = v.read (Elt Ideal) (v.writes (Elt Ideal) (fs ⟨(2 + t.val) / 8, by omega⟩) L)
          (ix2 (⟨2 + t.val + r.val, by omega⟩ : Fin 552) k) := by
  unfold tap loads
  rw [View.ld_unit_apply_of _ _ _ _ _ (ix2 (⟨2 + t.val + r.val, by omega⟩ : Fin 552) k)]
  · exact buffer_before v _ hd L k ⟨2 + t.val + r.val, by omega⟩
  · intro a
    fin_cases a
    · show 2 + t.val + r.val = 8 * ((2 + t.val) / 8) + ((2 + t.val) % 8 + r.val)
      omega
    · show k.val = 0 + k.val
      omega

end Buffer

end Cert.Proof.Odd

end
-- ==== Proof.OddPoint.lean ====
/- What a grid point leaves in its tile of the result and in the buffer, from what it reads: the tile is gated, convolved from the
   buffer, projected and added back; the buffer keeps the tile's last 32 rows. -/
module

public import proofs.«01_k».proof.Proof.OddGate
public import proofs.«01_k».proof.Proof.OddBuffer
public import proofs.«01_k».proof.Proof.Gen.OddKernelIdeal.Value
public import Idealize.ShloMosaic.Lib.Pipeline.ValueKit
public import Idealize.ShloMosaic.Lib.WritesUnit

@[expose] public section

set_option maxRecDepth 65536
set_option maxHeartbeats 1000000

noncomputable section

open Idealize.ShloMosaic Idealize.ShloMosaic.TcCoe

namespace Cert.Proof.Odd

open Cert.OddKernelIdeal Cert.OddKernelIdeal.Gen

variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S1024x1024 .bf16)
  (harg3 : arg3.IsWhole) (arg4 : Memref sig .tc .vmem S1024x1024 .bf16) (harg4 : arg4.IsWhole)
  (arg5 : Memref sig .tc .vmem S1x512 .f32) (harg5 : arg5.IsWhole) (arg6 : Memref sig .tc .vmem S1x512 .f32)
  (harg6 : arg6.IsWhole) (arg7 : Memref sig .tc .vmem S8x128x128 .bf16) (harg7 : arg7.IsWhole)
  (arg8 : Memref sig .tc .vmem S128x512 .f32) (harg8 : arg8.IsWhole) (arg9 : Memref sig .tc .vmem S31x512 .f32)
  (harg9 : arg9.IsWhole) (arg10 : Memref sig .tc .vmem S1x512 .f32) (harg10 : arg10.IsWhole)
  (arg11 : Memref sig .tc .vmem S1x512 .f32) (harg11 : arg11.IsWhole) (arg12 : Memref sig .tc .vmem S1x512 .f32)
  (harg12 : arg12.IsWhole) (arg13 : Memref sig .tc .vmem S512x1024 .bf16) (harg13 : arg13.IsWhole)
  (arg14 : Memref sig .tc .vmem S512x1024 .bf16) (harg14 : arg14.IsWhole)
  (arg15 : Memref sig .tc .vmem S512x1024 .f32) (harg15 : arg15.IsWhole) (arg16 : Memref sig .tc .vmem S552x512 .f32)
  (harg16 : arg16.IsWhole)
variable (x0 : Vec Ideal S512x1024 .f32) (x1 : Vec Ideal S1x1024 .f32) (x2 : Vec Ideal S1024x1024 .bf16)
  (x3 : Vec Ideal S1024x1024 .bf16) (x4 : Vec Ideal S1x512 .f32) (x5 : Vec Ideal S1x512 .f32)
  (x6 : Vec Ideal S8x128x128 .bf16) (x7 : Vec Ideal S128x512 .f32) (x8 : Vec Ideal S31x512 .f32)
  (x9 : Vec Ideal S1x512 .f32) (x10 : Vec Ideal S1x512 .f32) (x11 : Vec Ideal S1x512 .f32)
  (x12 : Vec Ideal S512x1024 .bf16) (x13 : Vec Ideal S512x1024 .bf16) (xs0 : Vec Ideal S552x512 .f32)

/-- The tile of the result, from the loads of the buffer. -/
def tile (b : Fin 5 → Vec Ideal S520x512 .f32) : FVec Ideal S512x1024 .f32 :=
  k0_pay48 x0
    (gatedHalf (k0_pay3 x0 x1 x2) (k0_pay8 (k0_pay4 x0 x1 x2) (k0_pay5 x4) (k0_pay6 x5) (k0_pay7 x0 x1 x2))
      (fun n => View.ld x6 (Rect.unit ![n.val, 0, 0] S1x128x128.size
        (by intro a; fin_cases a; · show n.val + 1 ≤ 8; omega
            · show 0 + 128 ≤ 128; omega
            · show 0 + 128 ≤ 128; omega))) (k0_pay18 x7))
    (convTile b (fun t => View.ld x8 (Rect.unit ![t.val, 0] S1x512.size
        (by intro a; fin_cases a; · show t.val + 1 ≤ 31; omega
            · show 0 + 512 ≤ 512; omega))) x9)
    x10 x11 x12 x13

/-- The tile's own rows of the convolved stream. -/
abbrev own : FVec Ideal S512x512 .f32 := k0_pay35 (k0_pay1 x0 x1) x3

theorem out_B (hc0 : ¬cond0_0 i) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0
      = tile x0 x1 x2 x4 x5 x6 x7 x8 x9 x10 x11 x12 x13 (loads arg16.view (pieces (own x0 x1 x3) [])
          ![harg16.unread xs0, harg16.unread xs0, harg16.unread xs0, harg16.unread xs0, arg16.view.junk]) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0)]
  unfold kernelRun0_B
  dsimp only
  sl_unfold_words
  rw [View.canon_unit_zero (by funext a; fin_cases a <;> rfl)]
  simp only [View.readAt_eq_ld, View.readCov, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, ld_all]
  unfold tile
  congr 1

theorem out_A (hc0 : cond0_0 i) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13
      = tile x0 x1 x2 x4 x5 x6 x7 x8 x9 x10 x11 x12 x13 (loads arg16.view (pieces (own x0 x1 x3) blank)
          fun _ => arg16.view.junk) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13)]
  unfold kernelRun0_A
  dsimp only
  sl_unfold_words
  rw [View.canon_unit_zero (by funext a; fin_cases a <;> rfl)]
  simp only [View.readAt_eq_ld, View.readCov, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, ld_all]
  unfold tile
  congr 1

/-- The rows a point keeps, from the buffer as it is before they are copied up. -/
theorem kept (v : View sig .tc .vmem S552x512 .f32) (hd : FVec Ideal S512x512 .f32) (L : List (View.Piece (Elt Ideal) S552x512 .f32))
    (r : Fin 32) (k : Fin 512) :
    View.canon ((⟨Rect.unit ![0, 0] S32x512.size inb_S552x512_S32x512_0_0, k0_pay47 (F := Ideal) (View.ld
        (v.read (Elt Ideal) (v.writes (Elt Ideal) v.junk (pieces hd L))) (Rect.unit ![512, 0] S32x512.size inb_S552x512_S32x512_512_0))⟩ : View.Piece (Elt Ideal) S552x512 .f32)
          :: pieces hd L) (ix2 (⟨r.val, by omega⟩ : Fin 552) k) = hd (ix2 (⟨480 + r.val, by omega⟩ : Fin 512) k) := by
  rw [← View.read_writes_junk_eq_canon v]
  refine (View.read_writes_cons_rows_of_mem v _ _ _ _ _ (ix2 r k) rfl (Nat.zero_add _).symm rfl).trans ?_
  unfold k0_pay47
  dsimp only
  rw [shapeCast_self]
  refine (View.ld_unit_apply_of _ _ _ _ _ (ix2 (⟨32 + (480 + r.val), by omega⟩ : Fin 552) k) ?_).trans
    (buffer_own v _ hd L k ⟨480 + r.val, by omega⟩)
  intro a
  fin_cases a
  · show 32 + (480 + r.val) = 512 + r.val
    omega
  · show k.val = 0 + k.val
    omega

theorem kept_B (hc0 : ¬cond0_0 i) (r : Fin 32) (k : Fin 512) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0 (ix2 (⟨r.val, by omega⟩ : Fin 552) k)
      = own x0 x1 x3 (ix2 (⟨480 + r.val, by omega⟩ : Fin 512) k) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0)]
  unfold kernelRun0_B
  dsimp only
  sl_unfold_words
  simp only [View.readAt_eq_ld, View.readCov, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, ld_all]
  exact kept arg16.view _ _ r k

theorem kept_A (hc0 : cond0_0 i) (r : Fin 32) (k : Fin 512) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 (ix2 (⟨r.val, by omega⟩ : Fin 552) k)
      = own x0 x1 x3 (ix2 (⟨480 + r.val, by omega⟩ : Fin 512) k) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13)]
  unfold kernelRun0_A
  dsimp only
  sl_unfold_words
  simp only [View.readAt_eq_ld, View.readCov, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, ld_all]
  exact kept arg16.view _ _ r k

end Cert.Proof.Odd

end
-- ==== Proof.OddWhole.lean ====
/- What the mixer computes over all 65536 rows, from its arguments: each row's gated half, from its block of 128 rows, its convolved
   half, from the 31 rows of its sequence that end at it, and the two projected and added back. -/
module

public import proofs.«01_k».proof.Proof.OddRow
public import proofs.«01_k».proof.Proof.Gen.OddKernelIdeal

@[expose] public section

noncomputable section

open Idealize.ShloMosaic Idealize.ShloMosaic.TcCoe

namespace Cert.Proof.Odd

open Cert.OddKernelIdeal

variable (h : Vec Ideal S65536x1024 .f32) (g : Vec Ideal S1024 .f32) (w : Vec Ideal S1024x2048 .f32) (wo : Vec Ideal S1024x1024 .f32)
  (lg lb : Vec Ideal S512 .f32) (ws : Vec Ideal S8x128x128 .f32) (bs : Vec Ideal S8x128 .f32)
  (cw : Vec Ideal S31x512 .f32) (cb lg' lb' : Vec Ideal S512 .f32)

/-- A row's input. -/
abbrev inputAt (R : Fin 65536) : Fin 1024 → EReal := fun l => h (ix2 R l)

/-- The first projection's weight and the second's, side by side in one array. -/
abbrev first : Fin 1024 → Fin 1024 → EReal := fun l j => w (ix2 l (⟨j.val, by omega⟩ : Fin 2048))
abbrev second : Fin 1024 → Fin 1024 → EReal := fun l j => w (ix2 l (⟨1024 + j.val, by omega⟩ : Fin 2048))

/-- A row's gates. -/
def gatesAt (R : Fin 65536) (k : Fin 512) : EReal :=
  gateRow (inputAt h R) (fun l => g (ix1 l)) (first w) (fun l => lg (ix1 l)) (fun l => lb (ix1 l)) k

/-- A row's stream. -/
def streamAt (R : Fin 65536) (k : Fin 512) : EReal := stream (inputAt h R) (fun l => g (ix1 l)) (second w) k

/-- A row's gated half: its carrier through the gate of its block of 128 rows; a column's weight is that of its 64. -/
def gatedAt (R : Fin 65536) (k : Fin 512) : EReal :=
  carrier (inputAt h R) (fun l => g (ix1 l)) (first w) k
    * gate (fun j => ws (ix3 (⟨k.val / 64, by omega⟩ : Fin 8) (⟨R.val % 128, by omega⟩ : Fin 128) j))
        (fun j => gatesAt h g w lg lb ⟨R.val / 128 * 128 + j.val, by omega⟩ k)
        (bs (ix2 (⟨k.val / 64, by omega⟩ : Fin 8) (⟨R.val % 128, by omega⟩ : Fin 128))) ⟨R.val % 128, by omega⟩

/-- What tap `t` of a row reads: the stream `30 - t` rows before, in the same sequence of 8192 rows, or zero before its start. -/
def pastAt (R : Fin 65536) (k : Fin 512) (t : Fin 31) : EReal :=
  if 30 ≤ R.val % 8192 + t.val then streamAt h g w ⟨R.val + t.val - 30, by omega⟩ k else 0

/-- A row's convolution. -/
def convAt (R : Fin 65536) (k : Fin 512) : EReal := taps (pastAt h g w R k) (fun t => cw (ix2 t k)) (cb (ix1 k))

/-- The result over all rows. -/
def whole : Vec Ideal S65536x1024 .f32 := fun j =>
  joined (inputAt h (j 0)) (gatedAt h g w lg lb ws bs (j 0))
    (settled (convAt h g w cw cb (j 0)) (fun l => lg' (ix1 l)) (fun l => lb' (ix1 l)))
    (fun l k => wo (ix2 (⟨l.val, by omega⟩ : Fin 1024) k)) (fun l k => wo (ix2 (⟨512 + l.val, by omega⟩ : Fin 1024) k)) (j 1)

end Cert.Proof.Odd

end
-- ==== Proof.OddHost.lean ====
/- The reference's mixer, layer by layer over all rows, each layer read at one row of one sequence: it is the mixer's mathematics. -/
module

public import proofs.«01_k».proof.Proof.OddWhole
public import proofs.«01_k».proof.Proof.Gen.OddReferenceIdeal.Run
public import Idealize.ShloMosaic.Lib.Pointwise

@[expose] public section

set_option maxRecDepth 16384

noncomputable section

open Idealize.ShloMosaic Idealize.ShloMosaic.TcCoe

namespace Cert.Proof.Odd

open Cert.OddReferenceIdeal Cert.OddReferenceIdeal.Gen Cert.OddReferenceIdeal.Value

variable (V0 : Valuation τ sig (Elt Ideal))

/-- The reference's arguments. -/
abbrev a0 : FVec Ideal S65536x1024 .f32 := V0 (Proc.devRef .tc main_arg0)
abbrev a1 : FVec Ideal S1024 .f32 := V0 (Proc.devRef .tc main_arg1)
abbrev a2 : FVec Ideal S1024x2048 .f32 := V0 (Proc.devRef .tc main_arg2)
abbrev a3 : FVec Ideal S1024x1024 .f32 := V0 (Proc.devRef .tc main_arg3)
abbrev a4 : FVec Ideal S512 .f32 := V0 (Proc.devRef .tc main_arg4)
abbrev a5 : FVec Ideal S512 .f32 := V0 (Proc.devRef .tc main_arg5)
abbrev a6 : FVec Ideal S8x128x128 .f32 := V0 (Proc.devRef .tc main_arg6)
abbrev a7 : FVec Ideal S8x128 .f32 := V0 (Proc.devRef .tc main_arg7)
abbrev a8 : FVec Ideal S31x512 .f32 := V0 (Proc.devRef .tc main_arg8)
abbrev a9 : FVec Ideal S512 .f32 := V0 (Proc.devRef .tc main_arg9)
abbrev a10 : FVec Ideal S512 .f32 := V0 (Proc.devRef .tc main_arg10)
abbrev a11 : FVec Ideal S512 .f32 := V0 (Proc.devRef .tc main_arg11)

/-- Row `p` of sequence `s` among all the rows. -/
abbrev big (s : Fin 8) (p : Fin 8192) : Fin 65536 := ⟨s.val * 8192 + p.val, by omega⟩

variable (s : Fin 8) (p : Fin 8192)

theorem v14_apply (j : Fin 2048) :
    res_main_v14 V0 (ix3 s p j)
      = ∑ l, rmsRow (inputAt (a0 V0) (big s p)) (fun l => a1 V0 (ix1 l)) l * (a2 V0 (ix2 l j) : EReal) := by
  pointwise [res_main_v14, rmsRow]

theorem v15_apply (j : Fin 1024) :
    res_main_v15 V0 (ix3 s p j)
      = projected (inputAt (a0 V0) (big s p)) (fun l => a1 V0 (ix1 l)) (first (a2 V0)) j := by
  pointwise [res_main_v15, v14_apply, projected]

theorem v28_apply (j : Fin 1024) :
    res_main_v28 V0 (ix3 s p j)
      = smooth (projected (inputAt (a0 V0) (big s p)) (fun l => a1 V0 (ix1 l)) (first (a2 V0)) j) := by
  pointwise [res_main_v28, v15_apply, smooth]
  simp only [mul_assoc]

theorem v30_apply (k : Fin 512) :
    res_main_v30 V0 (ix3 s p k)
      = smooth (projected (inputAt (a0 V0) (big s p)) (fun l => a1 V0 (ix1 l)) (first (a2 V0)) ⟨512 + k.val, by omega⟩) := by
  pointwise [res_main_v30, v28_apply]

theorem v34_apply :
    res_main_v34 V0 (ix3 s p 0) = mean (fun k => res_main_v30 V0 (ix3 s p k)) := by
  pointwise [res_main_v34, mean]

theorem v36_apply (k : Fin 512) :
    res_main_v36 V0 (ix3 s p k) = (show EReal from res_main_v30 V0 (ix3 s p k)) - mean (fun k => res_main_v30 V0 (ix3 s p k)) := by
  pointwise [res_main_v36, v34_apply]

theorem v73_apply (j : Fin 1024) :
    res_main_v73 V0 (ix3 s p j)
      = projected (inputAt (a0 V0) (big s p)) (fun l => a1 V0 (ix1 l)) (second (a2 V0)) j := by
  pointwise [res_main_v73, v14_apply, projected]

theorem v83_apply (q : Fin 8222) (k : Fin 512) :
    res_main_v83 V0 (ix3 s q k)
      = if h : 30 ≤ q.val then streamAt (a0 V0) (a1 V0) (a2 V0) (big s ⟨q.val - 30, by omega⟩) k else 0 := by
  pointwise [res_main_v83, v73_apply, streamAt, stream, Ideal.logistic, Ideal.ofBits_one_f32]
  have z : (FloatOps.sitofp (F := Ideal) FTy.f32 0#32 : EReal) = 0 := by
    show (((0#32 : BitVec 32).toInt : ℝ) : EReal) = 0
    simp
  rw [z]
  by_cases h : 30 ≤ q.val
  · rw [dif_pos ⟨h, by omega⟩, dif_pos h]
  · rw [dif_neg (fun e => h e.1), dif_neg h]

/-- Tap `t` of a row's convolution, in the padded stream. -/
def held (k : Fin 512) (t : Fin 31) : EReal := res_main_v83 V0 (ix3 s (⟨t.val + p.val, by omega⟩ : Fin 8222) k)

theorem held_eq (k : Fin 512) (t : Fin 31) : held V0 s p k t = pastAt (a0 V0) (a1 V0) (a2 V0) (big s p) k t := by
  unfold held pastAt
  rw [v83_apply]
  have hp := p.isLt
  have e : (s.val * 8192 + p.val) % 8192 = p.val := by omega
  by_cases h : 30 ≤ t.val + p.val
  · rw [dif_pos h, if_pos (by show 30 ≤ (s.val * 8192 + p.val) % 8192 + t.val; omega)]
    congr 1
    apply Fin.ext
    show s.val * 8192 + (t.val + p.val - 30) = s.val * 8192 + p.val + t.val - 30
    omega
  · rw [dif_neg h, if_neg (by show ¬ 30 ≤ (s.val * 8192 + p.val) % 8192 + t.val; omega)]

theorem v304_apply (k : Fin 512) :
    res_main_v304 V0 (ix3 s p k) = convAt (a0 V0) (a1 V0) (a2 V0) (a8 V0) (a9 V0) (big s p) k := by
  unfold convAt taps
  simp only [← held_eq]
  rw [← sum_taps]
  pointwise [res_main_v304, res_main_v238, res_main_v161]
  have z : res_main_v83 V0 (ix3 s (⟨p.val, by omega⟩ : Fin 8222) k) = held V0 s p k 0 := by
    unfold held
    congr 2
    exact Fin.ext (Nat.zero_add _).symm
  rw [z]
  rfl

theorem v308_apply :
    res_main_v308 V0 (ix3 s p 0) = mean (fun k => res_main_v304 V0 (ix3 s p k)) := by
  pointwise [res_main_v308, mean]

theorem v310_apply (k : Fin 512) :
    res_main_v310 V0 (ix3 s p k) = (show EReal from res_main_v304 V0 (ix3 s p k)) - mean (fun k => res_main_v304 V0 (ix3 s p k)) := by
  pointwise [res_main_v310, v308_apply]

theorem v328_apply (k : Fin 512) :
    res_main_v328 V0 (ix3 s p k)
      = layerRow (convAt (a0 V0) (a1 V0) (a2 V0) (a8 V0) (a9 V0) (big s p)) (fun l => a10 V0 (ix1 l)) (fun l => a11 V0 (ix1 l)) k := by
  pointwise [res_main_v328, v310_apply, v308_apply, v304_apply, layerRow, mean]

/-- A row's chunk of 64 rows in its block, as the reference finds it. -/
theorem v57_apply (i : Fin 128) : res_main_v57 V0 (ix1 i) = BitVec.ofNat 32 (i.val / 64) := by
  revert i
  unfold res_main_v57 res_main_call0_v2 res_main_call0_v0 res_main_v56
  decide +kernel

/-- The reference's gates over all rows. -/
def hostGates : FVec Ideal S8x8192x512 .f32 :=
  addf (mulf (mulf (subf (res_main_v30 V0) (broadcastInDim S8x8192x512 ![0, 1, 2] bcast_S8x8192x1_S8x8192x512_0_1_2
    (res_main_v34 V0))) (broadcastInDim S8x8192x512 ![0, 1, 2] bcast_S8x8192x1_S8x8192x512_0_1_2 (Host.rsqrt (addf
    (Host.divf (broadcastInDim S8x8192x1 ![0, 1] bcast_S8x8192_S8x8192x1_0_1 (Host.reduceAdd (mulf (res_main_v36 V0)
    (res_main_v36 V0)) (constant S_ .f32 0x00000000#32) reducesTo_S8x8192x512_S8x8192_d2 h_S_)) (broadcastInDim
    S8x8192x1 ![] bcast_S_S8x8192x1 (constant S_ .f32 0x44000000#32))) (broadcastInDim S8x8192x1 ![] bcast_S_S8x8192x1
    (constant S_ .f32 0x358637BD#32)))))) (broadcastInDim S8x8192x512 ![0, 1, 2] bcast_S1x1x512_S8x8192x512_0_1_2
    (broadcastInDim S1x1x512 ![2] bcast_S512_S1x1x512_2 (a4 V0)))) (broadcastInDim S8x8192x512 ![0, 1, 2]
    bcast_S1x1x512_S8x8192x512_0_1_2 (broadcastInDim S1x1x512 ![2] bcast_S512_S1x1x512_2 (a5 V0)))

theorem hostGates_apply (k : Fin 512) :
    hostGates V0 (ix3 s p k) = gatesAt (a0 V0) (a1 V0) (a2 V0) (a4 V0) (a5 V0) (big s p) k := by
  pointwise [hostGates, v36_apply, v34_apply, v30_apply, gatesAt, gateRow, layerRow, mean]

/-- The reference's gate weights, with what their mask hides set to zero. -/
def hostMask : FVec Ideal S8x128x128 .f32 :=
  select (broadcastInDim S8x128x128 ![0, 1, 2] bcast_S1x128x128_S8x128x128_0_1_2 (broadcastInDim S1x128x128 ![1, 2]
    bcast_S128x128_S1x128x128_1_2 (cmpi .sge (broadcastInDim S128x128 ![0, 1] bcast_S128x1_S128x128_0_1
    (broadcastInDim S128x1 ![0] bcast_S128_S128x1_0 (res_main_v57 V0))) (broadcastInDim S128x128 ![0, 1]
    bcast_S1x128_S128x128_0_1 (broadcastInDim S1x128 ![1] bcast_S128_S1x128_1 (res_main_v57 V0)))))) (a6 V0)
    (broadcastInDim S8x128x128 ![] bcast_S_S8x128x128 (id (constant S_ .f32 0x00000000#32)))

theorem hostMask_apply (n : Fin 8) (i j : Fin 128) :
    hostMask V0 (ix3 n i j) = if j.val / 64 ≤ i.val / 64 then (a6 V0 (ix3 n i j) : EReal) else 0 := by
  have h : ∀ i j : Fin 128, IntOp.cmpi .sge (BitVec.ofNat 32 (i.val / 64)) (BitVec.ofNat 32 (j.val / 64))
      = if j.val / 64 ≤ i.val / 64 then 1#1 else 0#1 := by decide +kernel
  pointwise [hostMask, v57_apply]
  rw [h]
  split_ifs
  · rfl
  · exact Ideal.ofBits_zero_f32

/-- The reference's gated half over all rows. -/
def hostGated : FVec Ideal S8x8192x512 .f32 :=
  mulf (extractStridedSlice S8x8192x512 ![0, 0, 0] (res_main_v28 V0) slices_S8x8192x1024_S8x8192x512_0_0_0) (shapeCast
    _ (addf (transpose S8x64x128x8x64 [1, 2, 4, 0, 3] (Host.dotGeneral
    dot_S8x64x128x8x64_S8x128x128_S8x8x64x64x128_2_2_014_1_3_0 none (shapeCast _ (hostGates V0)
    shapeCasts_S8x8192x512_S8x64x128x8x64) (hostMask V0)) transposes_S8x8x64x64x128_S8x64x128x8x64_1_2_4_0_3)
    (broadcastInDim S8x64x128x8x64 ![0, 1, 2, 3, 4] bcast_S1x1x128x8x1_S8x64x128x8x64_0_1_2_3_4 (broadcastInDim
    S1x1x128x8x1 ![2, 3] bcast_S128x8_S1x1x128x8x1_2_3 (transpose S128x8 [1, 0] (a7 V0)
    transposes_S8x128_S128x8_1_0)))) shapeCasts_S8x64x128x8x64_S8x8192x512)

theorem hostGated_apply (k : Fin 512) :
    hostGated V0 (ix3 s p k)
      = gatedAt (a0 V0) (a1 V0) (a2 V0) (a4 V0) (a5 V0) (a6 V0) (a7 V0) (big s p) k := by
  pointwise [hostGated, v28_apply, hostGates_apply, hostMask_apply, gatedAt, gate, carrier]
  have e : (s.val * 8192 + p.val) % 128 = p.val % 128 := by omega
  simp only [e]
  refine congrArg (fun z : EReal => _ * z) (congrArg (fun z : EReal => z + _) (Finset.sum_congr rfl fun x _ => ?_))
  have d : big s (⟨p.val / 128 * 128 + x.val, by omega⟩ : Fin 8192)
      = (⟨(s.val * 8192 + p.val) / 128 * 128 + x.val, by omega⟩ : Fin 65536) := Fin.ext (by
    show s.val * 8192 + (p.val / 128 * 128 + x.val) = (s.val * 8192 + p.val) / 128 * 128 + x.val
    omega)
  exact (mul_comm _ _).trans (congrArg (fun R => (_ : EReal) * gatesAt (a0 V0) (a1 V0) (a2 V0) (a4 V0) (a5 V0) R k) d)

/-- The reference's convolved half over all rows. -/
def hostSettled : FVec Ideal S8x8192x512 .f32 :=
  mulf (res_main_v328 V0) (Host.divf (broadcastInDim S8x8192x512 ![] bcast_S_S8x8192x512 (constant S_ .f32
    0x3F800000#32)) (addf (broadcastInDim S8x8192x512 ![] bcast_S_S8x8192x512 (constant S_ .f32 0x3F800000#32))
    (Host.exp (Host.negf (res_main_v328 V0)))))

theorem hostSettled_apply (k : Fin 512) :
    hostSettled V0 (ix3 s p k)
      = settled (convAt (a0 V0) (a1 V0) (a2 V0) (a8 V0) (a9 V0) (big s p)) (fun l => a10 V0 (ix1 l)) (fun l => a11 V0 (ix1 l)) k := by
  pointwise [hostSettled, v328_apply, settled, Ideal.logistic, Ideal.ofBits_one_f32]

/-- Two halves side by side, projected and added, at a row. -/
theorem side_by_side (h : FVec Ideal S65536x1024 .f32) (a b : FVec Ideal S8x8192x512 .f32) (w : FVec Ideal S1024x1024 .f32)
    (r : Fin 65536) (k : Fin 1024) :
    addf h (Host.dotGeneral dot_S65536x1024_S1024x1024_S65536x1024_1_0_0_1_n_n none
        (shapeCast _ (concatenate S8x8192x1024 2 [⟨S8x8192x512, a⟩, ⟨S8x8192x512, b⟩]
          concatenates_S8x8192x512_S8x8192x512_S8x8192x1024_d2) shapeCasts_S8x8192x1024_S65536x1024) w) (ix2 r k)
      = joined (fun l => h (ix2 r l))
        (fun l => a (ix3 (⟨r.val / 8192, by omega⟩ : Fin 8) (⟨r.val % 8192, by omega⟩ : Fin 8192) l))
        (fun l => b (ix3 (⟨r.val / 8192, by omega⟩ : Fin 8) (⟨r.val % 8192, by omega⟩ : Fin 8192) l))
        (fun l k => w (ix2 (⟨l.val, by omega⟩ : Fin 1024) k)) (fun l k => w (ix2 (⟨512 + l.val, by omega⟩ : Fin 1024) k)) k := by
  unfold joined
  rw [add_assoc]
  pointwise []

/-- The reference's result, layer by layer: it is that of the arguments. -/
theorem reference :
    addf (a0 V0) (Host.dotGeneral dot_S65536x1024_S1024x1024_S65536x1024_1_0_0_1_n_n none (shapeCast _ (concatenate
        S8x8192x1024 2 [⟨S8x8192x512, (hostGated V0)⟩, ⟨S8x8192x512, (hostSettled V0)⟩]
        concatenates_S8x8192x512_S8x8192x512_S8x8192x1024_d2) shapeCasts_S8x8192x1024_S65536x1024) (a3 V0))
      = whole (a0 V0) (a1 V0) (a2 V0) (a3 V0) (a4 V0) (a5 V0) (a6 V0) (a7 V0) (a8 V0) (a9 V0) (a10 V0) (a11 V0) := by
  funext j
  idx_vars j
  rw [side_by_side]
  simp only [hostGated_apply, hostSettled_apply]
  have e : big (⟨j0.val / 8192, by omega⟩ : Fin 8) (⟨j0.val % 8192, by omega⟩ : Fin 8192) = j0 := Fin.ext (by
    show j0.val / 8192 * 8192 + j0.val % 8192 = j0.val
    omega)
  rw [e]
  rfl

end Cert.Proof.Odd

end
-- ==== Proof.OddValue.lean ====
/- The odd layer's mixer computes what its reference says: every row of a tile is that of its own row, of its block of 128 rows and of
   the 30 rows before it in its sequence — the first of them kept from the tile before —, and the tiles make up the result. -/
module

public import proofs.«01_k».proof.Defs
public import proofs.«01_k».proof.Proof.OddPoint
public import proofs.«01_k».proof.Proof.OddHost

@[expose] public section

set_option maxRecDepth 16384

noncomputable section

open Idealize.ShloMosaic Idealize.ShloMosaic.TcCoe Idealize.SL.Sem
open Idealize.ShloMosaic.Pipeline (Dat)

namespace Cert.Proof.Odd

open Cert.OddKernelIdeal Cert.OddKernelIdeal.Gen

section Tile

variable (x0 : Vec Ideal S512x1024 .f32) (x1 : Vec Ideal S1x1024 .f32) (x2 : Vec Ideal S1024x1024 .bf16)
  (x4 : Vec Ideal S1x512 .f32) (x5 : Vec Ideal S1x512 .f32)
  (x6 : Vec Ideal S8x128x128 .bf16) (x7 : Vec Ideal S128x512 .f32) (x8 : Vec Ideal S31x512 .f32)
  (x9 : Vec Ideal S1x512 .f32) (x10 : Vec Ideal S1x512 .f32) (x11 : Vec Ideal S1x512 .f32)
  (x12 : Vec Ideal S512x1024 .bf16) (x13 : Vec Ideal S512x1024 .bf16)

/-- One of a stack of matrices, loaded. -/
theorem slab_apply (n : Fin 8) (i j : Fin 128) (inb) :
    View.ld x6 (Rect.unit (s := S8x128x128) ![n.val, 0, 0] S1x128x128.size inb) (ix3 0 i j) = x6 (ix3 n i j) := by
  refine View.ld_unit_apply_of _ _ _ _ _ (ix3 n i j) ?_
  intro a
  fin_cases a
  · show n.val = n.val + 0
    omega
  · show i.val = 0 + i.val
    omega
  · show j.val = 0 + j.val
    omega

/-- One row of a matrix, loaded. -/
theorem tapRow_apply (n : Fin 31) (k : Fin 512) (inb) :
    View.ld x8 (Rect.unit (s := S31x512) ![n.val, 0] S1x512.size inb) (ix2 0 k) = x8 (ix2 n k) := by
  refine View.ld_unit_apply_of _ _ _ _ _ (ix2 n k) ?_
  intro a
  fin_cases a
  · show n.val = n.val + 0
    omega
  · show k.val = 0 + k.val
    omega

theorem bias_apply (i : Fin 128) (k : Fin 512) : k0_pay18 (F := Ideal) x7 (ix2 i k) = x7 (ix2 i k) := by
  pointwise [k0_pay18]

/-- The tile, at a row. -/
theorem tile_apply (b : Fin 5 → Vec Ideal S520x512 .f32) (r : Fin 512) (k : Fin 1024) :
    tile x0 x1 x2 x4 x5 x6 x7 x8 x9 x10 x11 x12 x13 b (ix2 r k)
      = joined (fun l => x0 (ix2 r l))
          (fun l => carrier (fun l => x0 (ix2 r l)) (fun l => x1 (ix2 0 l)) (fun l j => x2 (ix2 l j)) l
            * gate (fun j => x6 (ix3 (⟨l.val / 64, by omega⟩ : Fin 8) (⟨r.val % 128, by omega⟩ : Fin 128) j))
                (fun j => gateRow (fun l => x0 (ix2 (⟨128 * (r.val / 128) + j.val, by omega⟩ : Fin 512) l)) (fun l => x1 (ix2 0 l))
                  (fun l j => x2 (ix2 l j)) (fun l => x4 (ix2 0 l)) (fun l => x5 (ix2 0 l)) l)
                (x7 (ix2 (⟨r.val % 128, by omega⟩ : Fin 128) l)) ⟨r.val % 128, by omega⟩)
          (settled (fun l => taps (tap b r l) (fun t => x8 (ix2 t l)) (x9 (ix2 0 l))) (fun l => x10 (ix2 0 l)) (fun l => x11 (ix2 0 l)))
          (fun l j => x12 (ix2 l j)) (fun l j => x13 (ix2 l j)) k := by
  unfold tile
  rw [result_apply]
  simp only [gatedHalf_apply, convTile_apply, carrier_apply, gateAt, gateRow_apply, bias_apply]
  exact congrArg₂ (fun F G => joined _ F G _ _ k)
    (funext fun l => congrArg (fun w => (_ : EReal) * gate w _ _ _) (funext fun j => slab_apply x6 ⟨l.val / 64, by omega⟩ _ j _))
    (congrArg (fun G => settled G _ _) (funext fun l => congrArg (fun w => taps _ w _) (funext fun n => tapRow_apply x8 n l _)))

end Tile

variable (m : (ℓ : Loc nD τ sig) → Buf (Elt Ideal) ℓ) (ρ : Dev nD → PrngReg) (c : Dev nD) (t : Fin cfg0.N)

/-- The kernel's arguments. -/
abbrev in0 : Vec Ideal S65536x1024 .f32 := m ((c : Thread nD τ).loc main_arg0)
abbrev in1 : Vec Ideal S1024 .f32 := m ((c : Thread nD τ).loc main_arg1)
abbrev in2 : Vec Ideal S1024x2048 .f32 := m ((c : Thread nD τ).loc main_arg2)
abbrev in3 : Vec Ideal S1024x1024 .f32 := m ((c : Thread nD τ).loc main_arg3)
abbrev in4 : Vec Ideal S512 .f32 := m ((c : Thread nD τ).loc main_arg4)
abbrev in5 : Vec Ideal S512 .f32 := m ((c : Thread nD τ).loc main_arg5)
abbrev in6 : Vec Ideal S8x128x128 .f32 := m ((c : Thread nD τ).loc main_arg6)
abbrev in7 : Vec Ideal S8x128 .f32 := m ((c : Thread nD τ).loc main_arg7)
abbrev in8 : Vec Ideal S31x512 .f32 := m ((c : Thread nD τ).loc main_arg8)
abbrev in9 : Vec Ideal S512 .f32 := m ((c : Thread nD τ).loc main_arg9)
abbrev in10 : Vec Ideal S512 .f32 := m ((c : Thread nD τ).loc main_arg10)
abbrev in11 : Vec Ideal S512 .f32 := m ((c : Thread nD τ).loc main_arg11)

/-- The block index of each window at each point: the tile for the input and the result, the whole array for the rest. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

/-- Row `r` of tile `t` among all the rows. -/
abbrev row (t : Fin cfg0.N) (r : Fin 512) : Fin 65536 :=
  ⟨512 * t.val + r.val, by have := (show t.val < 128 from t.isLt); omega⟩

theorem read0 (r : Fin 512) (l : Fin 1024) : iblk m c 0 t (ix2 r l) = in0 m c (ix2 (row t r) l) := by
  blk_point [iblk, V, idx t]
theorem read1 (l : Fin 1024) : iblk m c 1 t (ix2 0 l) = in1 m c (ix1 l) := by
  blk_point [iblk, V, idx t]
theorem read2 (l j : Fin 1024) : iblk m c 2 t (ix2 l j) = in2 m c (ix2 l (⟨j.val, by omega⟩ : Fin 2048)) := by
  blk_point [iblk, V, idx t]
theorem read3 (l j : Fin 1024) : iblk m c 3 t (ix2 l j) = in2 m c (ix2 l (⟨1024 + j.val, by omega⟩ : Fin 2048)) := by
  blk_point [iblk, V, idx t]
theorem read4 (l : Fin 512) : iblk m c 4 t (ix2 0 l) = in4 m c (ix1 l) := by
  blk_point [iblk, V, idx t]
theorem read5 (l : Fin 512) : iblk m c 5 t (ix2 0 l) = in5 m c (ix1 l) := by
  blk_point [iblk, V, idx t]
theorem read6 (n : Fin 8) (i j : Fin 128) : iblk m c 6 t (ix3 n i j) = in6 m c (ix3 n i j) := by
  blk_point [iblk, V, idx t]
theorem read7 (i : Fin 128) (l : Fin 512) : iblk m c 7 t (ix2 i l) = in7 m c (ix2 (⟨l.val / 64, by omega⟩ : Fin 8) i) := by
  blk_point [iblk, V, idx t]
theorem read8 (n : Fin 31) (l : Fin 512) : iblk m c 8 t (ix2 n l) = in8 m c (ix2 n l) := by
  blk_point [iblk, V, idx t]
theorem read9 (l : Fin 512) : iblk m c 9 t (ix2 0 l) = in9 m c (ix1 l) := by
  blk_point [iblk, V, idx t]
theorem read10 (l : Fin 512) : iblk m c 10 t (ix2 0 l) = in10 m c (ix1 l) := by
  blk_point [iblk, V, idx t]
theorem read11 (l : Fin 512) : iblk m c 11 t (ix2 0 l) = in11 m c (ix1 l) := by
  blk_point [iblk, V, idx t]
theorem read12 (l : Fin 512) (j : Fin 1024) : iblk m c 12 t (ix2 l j) = in3 m c (ix2 (⟨l.val, by omega⟩ : Fin 1024) j) := by
  blk_point [iblk, V, idx t]
theorem read13 (l : Fin 512) (j : Fin 1024) : iblk m c 13 t (ix2 l j) = in3 m c (ix2 (⟨512 + l.val, by omega⟩ : Fin 1024) j) := by
  blk_point [iblk, V, idx t]

/-- A tile's own rows of the stream. -/
theorem own_at (r k : Fin 512) :
    own (iblk m c 0 t) (iblk m c 1 t) (iblk m c 3 t) (ix2 r k) = streamAt (in0 m c) (in1 m c) (in2 m c) (row t r) k := by
  rw [own, stream_apply]
  simp only [read0, read1, read3]
  rfl

/-- What a point keeps for the next: the tile's last 32 rows of the stream. -/
theorem kept_at (r : Fin 32) (k : Fin 512) :
    (outsAt0 m c t.val t.isLt).2 (ix2 (⟨r.val, by omega⟩ : Fin 552) k)
      = streamAt (in0 m c) (in1 m c) (in2 m c) (row t ⟨480 + r.val, by omega⟩) k := by
  rw [← own_at]
  by_cases h : t.val % 16 = 0
  · rw [outsAt0_A m c t h]
    dsimp only
    rw [kept_A]
  · rw [outsAt0_B m c t h]
    dsimp only
    rw [kept_B]

/-- A tile of the result, given what its taps read. -/
theorem point_of (b : Fin 5 → Vec Ideal S520x512 .f32)
    (hb : ∀ (r k : Fin 512) (s : Fin 31), tap b r k s = pastAt (in0 m c) (in1 m c) (in2 m c) (row t r) k s) (r : Fin 512) (k : Fin 1024) :
    tile (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) (iblk m c 13 t) b (ix2 r k)
      = whole (in0 m c) (in1 m c) (in2 m c) (in3 m c) (in4 m c) (in5 m c) (in6 m c) (in7 m c) (in8 m c) (in9 m c) (in10 m c)
        (in11 m c) (ix2 (row t r) k) := by
  rw [tile_apply]
  simp only [read0, read1, read2, read4, read5, read6, read7, read8, read9, read10, read11, read12, read13]
  have ht : ∀ l, tap b r l = pastAt (in0 m c) (in1 m c) (in2 m c) (row t r) l := fun l => funext fun s => hb r l s
  have hi : (⟨r.val % 128, by omega⟩ : Fin 128) = ⟨(row t r).val % 128, by omega⟩ := Fin.ext (by
    show r.val % 128 = (512 * t.val + r.val) % 128
    omega)
  have hj : ∀ j : Fin 128, row t ⟨128 * (r.val / 128) + j.val, by omega⟩ = ⟨(row t r).val / 128 * 128 + j.val, by omega⟩ := fun j =>
    Fin.ext (by
      show 512 * t.val + (128 * (r.val / 128) + j.val) = (512 * t.val + r.val) / 128 * 128 + j.val
      omega)
  simp only [ht, hi, hj]
  rfl

/-- What a point leaves in its tile of the result. -/
theorem point (r : Fin 512) (k : Fin 1024) :
    (outsAt0 m c t.val t.isLt).1 (ix2 r k)
      = whole (in0 m c) (in1 m c) (in2 m c) (in3 m c) (in4 m c) (in5 m c) (in6 m c) (in7 m c) (in8 m c) (in9 m c) (in10 m c)
        (in11 m c) (ix2 (row t r) k) := by
  by_cases h : t.val % 16 = 0
  · rw [outsAt0_A m c t h]
    dsimp only
    rw [out_A]
    refine point_of m c t _ (fun r k s => ?_) r k
    unfold pastAt
    by_cases hs : 30 ≤ s.val + r.val
    · rw [tap_own _ _ _ _ _ _ _ hs, own_at, if_pos (by show 30 ≤ (512 * t.val + r.val) % 8192 + s.val; omega)]
      exact congrArg (fun R => streamAt (in0 m c) (in1 m c) (in2 m c) R k) (Fin.ext (by
        show 512 * t.val + (s.val + r.val - 30) = 512 * t.val + r.val + s.val - 30
        omega))
    · rw [tap_before _ _ _ _ _ _ _ (by omega), if_neg (by show ¬30 ≤ (512 * t.val + r.val) % 8192 + s.val; omega)]
      exact blank_before _ _ k ⟨2 + s.val + r.val, by omega⟩
  · rw [outsAt0_B m c t h]
    dsimp only
    rw [out_B]
    refine point_of m c t _ (fun r k s => ?_) r k
    unfold pastAt
    rw [if_pos (by show 30 ≤ (512 * t.val + r.val) % 8192 + s.val; omega)]
    by_cases hs : 30 ≤ s.val + r.val
    · rw [tap_own _ _ _ _ _ _ _ hs, own_at]
      exact congrArg (fun R => streamAt (in0 m c) (in1 m c) (in2 m c) R k) (Fin.ext (by
        show 512 * t.val + (s.val + r.val - 30) = 512 * t.val + r.val + s.val - 30
        omega))
    · rw [tap_before _ _ _ _ _ _ _ (by omega)]
      have hn : (2 + s.val) / 8 < 4 := by omega
      have e : ∀ (n : Fin 5) (f g : scM0_0.view.ty.Contents (Elt Ideal)), n.val < 4 → ![f, f, f, f, g] n = f := by
        intro n f g hn
        fin_cases n
        · rfl
        · rfl
        · rfl
        · rfl
        · exact absurd hn (by decide)
      rw [e _ _ _ hn]
      refine (congrFun ((Memref.isWhole_whole _).read_unread _) _).trans ?_
      refine (kept_at m c ⟨t.val - 1, by omega⟩ ⟨2 + s.val + r.val, by omega⟩ k).trans ?_
      exact congrArg (fun R => streamAt (in0 m c) (in1 m c) (in2 m c) R k) (Fin.ext (by
        show 512 * (t.val - 1) + (480 + (2 + s.val + r.val)) = 512 * t.val + r.val + s.val - 30
        omega))

/-- The result array is that of the arguments. -/
theorem final : (dats m 0 c).arrAt 14 cfg0.N
    = whole (in0 m c) (in1 m c) (in2 m c) (in3 m c) (in4 m c) (in5 m c) (in6 m c) (in7 m c) (in8 m c) (in9 m c) (in10 m c)
        (in11 m c) := by
  refine (dats m 0 c).arrAt_eq_of_covers 14 _ (by decide +kernel) fun t hf y => ?_
  blk_simp
  rw [after0_14]
  idx_vars y
  refine (point m c t _ _).trans ?_
  blk_ext [idx t]

end Cert.Proof.Odd

namespace Cert.Proof.Odd

open Cert.OddReferenceIdeal Cert.OddReferenceIdeal.Value in
/-- At the reals the kernel's array and the reference's agree. -/
theorem algebraic : Cert.algebraic_OddKernelIdeal_OddReferenceIdeal := by
  pair_intro
  · run_from Cert.OddKernelIdeal.Value.run_blocks m g
  · run_from Cert.OddReferenceIdeal.Value.run m' g'
    obtain ⟨h0, h1, h2, h3, h4, h5, h6, h7, h8, h9, h10, h11⟩ := hagree c
    rw [← h0, ← h3]
    refine (reference (StableHlo.launchContents m' c)).trans ?_
    refine Eq.trans ?_ (final m c).symm
    show whole (m' (c.tc.loc main_arg0)) (m' (c.tc.loc main_arg1)) (m' (c.tc.loc main_arg2)) (m' (c.tc.loc main_arg3))
          (m' (c.tc.loc main_arg4)) (m' (c.tc.loc main_arg5)) (m' (c.tc.loc main_arg6)) (m' (c.tc.loc main_arg7))
          (m' (c.tc.loc main_arg8)) (m' (c.tc.loc main_arg9)) (m' (c.tc.loc main_arg10)) (m' (c.tc.loc main_arg11)) = _
    rw [h0, h1, h2, h3, h4, h5, h6, h7, h8, h9, h10, h11]

end Cert.Proof.Odd

end
-- ==== Proof.EvenFrame.lean ====
/- The frame of the even layer's projections: its body at every grid point, the launch with every output left unsaid, and the claim's
   post from the launch. -/
module

public import proofs.«01_k».proof.Proof.Gen.EvenKernel.Frame
public import proofs.«01_k».proof.Proof.Gen.EvenKernel.Skeleton

@[expose] public section

set_option maxRecDepth 16384

noncomputable section

namespace Cert.Proof.Even

open Cert.EvenKernel Cert.EvenKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body holds on each side: its inputs at their contents, the outputs of which nothing is said at some contents. -/
def plainAround (c : Dev nD)
  (a0 : Memref sig .tc .vmem S512x1024 .f32) (a1 : Memref sig .tc .vmem S512x1 .i32) (a2 : Memref sig .tc .vmem S1x1024 .f32)
  (a3 : Memref sig .tc .vmem S1x128 .f32) (a4 : Memref sig .tc .vmem S1x128 .f32) (a5 : Memref sig .tc .vmem S1024x1664 .bf16)
  (a6 : Memref sig .tc .vmem S1024x384 .bf16) (a7 : Memref sig .tc .vmem S1024x640 .bf16)
  (a8 : Memref sig .tc .vmem S8x1024 .bf16) (a9 : Memref sig .tc .vmem S1x1664 .f32) (a10 : Memref sig .tc .vmem S1x1664 .f32)
  (a11 : Memref sig .tc .vmem S256x256 .bf16) (a12 : Memref sig .tc .vmem S512x512 .bf16)
  (a13 : Memref sig .tc .vmem S512x128 .bf16) (a14 : Memref sig .tc .vmem S512x512 .bf16)
  (a15 : Memref sig .tc .vmem S512x512 .bf16) (a16 : Memref sig .tc .vmem S512x256 .bf16)
  (a17 : Memref sig .tc .vmem S512x128 .bf16) (a18 : Memref sig .tc .vmem S512x128 .bf16)
  (a19 : Memref sig .tc .vmem S512x512 .bf16) (a20 : Memref sig .tc .vmem S8x512 .f32)
  (x0 : Vec F S512x1024 .f32) (x1 : Vec F S512x1 .i32) (x2 : Vec F S1x1024 .f32) (x3 : Vec F S1x128 .f32)
  (x4 : Vec F S1x128 .f32) (x5 : Vec F S1024x1664 .bf16) (x6 : Vec F S1024x384 .bf16) (x7 : Vec F S1024x640 .bf16)
  (x8 : Vec F S8x1024 .bf16) (x9 : Vec F S1x1664 .f32) (x10 : Vec F S1x1664 .f32) (x11 : Vec F S256x256 .bf16) : sProp 𝕄 :=
  iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare x4
    ∗ owns (c : Thread nD τ) a5 fullShare x5
    ∗ owns (c : Thread nD τ) a6 fullShare x6
    ∗ owns (c : Thread nD τ) a7 fullShare x7
    ∗ owns (c : Thread nD τ) a8 fullShare x8
    ∗ owns (c : Thread nD τ) a9 fullShare x9
    ∗ owns (c : Thread nD τ) a10 fullShare x10
    ∗ owns (c : Thread nD τ) a11 fullShare x11
    ∗ (∃ d, owns (c : Thread nD τ) a12 fullShare d)
    ∗ (∃ d, owns (c : Thread nD τ) a13 fullShare d)
    ∗ (∃ d, owns (c : Thread nD τ) a14 fullShare d)
    ∗ (∃ d, owns (c : Thread nD τ) a15 fullShare d)
    ∗ (∃ d, owns (c : Thread nD τ) a16 fullShare d)
    ∗ (∃ d, owns (c : Thread nD τ) a17 fullShare d)
    ∗ (∃ d, owns (c : Thread nD τ) a18 fullShare d)
    ∗ (∃ d, owns (c : Thread nD τ) a19 fullShare d)
    ∗ (∃ d, owns (c : Thread nD τ) a20 fullShare d))

set_option maxHeartbeats 1000000 in
/-- The body runs from what it holds to the same. -/
theorem plain_runs (c : Dev nD) (i : grid0.Coords)
  (a0 : Memref sig .tc .vmem S512x1024 .f32) (h0 : a0.IsWhole) (a1 : Memref sig .tc .vmem S512x1 .i32) (h1 : a1.IsWhole)
  (a2 : Memref sig .tc .vmem S1x1024 .f32) (h2 : a2.IsWhole) (a3 : Memref sig .tc .vmem S1x128 .f32) (h3 : a3.IsWhole)
  (a4 : Memref sig .tc .vmem S1x128 .f32) (h4 : a4.IsWhole) (a5 : Memref sig .tc .vmem S1024x1664 .bf16) (h5 : a5.IsWhole)
  (a6 : Memref sig .tc .vmem S1024x384 .bf16) (h6 : a6.IsWhole) (a7 : Memref sig .tc .vmem S1024x640 .bf16) (h7 : a7.IsWhole)
  (a8 : Memref sig .tc .vmem S8x1024 .bf16) (h8 : a8.IsWhole) (a9 : Memref sig .tc .vmem S1x1664 .f32) (h9 : a9.IsWhole)
  (a10 : Memref sig .tc .vmem S1x1664 .f32) (h10 : a10.IsWhole) (a11 : Memref sig .tc .vmem S256x256 .bf16) (h11 : a11.IsWhole)
  (a12 : Memref sig .tc .vmem S512x512 .bf16) (h12 : a12.IsWhole)
  (a13 : Memref sig .tc .vmem S512x128 .bf16) (h13 : a13.IsWhole)
  (a14 : Memref sig .tc .vmem S512x512 .bf16) (h14 : a14.IsWhole)
  (a15 : Memref sig .tc .vmem S512x512 .bf16) (h15 : a15.IsWhole)
  (a16 : Memref sig .tc .vmem S512x256 .bf16) (h16 : a16.IsWhole)
  (a17 : Memref sig .tc .vmem S512x128 .bf16) (h17 : a17.IsWhole)
  (a18 : Memref sig .tc .vmem S512x128 .bf16) (h18 : a18.IsWhole)
  (a19 : Memref sig .tc .vmem S512x512 .bf16) (h19 : a19.IsWhole) (a20 : Memref sig .tc .vmem S8x512 .f32) (h20 : a20.IsWhole)
  (x0 : Vec F S512x1024 .f32) (x1 : Vec F S512x1 .i32) (x2 : Vec F S1x1024 .f32) (x3 : Vec F S1x128 .f32)
  (x4 : Vec F S1x128 .f32) (x5 : Vec F S1024x1664 .bf16) (x6 : Vec F S1024x384 .bf16) (x7 : Vec F S1024x640 .bf16)
  (x8 : Vec F S8x1024 .bf16) (x9 : Vec F S1x1664 .f32) (x10 : Vec F S1x1664 .f32) (x11 : Vec F S256x256 .bf16) (K : PUnit → sProp 𝕄) :
    iprop(plainAround c a0 a1 a2 a3 a4 a5 a6 a7 a8 a9 a10 a11 a12 a13 a14 a15 a16 a17 a18 a19 a20 x0 x1 x2 x3 x4 x5 x6 x7 x8 x9 x10 x11
        ∗ (iprop(plainAround c a0 a1 a2 a3 a4 a5 a6 a7 a8 a9 a10 a11 a12 a13 a14 a15 a16 a17 a18 a19 a20 x0 x1 x2 x3 x4 x5 x6 x7 x8 x9 x10 x11) -∗ K ⟨⟩))
      ⊢ wp frame (wpE (defs₀ (F := F)) Variants.none c none) Set.univ (cc0_even_proj i
        a0 h0 a1 h1 a2 h2 a3 h3 a4 h4 a5 h5 a6 h6 a7 h7 a8 h8 a9 h9 a10 h10 a11 h11 a12 h12 a13 h13 a14 h14 a15 h15 a16 h16
        a17 h17 a18 h18 a19 h19 a20 h20) K := by
  simp only [cc0_even_proj_eq_skeleton]
  unfold cc0_even_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold plainAround owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  subst e0 e1 e2 e3 e4 e5 e6 e7 e8 e9 e10 e11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  isplitl [H19]
  · iexists _; iexists _; isplitr; swap; · iexact H19
    ipureintro; rfl
  iexists _; iexists _; isplitr; swap; · iexact H20
  ipureintro; rfl

/-- The outputs of which nothing is said. -/
def plainUnsaid : Fin 21 → Bool := fun w => 12 ≤ w.val

/-- What the launch is told: each array as the region finds it, each input's buffer left at its block. -/
def plainDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Dat.unnamed (cfg := cfg0) ⟨12, h⟩ t
    | ⟨13, h⟩ => Dat.unnamed (cfg := cfg0) ⟨13, h⟩ t
    | ⟨14, h⟩ => Dat.unnamed (cfg := cfg0) ⟨14, h⟩ t
    | ⟨15, h⟩ => Dat.unnamed (cfg := cfg0) ⟨15, h⟩ t
    | ⟨16, h⟩ => Dat.unnamed (cfg := cfg0) ⟨16, h⟩ t
    | ⟨17, h⟩ => Dat.unnamed (cfg := cfg0) ⟨17, h⟩ t
    | ⟨18, h⟩ => Dat.unnamed (cfg := cfg0) ⟨18, h⟩ t
    | ⟨19, h⟩ => Dat.unnamed (cfg := cfg0) ⟨19, h⟩ t
    | ⟨20, h⟩ => Dat.unnamed (cfg := cfg0) ⟨20, h⟩ t
    | ⟨_ + 21, h⟩ => absurd h (Nat.not_lt.2 (Nat.le_add_left _ _))
  Φ _ := Pipeline.ΦA spec0 c
  q _ := fullShare
  owed _ := 0

theorem plain_A (c : Dev nD) (w : Fin cfg0.W) : (plainDats m 0 c).A w = V m c (Pipeline.arrRef spec0 w) := by
  dsimp only [plainDats]

theorem plain_before0 (c : Dev nD) (t : Fin cfg0.N) (d) : (plainDats m 0 c).before 0 t d = iblk m c 0 t :=
  before0_0_of m (plainDats m 0 c) (plain_A m c 0) (fun _ => by dsimp only [plainDats]) t d
theorem plain_before1 (c : Dev nD) (t : Fin cfg0.N) (d) : (plainDats m 0 c).before 1 t d = iblk m c 1 t :=
  before0_1_of m (plainDats m 0 c) (plain_A m c 1) (fun _ => by dsimp only [plainDats]) t d
theorem plain_before2 (c : Dev nD) (t : Fin cfg0.N) (d) : (plainDats m 0 c).before 2 t d = iblk m c 2 t :=
  before0_2_of m (plainDats m 0 c) (plain_A m c 2) (fun _ => by dsimp only [plainDats]) t d
theorem plain_before3 (c : Dev nD) (t : Fin cfg0.N) (d) : (plainDats m 0 c).before 3 t d = iblk m c 3 t :=
  before0_3_of m (plainDats m 0 c) (plain_A m c 3) (fun _ => by dsimp only [plainDats]) t d
theorem plain_before4 (c : Dev nD) (t : Fin cfg0.N) (d) : (plainDats m 0 c).before 4 t d = iblk m c 4 t :=
  before0_4_of m (plainDats m 0 c) (plain_A m c 4) (fun _ => by dsimp only [plainDats]) t d
theorem plain_before5 (c : Dev nD) (t : Fin cfg0.N) (d) : (plainDats m 0 c).before 5 t d = iblk m c 5 t :=
  before0_5_of m (plainDats m 0 c) (plain_A m c 5) (fun _ => by dsimp only [plainDats]) t d
theorem plain_before6 (c : Dev nD) (t : Fin cfg0.N) (d) : (plainDats m 0 c).before 6 t d = iblk m c 6 t :=
  before0_6_of m (plainDats m 0 c) (plain_A m c 6) (fun _ => by dsimp only [plainDats]) t d
theorem plain_before7 (c : Dev nD) (t : Fin cfg0.N) (d) : (plainDats m 0 c).before 7 t d = iblk m c 7 t :=
  before0_7_of m (plainDats m 0 c) (plain_A m c 7) (fun _ => by dsimp only [plainDats]) t d
theorem plain_before8 (c : Dev nD) (t : Fin cfg0.N) (d) : (plainDats m 0 c).before 8 t d = iblk m c 8 t :=
  before0_8_of m (plainDats m 0 c) (plain_A m c 8) (fun _ => by dsimp only [plainDats]) t d
theorem plain_before9 (c : Dev nD) (t : Fin cfg0.N) (d) : (plainDats m 0 c).before 9 t d = iblk m c 9 t :=
  before0_9_of m (plainDats m 0 c) (plain_A m c 9) (fun _ => by dsimp only [plainDats]) t d
theorem plain_before10 (c : Dev nD) (t : Fin cfg0.N) (d) : (plainDats m 0 c).before 10 t d = iblk m c 10 t :=
  before0_10_of m (plainDats m 0 c) (plain_A m c 10) (fun _ => by dsimp only [plainDats]) t d
theorem plain_before11 (c : Dev nD) (t : Fin cfg0.N) (d) : (plainDats m 0 c).before 11 t d = iblk m c 11 t :=
  before0_11_of m (plainDats m 0 c) (plain_A m c 11) (fun _ => by dsimp only [plainDats]) t d

/-- What the body is called with at a point, and what it hands back. -/
def plainPre (c : Dev nD) (t : Fin cfg0.N) : sProp 𝕄 :=
  iprop((plainDats m 0 c).Φ t.castSucc ∗ (plainDats m 0 c).owesAt () t.castSucc
    ∗ (∃ d, owns (c : Thread nD τ) (st0_0 t) fullShare ((plainDats m 0 c).before 0 t d))
    ∗ (∃ d, owns (c : Thread nD τ) (st0_1 t) fullShare ((plainDats m 0 c).before 1 t d))
    ∗ (∃ d, owns (c : Thread nD τ) (st0_2 t) fullShare ((plainDats m 0 c).before 2 t d))
    ∗ (∃ d, owns (c : Thread nD τ) (st0_3 t) fullShare ((plainDats m 0 c).before 3 t d))
    ∗ (∃ d, owns (c : Thread nD τ) (st0_4 t) fullShare ((plainDats m 0 c).before 4 t d))
    ∗ (∃ d, owns (c : Thread nD τ) (st0_5 t) fullShare ((plainDats m 0 c).before 5 t d))
    ∗ (∃ d, owns (c : Thread nD τ) (st0_6 t) fullShare ((plainDats m 0 c).before 6 t d))
    ∗ (∃ d, owns (c : Thread nD τ) (st0_7 t) fullShare ((plainDats m 0 c).before 7 t d))
    ∗ (∃ d, owns (c : Thread nD τ) (st0_8 t) fullShare ((plainDats m 0 c).before 8 t d))
    ∗ (∃ d, owns (c : Thread nD τ) (st0_9 t) fullShare ((plainDats m 0 c).before 9 t d))
    ∗ (∃ d, owns (c : Thread nD τ) (st0_10 t) fullShare ((plainDats m 0 c).before 10 t d))
    ∗ (∃ d, owns (c : Thread nD τ) (st0_11 t) fullShare ((plainDats m 0 c).before 11 t d))
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X))

def plainPost (c : Dev nD) (t : Fin cfg0.N) : sProp 𝕄 :=
  iprop((plainDats m 0 c).Φ t.succ ∗ (plainDats m 0 c).owesAt () t.succ
    ∗ owns (c : Thread nD τ) (st0_0 t) fullShare ((plainDats m 0 c).after 0 t)
    ∗ owns (c : Thread nD τ) (st0_1 t) fullShare ((plainDats m 0 c).after 1 t)
    ∗ owns (c : Thread nD τ) (st0_2 t) fullShare ((plainDats m 0 c).after 2 t)
    ∗ owns (c : Thread nD τ) (st0_3 t) fullShare ((plainDats m 0 c).after 3 t)
    ∗ owns (c : Thread nD τ) (st0_4 t) fullShare ((plainDats m 0 c).after 4 t)
    ∗ owns (c : Thread nD τ) (st0_5 t) fullShare ((plainDats m 0 c).after 5 t)
    ∗ owns (c : Thread nD τ) (st0_6 t) fullShare ((plainDats m 0 c).after 6 t)
    ∗ owns (c : Thread nD τ) (st0_7 t) fullShare ((plainDats m 0 c).after 7 t)
    ∗ owns (c : Thread nD τ) (st0_8 t) fullShare ((plainDats m 0 c).after 8 t)
    ∗ owns (c : Thread nD τ) (st0_9 t) fullShare ((plainDats m 0 c).after 9 t)
    ∗ owns (c : Thread nD τ) (st0_10 t) fullShare ((plainDats m 0 c).after 10 t)
    ∗ owns (c : Thread nD τ) (st0_11 t) fullShare ((plainDats m 0 c).after 11 t)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X))

set_option maxHeartbeats 4000000 in
theorem plain_body (c : Dev nD) (t : Fin cfg0.N) :
    plainPre m c t ⊢ wp frame (wpE (defs₀ (F := F)) Variants.none c none) Set.univ (bodyAt0 t) (fun _ => plainPost m c t) := by
  unfold plainPre plainPost bodyAt0
  simp only [plain_before0, plain_before1, plain_before2, plain_before3, plain_before4, plain_before5, plain_before6, plain_before7, plain_before8, plain_before9, plain_before10, plain_before11]
  rw [show (plainDats m 0 c).Φ t.succ = (plainDats m 0 c).Φ t.castSucc from rfl, show (plainDats m 0 c).owesAt () t.succ = (plainDats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16, H17, H18, H19, H20⟩
  iapply (plain_runs c (grid0.coords t) _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  unfold plainAround
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem plain_row (t : Fin cfg0.N) : (defs₀ (F := F)) .tc cfg0.body (cfg0.bodyArgs t (cfg0.slots t)) = bodyAt0 t := by
  unfold defs₀; rw [Defs.onTc_tc]

set_option maxHeartbeats 1000000 in
theorem plain_obligation (c : Dev nD) :
    BodyObligation (plainDats (F := F) m 0 c) (defs₀ (F := F)) Variants.none () Set.univ plainUnsaid := fun t => by
  rw [bigSep_W0, bigSep_W0, plain_row]
  exact triple_restated (plain_body m c t) rfl .rfl fun _ => .rfl

set_option maxHeartbeats 1000000 in
/-- The program runs, every array of which something is said ends at it, and every semaphore counter at zero. -/
theorem plain_run : θ_run (defs (F := F)) (onTc (τ := τ) (main (F := F))) (s₀ m ρ)
    (fun r => Pipeline.RDat.FramePost (cfgs 0) (fun c => (plainDats m 0 c).toRForget plainUnsaid) (V m) r ∧ r.2.sem = fun _ => 0) :=
  Pipeline.θ_run_frame_forget (Q' := _) cfgs (plainDats m) (0 : Fin 1) launch0 defs₀ Variants.none plainUnsaid m ρ main
    (hbody := fun c => (plain_obligation m c).loose) (hshare := fun c => (plainDats m 0 c).share_full fun _ => rfl)
    (howed := fun _ _ => rfl) (V := V m) (hmain := hmain m Variants.none) (hA := plain_A m) (hΦ := fun _ _ => rfl)

set_option maxHeartbeats 4000000 in
theorem plain_kept (r : PUnit × MemSt nD τ sig (Elt F))
    (h : Pipeline.RDat.FramePost (cfgs 0) (fun c => (plainDats m 0 c).toRForget plainUnsaid) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans ((plain_A m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The program runs, its arguments end as they were, and every semaphore counter at zero. -/
theorem plain_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨plain_kept m r h.1, h.2⟩) (plain_run m ρ)

end Cert.Proof.Even

end
-- ==== Proof.EvenIdealFrame.lean ====
/- The idealized even projections run: the three plain outputs end at their named blocks, of the others nothing is said; the frame, and
   the run that the values are read from. -/
module

public import proofs.«01_k».proof.Proof.Gen.EvenKernelIdeal.Frame
public import proofs.«01_k».proof.Proof.Gen.EvenKernelIdeal.Skeleton

@[expose] public section

set_option maxRecDepth 16384

noncomputable section

namespace Cert.Proof.Even

open Cert.EvenKernelIdeal Cert.EvenKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whole blocks, and the two runs of columns of the plain projections' weights. -/
abbrev rowsAll : Rect S512x1024 := Rect.unit (s := S512x1024) ![0, 0] S512x1024.size inb_S512x1024_S512x1024_0_0
abbrev gainAll : Rect S1x1024 := Rect.unit (s := S1x1024) ![0, 0] S1x1024.size inb_S1x1024_S1x1024_0_0
abbrev avCols : Rect S1024x640 := Rect.unit (s := S1024x640) ![0, 0] S1024x128.size inb_S1024x640_S1024x128_0_0
abbrev bvCols : Rect S1024x640 := Rect.unit (s := S1024x640) ![0, 128] S1024x512.size inb_S1024x640_S1024x512_0_128
abbrev iwAll : Rect S8x1024 := Rect.unit (s := S8x1024) ![0, 0] S8x1024.size inb_S8x1024_S8x1024_0_0
abbrev avAll : Rect S512x128 := Rect.unit (s := S512x128) ![0, 0] S512x128.size inb_S512x128_S512x128_0_0
abbrev bvAll : Rect S512x512 := Rect.unit (s := S512x512) ![0, 0] S512x512.size inb_S512x512_S512x512_0_0
abbrev iwOut : Rect S8x512 := Rect.unit (s := S8x512) ![0, 0] S8x512.size inb_S8x512_S8x512_0_0

/-- The blocks of the three outputs that are said: the latent values, the second attention's values, the index weights. -/
def avBlock (x : Vec F S512x1024 .f32) (g : Vec F S1x1024 .f32) (w : Vec F S1024x640 .bf16) : Vec F S512x128 .bf16 :=
  View.canon [⟨avAll, k0_pay1 (k0_pay4 (View.ld x rowsAll) (View.ld g gainAll)) (View.ld w avCols)⟩]
def bvBlock (x : Vec F S512x1024 .f32) (g : Vec F S1x1024 .f32) (w : Vec F S1024x640 .bf16) : Vec F S512x512 .bf16 :=
  View.canon [⟨bvAll, k0_pay2 (k0_pay4 (View.ld x rowsAll) (View.ld g gainAll)) (View.ld w bvCols)⟩]
def iwBlock (x : Vec F S512x1024 .f32) (g : Vec F S1x1024 .f32) (w : Vec F S8x1024 .bf16) : Vec F S8x512 .f32 :=
  View.canon [⟨iwOut, k0_pay3 (k0_pay4 (View.ld x rowsAll) (View.ld g gainAll)) (View.ld w iwAll)⟩]

/-- Each is stored whole, so its one store covers it. -/
theorem avCover (p : Vec F S512x128 .bf16) (y : S512x128.Idx) :
    ∃ pc ∈ ([⟨avAll, p⟩] : List (View.Piece (Elt F) S512x128 .bf16)), y ∈ pc.1.set :=
  View.cover_of_tiled [⟨avAll, p⟩] S512x128.size (by rfl) y
theorem bvCover (p : Vec F S512x512 .bf16) (y : S512x512.Idx) :
    ∃ pc ∈ ([⟨bvAll, p⟩] : List (View.Piece (Elt F) S512x512 .bf16)), y ∈ pc.1.set :=
  View.cover_of_tiled [⟨bvAll, p⟩] S512x512.size (by rfl) y
theorem iwCover (p : Vec F S8x512 .f32) (y : S8x512.Idx) :
    ∃ pc ∈ ([⟨iwOut, p⟩] : List (View.Piece (Elt F) S8x512 .f32)), y ∈ pc.1.set :=
  View.cover_of_tiled [⟨iwOut, p⟩] S8x512.size (by rfl) y

/-- What the body holds on each side: its inputs at their contents, the outputs of which nothing is said at some contents. -/
def evenAround (c : Dev nD)
  (a0 : Memref sig .tc .vmem S512x1024 .f32) (a1 : Memref sig .tc .vmem S512x1 .i32) (a2 : Memref sig .tc .vmem S1x1024 .f32)
  (a3 : Memref sig .tc .vmem S1x128 .f32) (a4 : Memref sig .tc .vmem S1x128 .f32) (a5 : Memref sig .tc .vmem S1024x1664 .bf16)
  (a6 : Memref sig .tc .vmem S1024x384 .bf16) (a7 : Memref sig .tc .vmem S1024x640 .bf16)
  (a8 : Memref sig .tc .vmem S8x1024 .bf16) (a9 : Memref sig .tc .vmem S1x1664 .f32) (a10 : Memref sig .tc .vmem S1x1664 .f32)
  (a11 : Memref sig .tc .vmem S256x256 .bf16) (a12 : Memref sig .tc .vmem S512x512 .bf16)
  (a13 : Memref sig .tc .vmem S512x128 .bf16) (a14 : Memref sig .tc .vmem S512x512 .bf16)
  (a15 : Memref sig .tc .vmem S512x512 .bf16) (a16 : Memref sig .tc .vmem S512x256 .bf16)
  (a17 : Memref sig .tc .vmem S512x128 .bf16)
  (x0 : Vec F S512x1024 .f32) (x1 : Vec F S512x1 .i32) (x2 : Vec F S1x1024 .f32) (x3 : Vec F S1x128 .f32)
  (x4 : Vec F S1x128 .f32) (x5 : Vec F S1024x1664 .bf16) (x6 : Vec F S1024x384 .bf16) (x7 : Vec F S1024x640 .bf16)
  (x8 : Vec F S8x1024 .bf16) (x9 : Vec F S1x1664 .f32) (x10 : Vec F S1x1664 .f32) (x11 : Vec F S256x256 .bf16) : sProp 𝕄 :=
  iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare x4
    ∗ owns (c : Thread nD τ) a5 fullShare x5
    ∗ owns (c : Thread nD τ) a6 fullShare x6
    ∗ owns (c : Thread nD τ) a7 fullShare x7
    ∗ owns (c : Thread nD τ) a8 fullShare x8
    ∗ owns (c : Thread nD τ) a9 fullShare x9
    ∗ owns (c : Thread nD τ) a10 fullShare x10
    ∗ owns (c : Thread nD τ) a11 fullShare x11
    ∗ (∃ d, owns (c : Thread nD τ) a12 fullShare d)
    ∗ (∃ d, owns (c : Thread nD τ) a13 fullShare d)
    ∗ (∃ d, owns (c : Thread nD τ) a14 fullShare d)
    ∗ (∃ d, owns (c : Thread nD τ) a15 fullShare d)
    ∗ (∃ d, owns (c : Thread nD τ) a16 fullShare d)
    ∗ (∃ d, owns (c : Thread nD τ) a17 fullShare d))

set_option maxHeartbeats 1000000 in
/-- The body runs from what it holds to the same, the three named outputs at their blocks. -/
theorem even_runs (c : Dev nD) (i : grid0.Coords)
  (a0 : Memref sig .tc .vmem S512x1024 .f32) (h0 : a0.IsWhole) (a1 : Memref sig .tc .vmem S512x1 .i32) (h1 : a1.IsWhole)
  (a2 : Memref sig .tc .vmem S1x1024 .f32) (h2 : a2.IsWhole) (a3 : Memref sig .tc .vmem S1x128 .f32) (h3 : a3.IsWhole)
  (a4 : Memref sig .tc .vmem S1x128 .f32) (h4 : a4.IsWhole) (a5 : Memref sig .tc .vmem S1024x1664 .bf16) (h5 : a5.IsWhole)
  (a6 : Memref sig .tc .vmem S1024x384 .bf16) (h6 : a6.IsWhole) (a7 : Memref sig .tc .vmem S1024x640 .bf16) (h7 : a7.IsWhole)
  (a8 : Memref sig .tc .vmem S8x1024 .bf16) (h8 : a8.IsWhole) (a9 : Memref sig .tc .vmem S1x1664 .f32) (h9 : a9.IsWhole)
  (a10 : Memref sig .tc .vmem S1x1664 .f32) (h10 : a10.IsWhole) (a11 : Memref sig .tc .vmem S256x256 .bf16) (h11 : a11.IsWhole)
  (a12 : Memref sig .tc .vmem S512x512 .bf16) (h12 : a12.IsWhole)
  (a13 : Memref sig .tc .vmem S512x128 .bf16) (h13 : a13.IsWhole)
  (a14 : Memref sig .tc .vmem S512x512 .bf16) (h14 : a14.IsWhole)
  (a15 : Memref sig .tc .vmem S512x512 .bf16) (h15 : a15.IsWhole)
  (a16 : Memref sig .tc .vmem S512x256 .bf16) (h16 : a16.IsWhole)
  (a17 : Memref sig .tc .vmem S512x128 .bf16) (h17 : a17.IsWhole)
  (a18 : Memref sig .tc .vmem S512x128 .bf16) (h18 : a18.IsWhole)
  (a19 : Memref sig .tc .vmem S512x512 .bf16) (h19 : a19.IsWhole) (a20 : Memref sig .tc .vmem S8x512 .f32) (h20 : a20.IsWhole)
  (x0 : Vec F S512x1024 .f32) (x1 : Vec F S512x1 .i32) (x2 : Vec F S1x1024 .f32) (x3 : Vec F S1x128 .f32)
  (x4 : Vec F S1x128 .f32) (x5 : Vec F S1024x1664 .bf16) (x6 : Vec F S1024x384 .bf16) (x7 : Vec F S1024x640 .bf16)
  (x8 : Vec F S8x1024 .bf16) (x9 : Vec F S1x1664 .f32) (x10 : Vec F S1x1664 .f32) (x11 : Vec F S256x256 .bf16) (K : PUnit → sProp 𝕄) :
    iprop(evenAround c a0 a1 a2 a3 a4 a5 a6 a7 a8 a9 a10 a11 a12 a13 a14 a15 a16 a17 x0 x1 x2 x3 x4 x5 x6 x7 x8 x9 x10 x11 ∗ (∃ d, owns (c : Thread nD τ) a18 fullShare d) ∗ (∃ d, owns (c : Thread nD τ) a19 fullShare d) ∗ (∃ d, owns (c : Thread nD τ) a20 fullShare d)
        ∗ (iprop(evenAround c a0 a1 a2 a3 a4 a5 a6 a7 a8 a9 a10 a11 a12 a13 a14 a15 a16 a17 x0 x1 x2 x3 x4 x5 x6 x7 x8 x9 x10 x11 ∗ owns (c : Thread nD τ) a18 fullShare (avBlock x0 x2 x7) ∗ owns (c : Thread nD τ) a19 fullShare (bvBlock x0 x2 x7) ∗ owns (c : Thread nD τ) a20 fullShare (iwBlock x0 x2 x8)) -∗ K ⟨⟩))
      ⊢ wp frame (wpE (defs₀ (F := F)) Variants.none c none) Set.univ (cc0_even_proj i
        a0 h0 a1 h1 a2 h2 a3 h3 a4 h4 a5 h5 a6 h6 a7 h7 a8 h8 a9 h9 a10 h10 a11 h11 a12 h12 a13 h13 a14 h14 a15 h15 a16 h16
        a17 h17 a18 h18 a19 h19 a20 h20) K := by
  simp only [cc0_even_proj_eq_skeleton]
  unfold cc0_even_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold evenAround owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, ⟨%d18, %f18, -, H18⟩, ⟨%d19, %f19, -, H19⟩, ⟨%d20, %f20, -, H20⟩, Hk⟩
  subst e0 e1 e2 e3 e4 e5 e6 e7 e8 e9 e10 e11
  sl_exec
  sl_step
  iapply Hk
  isplitl [H0 H1 H2 H3 H4 H5 H6 H7 H8 H9 H10 H11 H12 H13 H14 H15 H16 H17]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl
  isplitl [H18]
  · iexists _; isplitr; swap; · iexact H18
    ipureintro
    refine (View.read_writes_eq_canon _ _ _ (avCover _)).trans ?_
    rfl
  isplitl [H19]
  · iexists _; isplitr; swap; · iexact H19
    ipureintro
    refine (View.read_writes_eq_canon _ _ _ (bvCover _)).trans ?_
    rfl
  iexists _; isplitr; swap; · iexact H20
  ipureintro
  refine (View.read_writes_eq_canon _ _ _ (iwCover _)).trans ?_
  rfl

/-- The outputs of which nothing is said. -/
def evenUnsaid : Fin 21 → Bool := fun w => 12 ≤ w.val && w.val < 18

/-- What the launch is told: each array as the region finds it, each input's buffer left at its block, the named outputs at theirs. -/
def evenDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Dat.unnamed (cfg := cfg0) ⟨12, h⟩ t
    | ⟨13, h⟩ => Dat.unnamed (cfg := cfg0) ⟨13, h⟩ t
    | ⟨14, h⟩ => Dat.unnamed (cfg := cfg0) ⟨14, h⟩ t
    | ⟨15, h⟩ => Dat.unnamed (cfg := cfg0) ⟨15, h⟩ t
    | ⟨16, h⟩ => Dat.unnamed (cfg := cfg0) ⟨16, h⟩ t
    | ⟨17, h⟩ => Dat.unnamed (cfg := cfg0) ⟨17, h⟩ t
    | ⟨18, _⟩ => avBlock (iblk m c 0 t) (iblk m c 2 t) (iblk m c 7 t)
    | ⟨19, _⟩ => bvBlock (iblk m c 0 t) (iblk m c 2 t) (iblk m c 7 t)
    | ⟨20, _⟩ => iwBlock (iblk m c 0 t) (iblk m c 2 t) (iblk m c 8 t)
    | ⟨_ + 21, h⟩ => absurd h (Nat.not_lt.2 (Nat.le_add_left _ _))
  Φ _ := Pipeline.ΦA spec0 c
  q _ := fullShare
  owed _ := 0

theorem even_A (c : Dev nD) (w : Fin cfg0.W) : (evenDats m 0 c).A w = V m c (Pipeline.arrRef spec0 w) := by
  dsimp only [evenDats]

theorem even_before0 (c : Dev nD) (t : Fin cfg0.N) (d) : (evenDats m 0 c).before 0 t d = iblk m c 0 t :=
  before0_0_of m (evenDats m 0 c) (even_A m c 0) (fun _ => by dsimp only [evenDats]) t d
theorem even_before1 (c : Dev nD) (t : Fin cfg0.N) (d) : (evenDats m 0 c).before 1 t d = iblk m c 1 t :=
  before0_1_of m (evenDats m 0 c) (even_A m c 1) (fun _ => by dsimp only [evenDats]) t d
theorem even_before2 (c : Dev nD) (t : Fin cfg0.N) (d) : (evenDats m 0 c).before 2 t d = iblk m c 2 t :=
  before0_2_of m (evenDats m 0 c) (even_A m c 2) (fun _ => by dsimp only [evenDats]) t d
theorem even_before3 (c : Dev nD) (t : Fin cfg0.N) (d) : (evenDats m 0 c).before 3 t d = iblk m c 3 t :=
  before0_3_of m (evenDats m 0 c) (even_A m c 3) (fun _ => by dsimp only [evenDats]) t d
theorem even_before4 (c : Dev nD) (t : Fin cfg0.N) (d) : (evenDats m 0 c).before 4 t d = iblk m c 4 t :=
  before0_4_of m (evenDats m 0 c) (even_A m c 4) (fun _ => by dsimp only [evenDats]) t d
theorem even_before5 (c : Dev nD) (t : Fin cfg0.N) (d) : (evenDats m 0 c).before 5 t d = iblk m c 5 t :=
  before0_5_of m (evenDats m 0 c) (even_A m c 5) (fun _ => by dsimp only [evenDats]) t d
theorem even_before6 (c : Dev nD) (t : Fin cfg0.N) (d) : (evenDats m 0 c).before 6 t d = iblk m c 6 t :=
  before0_6_of m (evenDats m 0 c) (even_A m c 6) (fun _ => by dsimp only [evenDats]) t d
theorem even_before7 (c : Dev nD) (t : Fin cfg0.N) (d) : (evenDats m 0 c).before 7 t d = iblk m c 7 t :=
  before0_7_of m (evenDats m 0 c) (even_A m c 7) (fun _ => by dsimp only [evenDats]) t d
theorem even_before8 (c : Dev nD) (t : Fin cfg0.N) (d) : (evenDats m 0 c).before 8 t d = iblk m c 8 t :=
  before0_8_of m (evenDats m 0 c) (even_A m c 8) (fun _ => by dsimp only [evenDats]) t d
theorem even_before9 (c : Dev nD) (t : Fin cfg0.N) (d) : (evenDats m 0 c).before 9 t d = iblk m c 9 t :=
  before0_9_of m (evenDats m 0 c) (even_A m c 9) (fun _ => by dsimp only [evenDats]) t d
theorem even_before10 (c : Dev nD) (t : Fin cfg0.N) (d) : (evenDats m 0 c).before 10 t d = iblk m c 10 t :=
  before0_10_of m (evenDats m 0 c) (even_A m c 10) (fun _ => by dsimp only [evenDats]) t d
theorem even_before11 (c : Dev nD) (t : Fin cfg0.N) (d) : (evenDats m 0 c).before 11 t d = iblk m c 11 t :=
  before0_11_of m (evenDats m 0 c) (even_A m c 11) (fun _ => by dsimp only [evenDats]) t d

/-- What the body is called with at a point, and what it hands back. -/
def evenPre (c : Dev nD) (t : Fin cfg0.N) : sProp 𝕄 :=
  iprop((evenDats m 0 c).Φ t.castSucc ∗ (evenDats m 0 c).owesAt () t.castSucc
    ∗ (∃ d, owns (c : Thread nD τ) (st0_0 t) fullShare ((evenDats m 0 c).before 0 t d))
    ∗ (∃ d, owns (c : Thread nD τ) (st0_1 t) fullShare ((evenDats m 0 c).before 1 t d))
    ∗ (∃ d, owns (c : Thread nD τ) (st0_2 t) fullShare ((evenDats m 0 c).before 2 t d))
    ∗ (∃ d, owns (c : Thread nD τ) (st0_3 t) fullShare ((evenDats m 0 c).before 3 t d))
    ∗ (∃ d, owns (c : Thread nD τ) (st0_4 t) fullShare ((evenDats m 0 c).before 4 t d))
    ∗ (∃ d, owns (c : Thread nD τ) (st0_5 t) fullShare ((evenDats m 0 c).before 5 t d))
    ∗ (∃ d, owns (c : Thread nD τ) (st0_6 t) fullShare ((evenDats m 0 c).before 6 t d))
    ∗ (∃ d, owns (c : Thread nD τ) (st0_7 t) fullShare ((evenDats m 0 c).before 7 t d))
    ∗ (∃ d, owns (c : Thread nD τ) (st0_8 t) fullShare ((evenDats m 0 c).before 8 t d))
    ∗ (∃ d, owns (c : Thread nD τ) (st0_9 t) fullShare ((evenDats m 0 c).before 9 t d))
    ∗ (∃ d, owns (c : Thread nD τ) (st0_10 t) fullShare ((evenDats m 0 c).before 10 t d))
    ∗ (∃ d, owns (c : Thread nD τ) (st0_11 t) fullShare ((evenDats m 0 c).before 11 t d))
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ d, owns (c : Thread nD τ) (st0_18 t) fullShare ((evenDats m 0 c).before 18 t d))
    ∗ (∃ d, owns (c : Thread nD τ) (st0_19 t) fullShare ((evenDats m 0 c).before 19 t d))
    ∗ (∃ d, owns (c : Thread nD τ) (st0_20 t) fullShare ((evenDats m 0 c).before 20 t d)))

def evenPost (c : Dev nD) (t : Fin cfg0.N) : sProp 𝕄 :=
  iprop((evenDats m 0 c).Φ t.succ ∗ (evenDats m 0 c).owesAt () t.succ
    ∗ owns (c : Thread nD τ) (st0_0 t) fullShare ((evenDats m 0 c).after 0 t)
    ∗ owns (c : Thread nD τ) (st0_1 t) fullShare ((evenDats m 0 c).after 1 t)
    ∗ owns (c : Thread nD τ) (st0_2 t) fullShare ((evenDats m 0 c).after 2 t)
    ∗ owns (c : Thread nD τ) (st0_3 t) fullShare ((evenDats m 0 c).after 3 t)
    ∗ owns (c : Thread nD τ) (st0_4 t) fullShare ((evenDats m 0 c).after 4 t)
    ∗ owns (c : Thread nD τ) (st0_5 t) fullShare ((evenDats m 0 c).after 5 t)
    ∗ owns (c : Thread nD τ) (st0_6 t) fullShare ((evenDats m 0 c).after 6 t)
    ∗ owns (c : Thread nD τ) (st0_7 t) fullShare ((evenDats m 0 c).after 7 t)
    ∗ owns (c : Thread nD τ) (st0_8 t) fullShare ((evenDats m 0 c).after 8 t)
    ∗ owns (c : Thread nD τ) (st0_9 t) fullShare ((evenDats m 0 c).after 9 t)
    ∗ owns (c : Thread nD τ) (st0_10 t) fullShare ((evenDats m 0 c).after 10 t)
    ∗ owns (c : Thread nD τ) (st0_11 t) fullShare ((evenDats m 0 c).after 11 t)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ owns (c : Thread nD τ) (st0_18 t) fullShare ((evenDats m 0 c).after 18 t)
    ∗ owns (c : Thread nD τ) (st0_19 t) fullShare ((evenDats m 0 c).after 19 t)
    ∗ owns (c : Thread nD τ) (st0_20 t) fullShare ((evenDats m 0 c).after 20 t))

set_option maxHeartbeats 4000000 in
theorem even_body (c : Dev nD) (t : Fin cfg0.N) :
    evenPre m c t ⊢ wp frame (wpE (defs₀ (F := F)) Variants.none c none) Set.univ (bodyAt0 t) (fun _ => evenPost m c t) := by
  unfold evenPre evenPost bodyAt0
  simp only [even_before0, even_before1, even_before2, even_before3, even_before4, even_before5, even_before6, even_before7, even_before8, even_before9, even_before10, even_before11]
  rw [show (evenDats m 0 c).Φ t.succ = (evenDats m 0 c).Φ t.castSucc from rfl, show (evenDats m 0 c).owesAt () t.succ = (evenDats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16, H17, ⟨%d18, H18⟩, ⟨%d19, H19⟩, ⟨%d20, H20⟩⟩
  iapply (even_runs c (grid0.coords t) _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  unfold evenAround
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [H19]; · iexists _; iexact H19
  isplitl [H20]; · iexists _; iexact H20
  iintro ⟨⟨H0, H1, H2, H3, H4, H5, H6, H7, H8, H9, H10, H11, H12, H13, H14, H15, H16, H17⟩, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem even_row (t : Fin cfg0.N) : (defs₀ (F := F)) .tc cfg0.body (cfg0.bodyArgs t (cfg0.slots t)) = bodyAt0 t := by
  unfold defs₀; rw [Defs.onTc_tc]

set_option maxHeartbeats 1000000 in
theorem even_obligation (c : Dev nD) :
    BodyObligation (evenDats (F := F) m 0 c) (defs₀ (F := F)) Variants.none () Set.univ evenUnsaid := fun t => by
  rw [bigSep_W0, bigSep_W0, even_row]
  exact triple_restated (even_body m c t) rfl .rfl fun _ => .rfl

set_option maxHeartbeats 1000000 in
/-- The program runs, every array of which something is said ends at it, and every semaphore counter at zero. -/
theorem even_run : θ_run (defs (F := F)) (onTc (τ := τ) (main (F := F))) (s₀ m ρ)
    (fun r => Pipeline.RDat.FramePost (cfgs 0) (fun c => (evenDats m 0 c).toRForget evenUnsaid) (V m) r ∧ r.2.sem = fun _ => 0) :=
  Pipeline.θ_run_frame_forget (Q' := _) cfgs (evenDats m) (0 : Fin 1) launch0 defs₀ Variants.none evenUnsaid m ρ main
    (hbody := fun c => (even_obligation m c).loose) (hshare := fun c => (evenDats m 0 c).share_full fun _ => rfl)
    (howed := fun _ _ => rfl) (V := V m) (hmain := hmain m Variants.none) (hA := even_A m) (hΦ := fun _ _ => rfl)

set_option maxHeartbeats 4000000 in
theorem even_kept (r : PUnit × MemSt nD τ sig (Elt F))
    (h : Pipeline.RDat.FramePost (cfgs 0) (fun c => (evenDats m 0 c).toRForget evenUnsaid) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans ((even_A m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The program runs, its arguments end as they were, and every semaphore counter at zero. -/
theorem even_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨even_kept m r h.1, h.2⟩) (even_run m ρ)

end Cert.Proof.Even

end
-- ==== Proof.EvenParts.lean ====
/- The even layer's projections, part by part: what the kernel's host code prepares for a block, what the block's three plain
   results are at a row, and the reference's three results at a row. -/
module

public import proofs.«01_k».proof.Defs
public import proofs.«01_k».proof.Proof.HalfStep
public import proofs.«01_k».proof.Proof.Gen.EvenKernelIdeal.Frame
public import proofs.«01_k».proof.Proof.Gen.EvenKernelIdeal.Skeleton
public import proofs.«01_k».proof.Proof.Gen.EvenReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof.Even

/-- A signed zero, read as a real, is zero. -/
theorem zero_read : (FloatOps.sitofp (F := Ideal) FTy.f32 0#32 : EReal) = 0 := by
  show (((0#32 : BitVec 32).toInt : ℝ) : EReal) = 0
  simp

/-- Column `j` of the whole projection at row `r`: the row normed, through that column. -/
def proj (h : Vec Ideal ⟨2, ![65536, 1024]⟩ .f32) (g : Vec Ideal ⟨1, ![1024]⟩ .f32) (w : Vec Ideal ⟨2, ![1024, 2564]⟩ .f32)
    (r : Fin 65536) (j : Fin 2564) : EReal :=
  ∑ l, rmsRow (fun l => h (ix2 r l)) (fun l => g (ix1 l)) l * (w (ix2 l j) : EReal)

section Kernel

open Cert.EvenKernelIdeal Cert.EvenKernelIdeal.Gen

section Payloads

variable (x : Vec Ideal S512x1024 .f32) (g : Vec Ideal S1x1024 .f32) (r : Fin 512)

theorem pay4_apply (k : Fin 1024) :
    k0_pay4 (F := Ideal) x g (ix2 r k) = rmsRow (fun l => x (ix2 r l)) (fun l => g (ix2 0 l)) k := by
  pointwise [k0_pay4, rmsRow]

theorem pay1_apply (v : FVec Ideal S512x1024 .bf16) (w : Vec Ideal S1024x128 .bf16) (k : Fin 128) :
    k0_pay1 (F := Ideal) v w (ix2 r k) = ∑ l, (v (ix2 r l) : EReal) * (w (ix2 l k) : EReal) := by
  pointwise [k0_pay1]

theorem pay2_apply (v : FVec Ideal S512x1024 .bf16) (w : Vec Ideal S1024x512 .bf16) (k : Fin 512) :
    k0_pay2 (F := Ideal) v w (ix2 r k) = ∑ l, (v (ix2 r l) : EReal) * (w (ix2 l k) : EReal) := by
  pointwise [k0_pay2]

theorem pay3_apply (v : FVec Ideal S512x1024 .bf16) (w : Vec Ideal S8x1024 .bf16) (k : Fin 8) :
    k0_pay3 (F := Ideal) v w (ix2 k r) = ∑ l, (w (ix2 k l) : EReal) * (v (ix2 r l) : EReal) := by
  pointwise [k0_pay3]

end Payloads

/-- The block index of each window at each point: the row block for the input and the results (the last of which has the
    rows along its second axis), the whole array for the rest. -/
theorem idx : ∀ t : Fin cfg0.N, win0_0.index t = ![t.val, 0] ∧ win0_2.index t = ![0, 0] ∧ win0_7.index t = ![0, 0]
    ∧ win0_8.index t = ![0, 0] ∧ win0_18.index t = ![t.val, 0] ∧ win0_19.index t = ![t.val, 0] ∧ win0_20.index t = ![0, t.val] :=
  (by decide +kernel : ∀ t : Fin grid0.N, _)

/-- Row `r` of block `t` among all the rows. -/
abbrev row (t : Fin cfg0.N) (r : Fin 512) : Fin 65536 :=
  ⟨512 * t.val + r.val, by have := (show t.val < 128 from t.isLt); omega⟩

variable (m : (ℓ : Loc nD τ sig) → Buf (Elt Ideal) ℓ) (c : Dev nD) (t : Fin cfg0.N)

set_option maxHeartbeats 4000000 in
/-- The gain, as a row. -/
theorem host0_apply (l : Fin 1024) : V m c main_v0 (ix2 0 l) = m ((c : Thread nD τ).loc main_arg2) (ix1 l) := by
  simp only [V, hostOps0, hostOps0_1, hostOps0_2, hostOps0_3, hostOps0_4, List.flatten_cons, List.flatten_nil,
    List.append_nil, List.cons_append, List.nil_append]
  entry_read
  pointwise

set_option maxHeartbeats 4000000 in
/-- The columns of the first attention's values, packed first. -/
theorem host17_first (r : Fin 1024) (l : Fin 128) :
    V m c main_v17 (ix2 r (⟨l.val, by omega⟩ : Fin 640))
      = m ((c : Thread nD τ).loc main_arg3) (ix2 r (⟨576 + l.val, by omega⟩ : Fin 2564)) := by
  simp only [V, hostOps0, hostOps0_1, hostOps0_2, hostOps0_3, hostOps0_4, List.flatten_cons, List.flatten_nil,
    List.append_nil, List.cons_append, List.nil_append]
  entry_read
  pointwise

set_option maxHeartbeats 4000000 in
/-- The columns of the second attention's values, packed after them. -/
theorem host17_second (r : Fin 1024) (l : Fin 512) :
    V m c main_v17 (ix2 r (⟨128 + l.val, by omega⟩ : Fin 640))
      = m ((c : Thread nD τ).loc main_arg3) (ix2 r (⟨2052 + l.val, by omega⟩ : Fin 2564)) := by
  simp only [V, hostOps0, hostOps0_1, hostOps0_2, hostOps0_3, hostOps0_4, List.flatten_cons, List.flatten_nil,
    List.append_nil, List.cons_append, List.nil_append]
  entry_read
  pointwise

set_option maxHeartbeats 4000000 in
/-- The index weights' columns as rows, with four rows of zeros after them. -/
theorem host20_apply (k : Fin 8) (l : Fin 1024) :
    V m c main_v20 (ix2 k l)
      = if k.val < 4 then (show EReal from m ((c : Thread nD τ).loc main_arg3) (ix2 l (⟨1024 + k.val, by omega⟩ : Fin 2564)))
        else (0 : EReal) := by
  simp only [V, hostOps0, hostOps0_1, hostOps0_2, hostOps0_3, hostOps0_4, List.flatten_cons, List.flatten_nil,
    List.append_nil, List.cons_append, List.nil_append]
  entry_read
  simp only [StableHlo.TRef.toBuf, StableHlo.TRef.ofBuf, cast_eq]
  pointwise
  rw [zero_read]
  by_cases h : k.val < 4
  · rw [dif_pos h, if_pos h]
  · rw [dif_neg h, if_neg h]

set_option maxHeartbeats 4000000 in
theorem read0 (r : Fin 512) (l : Fin 1024) : iblk m c 0 t (ix2 r l) = m ((c : Thread nD τ).loc main_arg0) (ix2 (row t r) l) := by
  blk_point [iblk, V, idx t]

theorem read2 (l : Fin 1024) : iblk m c 2 t (ix2 0 l) = m ((c : Thread nD τ).loc main_arg2) (ix1 l) := by
  have e : iblk m c 2 t (ix2 0 l) = V m c main_v0 (ix2 0 l) := by
    blk_point [iblk, idx t]
  exact e.trans (host0_apply m c l)

theorem read7_first (r : Fin 1024) (l : Fin 128) :
    iblk m c 7 t (ix2 r (⟨l.val, by omega⟩ : Fin 640))
      = m ((c : Thread nD τ).loc main_arg3) (ix2 r (⟨576 + l.val, by omega⟩ : Fin 2564)) := by
  have e (k : Fin 640) : iblk m c 7 t (ix2 r k) = V m c main_v17 (ix2 r k) := by
    blk_point [iblk, idx t]
  exact (e _).trans (host17_first m c r l)

theorem read7_second (r : Fin 1024) (l : Fin 512) :
    iblk m c 7 t (ix2 r (⟨128 + l.val, by omega⟩ : Fin 640))
      = m ((c : Thread nD τ).loc main_arg3) (ix2 r (⟨2052 + l.val, by omega⟩ : Fin 2564)) := by
  have e (k : Fin 640) : iblk m c 7 t (ix2 r k) = V m c main_v17 (ix2 r k) := by
    blk_point [iblk, idx t]
  exact (e _).trans (host17_second m c r l)

theorem read8 (k : Fin 8) (l : Fin 1024) :
    iblk m c 8 t (ix2 k l)
      = if k.val < 4 then (show EReal from m ((c : Thread nD τ).loc main_arg3) (ix2 l (⟨1024 + k.val, by omega⟩ : Fin 2564)))
        else (0 : EReal) := by
  have e : iblk m c 8 t (ix2 k l) = V m c main_v20 (ix2 k l) := by
    blk_point [iblk, idx t]
  exact e.trans (host20_apply m c k l)

end Kernel

section Reference

open Cert.EvenReferenceIdeal Cert.EvenReferenceIdeal.Gen

variable (h : FVec Ideal S65536x1024 .f32) (g : FVec Ideal S1024 .f32) (w : FVec Ideal S1024x2564 .f32)

/-- The reference's projection over all rows. -/
def hostProj : FVec Ideal S65536x2564 .f32 :=
  Host.dotGeneral dot_S65536x1024_S1024x2564_S65536x2564_1_0_0_1_n_n none
    (mulf (mulf h (broadcastInDim S65536x1024 ![0, 1] bcast_S65536x1_S65536x1024_0_1
        (Host.rsqrt (addf (Host.divf (broadcastInDim S65536x1 ![0] bcast_S65536_S65536x1_0
            (Host.reduceAdd (mulf h h) (constant S_ .f32 0x00000000#32) reducesTo_S65536x1024_S65536_d1 h_S_))
          (broadcastInDim S65536x1 ![] bcast_S_S65536x1 (constant S_ .f32 0x44800000#32)))
          (broadcastInDim S65536x1 ![] bcast_S_S65536x1 (constant S_ .f32 0x358637BD#32))))))
      (broadcastInDim S65536x1024 ![0, 1] bcast_S1x1024_S65536x1024_0_1 (broadcastInDim S1x1024 ![1] bcast_S1024_S1x1024_1 g))) w

theorem hostProj_apply (r : Fin 65536) (j : Fin 2564) : hostProj h g w (ix2 r j) = proj h g w r j := by
  pointwise [hostProj, proj, rmsRow]

theorem ref_first (r : Fin 65536) (k : Fin 128) :
    (truncf .bf16 (extractStridedSlice S65536x128 ![0, 576] (hostProj h g w) slices_S65536x2564_S65536x128_0_576) bitsLt_bf16_f32)
      (ix2 r k) = proj h g w r ⟨576 + k.val, by omega⟩ := by
  pointwise [hostProj_apply]

theorem ref_second (r : Fin 65536) (k : Fin 512) :
    (truncf .bf16 (extractStridedSlice S65536x512 ![0, 2052] (hostProj h g w) slices_S65536x2564_S65536x512_0_2052) bitsLt_bf16_f32)
      (ix2 r k) = proj h g w r ⟨2052 + k.val, by omega⟩ := by
  pointwise [hostProj_apply]

theorem ref_third (k : Fin 8) (r : Fin 65536) :
    (pad S8x65536 ![0, 0] ![4, 0] ![0, 0] (transpose S4x65536 [1, 0] (extractStridedSlice S65536x4 ![0, 1024] (hostProj h g w)
        slices_S65536x2564_S65536x4_0_1024) transposes_S65536x4_S4x65536_1_0) (sitofp .f32 (constantI S_ 32 0#32))
        pads_S4x65536_S8x65536_040_000 h_S_) (ix2 k r)
      = if k.val < 4 then proj h g w r ⟨1024 + k.val, by omega⟩ else 0 := by
  pointwise [hostProj_apply]
  rw [zero_read]
  by_cases h : k.val < 4
  · rw [dif_pos h, if_pos h]
  · rw [dif_neg h, if_neg h]

end Reference

end Cert.Proof.Even

end
-- ==== Proof.EvenValue.lean ====
/- The even layer's projections compute the reference's three plain results: each row of a block is that of its own row, and
   the blocks tile the arrays. The index weights come transposed, with four rows of zeros after the four heads' rows. -/
module

public import proofs.«01_k».proof.Proof.EvenParts
public import proofs.«01_k».proof.Proof.EvenIdealFrame

@[expose] public section

set_option maxRecDepth 16384

noncomputable section

open Idealize.ShloMosaic Idealize.ShloMosaic.TcCoe Idealize.SL.Sem
open Idealize.ShloMosaic.Pipeline (Dat)

namespace Cert.Proof.Even

/-- The three results over all rows. -/
def latents (h : Vec Ideal ⟨2, ![65536, 1024]⟩ .f32) (g : Vec Ideal ⟨1, ![1024]⟩ .f32) (w : Vec Ideal ⟨2, ![1024, 2564]⟩ .f32) :
    Vec Ideal ⟨2, ![65536, 128]⟩ .bf16 := fun j => proj h g w (j 0) ⟨576 + (j 1).val, by have : (j 1).val < 128 := (j 1).isLt; omega⟩
def values (h : Vec Ideal ⟨2, ![65536, 1024]⟩ .f32) (g : Vec Ideal ⟨1, ![1024]⟩ .f32) (w : Vec Ideal ⟨2, ![1024, 2564]⟩ .f32) :
    Vec Ideal ⟨2, ![65536, 512]⟩ .bf16 := fun j => proj h g w (j 0) ⟨2052 + (j 1).val, by have : (j 1).val < 512 := (j 1).isLt; omega⟩
def weights (h : Vec Ideal ⟨2, ![65536, 1024]⟩ .f32) (g : Vec Ideal ⟨1, ![1024]⟩ .f32) (w : Vec Ideal ⟨2, ![1024, 2564]⟩ .f32) :
    Vec Ideal ⟨2, ![8, 65536]⟩ .f32 :=
  fun j => if (j 0).val < 4 then proj h g w (j 1) ⟨1024 + (j 0).val, by have : (j 0).val < 8 := (j 0).isLt; omega⟩ else (0 : EReal)

section Kernel

open Cert.EvenKernelIdeal Cert.EvenKernelIdeal.Gen

section Blocks

variable (x : Vec Ideal S512x1024 .f32) (g : Vec Ideal S1x1024 .f32) (r : Fin 512)

/-- A block's three results, at a row. -/
theorem avBlock_apply (w : Vec Ideal S1024x640 .bf16) (k : Fin 128) :
    avBlock x g w (ix2 r k) = ∑ l, rmsRow (fun l => x (ix2 r l)) (fun l => g (ix2 0 l)) l * (w (ix2 l (⟨k.val, by omega⟩ : Fin 640)) : EReal) := by
  unfold avBlock
  rw [View.canon_unit_zero (by funext a; fin_cases a <;> rfl)]
  pointwise [pay1_apply, pay4_apply]

theorem bvBlock_apply (w : Vec Ideal S1024x640 .bf16) (k : Fin 512) :
    bvBlock x g w (ix2 r k) = ∑ l, rmsRow (fun l => x (ix2 r l)) (fun l => g (ix2 0 l)) l * (w (ix2 l (⟨128 + k.val, by omega⟩ : Fin 640)) : EReal) := by
  unfold bvBlock
  rw [View.canon_unit_zero (by funext a; fin_cases a <;> rfl)]
  pointwise [pay2_apply, pay4_apply]

theorem iwBlock_apply (w : Vec Ideal S8x1024 .bf16) (k : Fin 8) :
    iwBlock x g w (ix2 k r) = ∑ l, (w (ix2 k l) : EReal) * rmsRow (fun l => x (ix2 r l)) (fun l => g (ix2 0 l)) l := by
  unfold iwBlock
  rw [View.canon_unit_zero (by funext a; fin_cases a <;> rfl)]
  pointwise [pay3_apply, pay4_apply]

end Blocks

variable (m : (ℓ : Loc nD τ sig) → Buf (Elt Ideal) ℓ) (ρ : Dev nD → PrngReg) (c : Dev nD) (t : Fin cfg0.N)

/-- The same, from the arguments. -/
theorem av_point (r : Fin 512) (k : Fin 128) :
    avBlock (iblk m c 0 t) (iblk m c 2 t) (iblk m c 7 t) (ix2 r k)
      = latents (m ((c : Thread nD τ).loc main_arg0)) (m ((c : Thread nD τ).loc main_arg2)) (m ((c : Thread nD τ).loc main_arg3))
          (ix2 (row t r) k) := by
  rw [avBlock_apply]
  simp only [read0, read2, read7_first]
  rfl

theorem bv_point (r : Fin 512) (k : Fin 512) :
    bvBlock (iblk m c 0 t) (iblk m c 2 t) (iblk m c 7 t) (ix2 r k)
      = values (m ((c : Thread nD τ).loc main_arg0)) (m ((c : Thread nD τ).loc main_arg2)) (m ((c : Thread nD τ).loc main_arg3))
          (ix2 (row t r) k) := by
  rw [bvBlock_apply]
  simp only [read0, read2, read7_second]
  rfl

theorem iw_point (r : Fin 512) (k : Fin 8) :
    iwBlock (iblk m c 0 t) (iblk m c 2 t) (iblk m c 8 t) (ix2 k r)
      = weights (m ((c : Thread nD τ).loc main_arg0)) (m ((c : Thread nD τ).loc main_arg2)) (m ((c : Thread nD τ).loc main_arg3))
          (ix2 k (row t r)) := by
  rw [iwBlock_apply]
  simp only [read0, read2, read8]
  show _ = if k.val < 4 then proj _ _ _ (row t r) ⟨1024 + k.val, _⟩ else (0 : EReal)
  by_cases h : k.val < 4
  · simp only [if_pos h, proj]
    exact Finset.sum_congr rfl fun l _ => mul_comm _ _
  · simp only [if_neg h, zero_mul, Finset.sum_const_zero]

/-- The three result arrays are those of the arguments. -/
theorem av_final : (evenDats m 0 c).arrAt 18 cfg0.N
    = latents (m ((c : Thread nD τ).loc main_arg0)) (m ((c : Thread nD τ).loc main_arg2)) (m ((c : Thread nD τ).loc main_arg3)) := by
  refine (evenDats m 0 c).arrAt_eq_of_covers 18 _ (by decide +kernel) fun t hf y => ?_
  blk_simp
  rw [show (evenDats m 0 c).after 18 t = avBlock (iblk m c 0 t) (iblk m c 2 t) (iblk m c 7 t) by dsimp only [evenDats]]
  idx_vars y
  refine (av_point m c t _ _).trans ?_
  blk_ext [idx t]

theorem bv_final : (evenDats m 0 c).arrAt 19 cfg0.N
    = values (m ((c : Thread nD τ).loc main_arg0)) (m ((c : Thread nD τ).loc main_arg2)) (m ((c : Thread nD τ).loc main_arg3)) := by
  refine (evenDats m 0 c).arrAt_eq_of_covers 19 _ (by decide +kernel) fun t hf y => ?_
  blk_simp
  rw [show (evenDats m 0 c).after 19 t = bvBlock (iblk m c 0 t) (iblk m c 2 t) (iblk m c 7 t) by dsimp only [evenDats]]
  idx_vars y
  refine (bv_point m c t _ _).trans ?_
  blk_ext [idx t]

theorem iw_final : (evenDats m 0 c).arrAt 20 cfg0.N
    = weights (m ((c : Thread nD τ).loc main_arg0)) (m ((c : Thread nD τ).loc main_arg2)) (m ((c : Thread nD τ).loc main_arg3)) := by
  refine (evenDats m 0 c).arrAt_eq_of_covers 20 _ (by decide +kernel) fun t hf y => ?_
  blk_simp
  rw [show (evenDats m 0 c).after 20 t = iwBlock (iblk m c 0 t) (iblk m c 2 t) (iblk m c 8 t) by dsimp only [evenDats]]
  idx_vars y
  refine (iw_point m c t _ _).trans ?_
  blk_ext [idx t]

set_option maxHeartbeats 4000000 in
/-- The program runs, its three plain results end at those of the arguments, and the arguments as they were. -/
theorem even_results : θ_run defs (onTc (τ := τ) (main (F := Ideal))) ⟨m, fun _ => 0, ρ⟩ (fun r => ∀ c : Dev nD,
      r.2.mem ((c.tc : Thread nD τ).loc main_v77_6)
          = latents (m ((c : Thread nD τ).loc main_arg0)) (m ((c : Thread nD τ).loc main_arg2)) (m ((c : Thread nD τ).loc main_arg3))
      ∧ r.2.mem ((c.tc : Thread nD τ).loc main_v77_7)
          = values (m ((c : Thread nD τ).loc main_arg0)) (m ((c : Thread nD τ).loc main_arg2)) (m ((c : Thread nD τ).loc main_arg3))
      ∧ r.2.mem ((c.tc : Thread nD τ).loc main_v77_8)
          = weights (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(((evenDats m 0 c).toRForget_arrAt_iff (fgt := evenUnsaid) (w := 18) rfl _ _).1 ((h.1 c).1 18)).trans (av_final m c),
      (((evenDats m 0 c).toRForget_arrAt_iff (fgt := evenUnsaid) (w := 19) rfl _ _).1 ((h.1 c).1 19)).trans (bv_final m c),
      (((evenDats m 0 c).toRForget_arrAt_iff (fgt := evenUnsaid) (w := 20) rfl _ _).1 ((h.1 c).1 20)).trans (iw_final m c),
      even_kept m r h.1 c⟩) (even_run m ρ)

end Kernel

section Reference

open Cert.EvenReferenceIdeal Cert.EvenReferenceIdeal.Gen

variable (h : FVec Ideal S65536x1024 .f32) (g : FVec Ideal S1024 .f32) (w : FVec Ideal S1024x2564 .f32)

/-- The reference's three results are those of the arguments. -/
theorem ref_latents :
    truncf .bf16 (extractStridedSlice S65536x128 ![0, 576] (hostProj h g w) slices_S65536x2564_S65536x128_0_576) bitsLt_bf16_f32
      = latents h g w := by
  funext j
  idx_vars j
  exact ref_first h g w _ _

theorem ref_values :
    truncf .bf16 (extractStridedSlice S65536x512 ![0, 2052] (hostProj h g w) slices_S65536x2564_S65536x512_0_2052) bitsLt_bf16_f32
      = values h g w := by
  funext j
  idx_vars j
  exact ref_second h g w _ _

theorem ref_weights :
    pad S8x65536 ![0, 0] ![4, 0] ![0, 0] (transpose S4x65536 [1, 0] (extractStridedSlice S65536x4 ![0, 1024] (hostProj h g w)
        slices_S65536x2564_S65536x4_0_1024) transposes_S65536x4_S4x65536_1_0) (sitofp .f32 (constantI S_ 32 0#32))
        pads_S4x65536_S8x65536_040_000 h_S_
      = weights h g w := by
  funext j
  idx_vars j
  exact ref_third h g w _ _

end Reference

/-- At the reals the kernel's three plain results and the reference's agree. -/
theorem algebraic : Cert.algebraic_EvenKernelIdeal_EvenReferenceIdeal := by
  pair_intro
  · run_from even_results m g
  · run_from Cert.EvenReferenceIdeal.Value.run m' g'
    · exact ref_latents _ _ _
    · exact ref_values _ _ _
    · exact ref_weights _ _ _

end Cert.Proof.Even

end
-- ==== Proof.lean ====
/- The claims, put together: the indexed sparse attention's frame, and for each of the three feed-forward calls, for the odd
   layer's mixer and for the even layer's projections its frames and its value against the reference's. -/
module

public import proofs.«01_k».proof.Defs
public import proofs.«01_k».proof.Proof.Gen.Kernel
public import proofs.«01_k».proof.Proof.DsaFrame
public import proofs.«01_k».proof.Proof.FfnValue
public import proofs.«01_k».proof.Proof.MixValue
public import proofs.«01_k».proof.Proof.PleValue
public import proofs.«01_k».proof.Proof.OddValue
public import proofs.«01_k».proof.Proof.EvenFrame
public import proofs.«01_k».proof.Proof.EvenIdealFrame
public import proofs.«01_k».proof.Proof.EvenValue
public import proofs.«01_k».proof.Proof.Gen.FfnKernel.Frame
public import proofs.«01_k».proof.Proof.Gen.FfnKernelIdeal.Frame
public import proofs.«01_k».proof.Proof.Gen.FfnKernelIdeal.Value
public import proofs.«01_k».proof.Proof.Gen.FfnReferenceIdeal.Run
public import proofs.«01_k».proof.Proof.Gen.MixKernel.Frame
public import proofs.«01_k».proof.Proof.Gen.MixKernelIdeal.Frame
public import proofs.«01_k».proof.Proof.Gen.MixKernelIdeal.Value
public import proofs.«01_k».proof.Proof.Gen.MixReferenceIdeal.Run
public import proofs.«01_k».proof.Proof.Gen.PleKernel.Frame
public import proofs.«01_k».proof.Proof.Gen.PleKernelIdeal.Frame
public import proofs.«01_k».proof.Proof.Gen.PleKernelIdeal.Value
public import proofs.«01_k».proof.Proof.Gen.PleReferenceIdeal.Run
public import proofs.«01_k».proof.Proof.Gen.OddKernel.Frame
public import proofs.«01_k».proof.Proof.Gen.OddKernelIdeal.Frame
public import proofs.«01_k».proof.Proof.Gen.OddKernelIdeal.Value
public import proofs.«01_k».proof.Proof.Gen.OddReferenceIdeal.Run
public import proofs.«01_k».proof.Proof.Gen.EvenKernel.Frame
public import proofs.«01_k».proof.Proof.Gen.EvenKernel.Skeleton
public import proofs.«01_k».proof.Proof.Gen.EvenKernelIdeal.Frame
public import proofs.«01_k».proof.Proof.Gen.EvenKernelIdeal.Skeleton
public import proofs.«01_k».proof.Proof.Gen.EvenReferenceIdeal.Run

@[expose] public section

open Idealize.ShloMosaic Idealize.SL.Sem

theorem Cert.Proof.claim : Cert.Claim :=
  ⟨inferInstance, inferInstance, inferInstance, inferInstance, inferInstance, inferInstance, inferInstance, inferInstance,
    inferInstance, inferInstance, inferInstance, inferInstance, inferInstance, inferInstance, inferInstance, inferInstance,
    fun m ρ _ => dsa_frame m ρ,
    fun m ρ _ => Cert.FfnKernel.Gen.frame m ρ,
    fun m ρ _ => Cert.FfnKernelIdeal.Gen.frame m ρ,
    fun m ρ _ => (θ_run _ _ _).mono (fun _ h => ⟨fun c => (h c).2, funext nofun⟩) (Cert.FfnReferenceIdeal.Value.run m ρ),
    fun m ρ _ => Cert.MixKernel.Gen.frame m ρ,
    fun m ρ _ => Cert.MixKernelIdeal.Gen.frame m ρ,
    fun m ρ _ => (θ_run _ _ _).mono (fun _ h => ⟨fun c => (h c).2, funext nofun⟩) (Cert.MixReferenceIdeal.Value.run m ρ),
    fun m ρ _ => Cert.PleKernel.Gen.frame m ρ,
    fun m ρ _ => Cert.PleKernelIdeal.Gen.frame m ρ,
    fun m ρ _ => (θ_run _ _ _).mono (fun _ h => ⟨fun c => (h c).2, funext nofun⟩) (Cert.PleReferenceIdeal.Value.run m ρ),
    fun m ρ _ => Cert.OddKernel.Gen.frame m ρ,
    fun m ρ _ => Cert.OddKernelIdeal.Gen.frame m ρ,
    fun m ρ _ => (θ_run _ _ _).mono (fun _ h => ⟨fun c => (h c).2, funext nofun⟩) (Cert.OddReferenceIdeal.Value.run m ρ),
    fun m ρ _ => Even.plain_frame m ρ,
    fun m ρ _ => Even.even_frame m ρ,
    fun m ρ _ => (θ_run _ _ _).mono (fun _ h => ⟨fun c => (h c).2.2.2, funext nofun⟩) (Cert.EvenReferenceIdeal.Value.run m ρ),
    trivial, Ffn.algebraic, trivial, Mix.algebraic, trivial, Ple.algebraic, trivial, Odd.algebraic, trivial, Even.algebraic⟩
